-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3))) = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v42)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v42) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v32) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v3)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v3) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v15) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hShift : Cert.Shift.Facts) (hShiftIdeal : Cert.ShiftIdeal.Facts) (hShiftRefIdeal : Cert.ShiftRefIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_Shift (hShift := hShift)
    ∧ quiescent_ShiftIdeal (hShiftIdeal := hShiftIdeal)
    ∧ quiescent_ShiftRefIdeal (hShiftRefIdeal := hShiftRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_Shift_ShiftIdeal
    ∧ algebraic_ShiftIdeal_ShiftRefIdeal (hShiftIdeal := hShiftIdeal) (hShiftRefIdeal := hShiftRefIdeal)
-- ==== Pre_finite.lean ====
abbrev S16384x2048 : Shape := ⟨2, ![16384, 2048]⟩
abbrev S4x4096x8x128 : Shape := ⟨4, ![4, 4096, 8, 128]⟩
abbrev S4x8x4096 : Shape := ⟨3, ![4, 8, 4096]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x8x4096 : S_.BroadcastsInDim S4x8x4096 (![] : Fin 0 → Fin S4x8x4096.rank)
  reducesTo_S4x8x4096_S_d0_1_2 : S4x8x4096.ReducesTo [0, 1, 2] S_

variable [Facts]

def fn {F : FTy → Type} [FloatOps F] (main_arg0 : FVec F S16384x2048 .f32) (main_arg1 : FVec F S4x4096x8x128 .f32) (main_arg2 : FVec F S4x4096x8x128 .f32) (main_arg3 : FVec F S4x4096x8x128 .f32) (main_arg4 : FVec F S4x8x4096 .f32) : IVec S_ 1 :=
  let main_v0 : FVec F S4x4096x8x128 .f32 := Host.absf main_arg1
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x8x128 .f32 := Host.absf main_arg2
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x8x4096 .f32 := Host.absf main_arg4
  let main_cst_2 : FVec F S_ .f32 := constant S_ .f32 0x7F800000#32
  let main_v10 : FVec F S4x8x4096 .f32 := broadcastInDim S4x8x4096 ![] bcast_S_S4x8x4096 main_cst_2
  let main_v11 : IVec S4x8x4096 1 := cmpf .olt main_v9 main_v10
  let main_c_3 : IVec S_ 1 := constantI S_ 1 1#1
  let main_v12 : IVec S_ 1 := (fun x v => Host.reduce IntOp.andi x v reducesTo_S4x8x4096_S_d0_1_2 h_S_) main_v11 main_c_3
  let main_v13 : IVec S_ 1 := andi main_v8 main_v12
  main_v13
-- ==== Pre_routed.lean ====
abbrev S16 : Shape := ⟨1, ![16]⟩
abbrev S36864x2048 : Shape := ⟨2, ![36864, 2048]⟩
abbrev S2x16x2048x2048 : Shape := ⟨4, ![2, 16, 2048, 2048]⟩
abbrev S2x16x1024x2048 : Shape := ⟨4, ![2, 16, 1024, 2048]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S36864x2048 .f32) (main_arg2 : FVec F S2x16x2048x2048 .f32) (main_arg3 : FVec F S2x16x1024x2048 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 16384#32
  let main_v3 : IVec S16 32 := broadcastInDim S16 ![] bcast_S_S16 main_c_1
  let main_v4 : IVec S16 1 := cmpi .sle main_arg0 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg0 main_c_3
  let main_c_4 : IVec S_ 32 := constantI S_ 32 32768#32
  let main_v8 : IVec S_ 1 := cmpi .sle main_v7 main_c_4
  let main_v9 : IVec S_ 1 := andi main_v6 main_v8
  main_v9
-- ==== Kernel.lean ====
abbrev S16384x2048 : Shape := ⟨2, ![16384, 2048]⟩
abbrev S4x4096x8x128 : Shape := ⟨4, ![4, 4096, 8, 128]⟩
abbrev S4x8x4096 : Shape := ⟨3, ![4, 8, 4096]⟩
abbrev S16384x1024 : Shape := ⟨2, ![16384, 1024]⟩
abbrev S_ : Shape := ⟨0, ![]⟩
abbrev S16384x4096 : Shape := ⟨2, ![16384, 4096]⟩
abbrev S32x512x1024 : Shape := ⟨3, ![32, 512, 1024]⟩
abbrev S32x1024x512 : Shape := ⟨3, ![32, 1024, 512]⟩
abbrev S4x8x4096x1 : Shape := ⟨4, ![4, 8, 4096, 1]⟩
abbrev S4x8x8x512 : Shape := ⟨4, ![4, 8, 8, 512]⟩
abbrev S512x512 : Shape := ⟨2, ![512, 512]⟩
abbrev S4096x512 : Shape := ⟨2, ![4096, 512]⟩
abbrev S8x512x512 : Shape := ⟨3, ![8, 512, 512]⟩
abbrev S1x4x8x512 : Shape := ⟨4, ![1, 4, 8, 512]⟩
abbrev S1x4x4096x1 : Shape := ⟨4, ![1, 4, 4096, 1]⟩
abbrev S4x1x512 : Shape := ⟨3, ![4, 1, 512]⟩
abbrev S4x128x512 : Shape := ⟨3, ![4, 128, 512]⟩
abbrev S512x128 : Shape := ⟨2, ![512, 128]⟩
abbrev S1x1x1x512 : Shape := ⟨4, ![1, 1, 1, 512]⟩
abbrev S1x512 : Shape := ⟨2, ![1, 512]⟩
abbrev S1x1x512x1 : Shape := ⟨4, ![1, 1, 512, 1]⟩
abbrev S512x1 : Shape := ⟨2, ![512, 1]⟩
abbrev S1x1x512 : Shape := ⟨3, ![1, 1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 24
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S4x4096x8x128, .f32⟩
  | .hbm, ⟨2, _⟩ => ⟨S4x4096x8x128, .f32⟩
  | .hbm, ⟨3, _⟩ => ⟨S4x4096x8x128, .f32⟩
  | .hbm, ⟨4, _⟩ => ⟨S4x8x4096, .f32⟩
  | .hbm, ⟨5, _⟩ => ⟨S16384x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x4096, .f32⟩
  | .hbm, ⟨17, _⟩ => ⟨S16384x4096, .bf16⟩
  | .hbm, ⟨18, _⟩ => ⟨S32x512x1024, .f32⟩
  | .hbm, ⟨19, _⟩ => ⟨S32x1024x512, .f32⟩
  | .hbm, ⟨20, _⟩ => ⟨S32x1024x512, .bf16⟩
  | .hbm, ⟨21, _⟩ => ⟨S4x8x4096x1, .f32⟩
  | .hbm, ⟨22, _⟩ => ⟨S4x8x8x512, .f32⟩
  | .hbm, ⟨23, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S8x512x512, .bf16⟩
  | .local _ .vmem, ⟨5, _⟩ => ⟨S8x512x512, .bf16⟩
  | .local _ .vmem, ⟨6, _⟩ => ⟨S1x4x8x512, .f32⟩
  | .local _ .vmem, ⟨7, _⟩ => ⟨S1x4x8x512, .f32⟩
  | .local _ .vmem, ⟨8, _⟩ => ⟨S1x4x4096x1, .f32⟩
  | .local _ .vmem, ⟨9, _⟩ => ⟨S1x4x4096x1, .f32⟩
  | .local _ .vmem, ⟨10, _⟩ => ⟨S512x512, .bf16⟩
  | .local _ .vmem, ⟨11, _⟩ => ⟨S512x512, .bf16⟩
  | .local _ .vmem, ⟨12, _⟩ => ⟨S4x1x512, .f32⟩
  | .local _ .vmem, ⟨13, _⟩ => ⟨S4x1x512, .f32⟩
  | .local _ .vmem, ⟨14, _⟩ => ⟨S4x128x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def k0_off1 (i : grid0.Coords) : Fin 4 → Nat :=
  let c0_15 : Index := 0#32
  let c0_16 : Index := 0#32
  let arg2 : BitVec 32 := BitVec.ofNat 32 (i 2).val
  let v20 : Index := Scalar.indexCast arg2
  let c0_17 : Index := 0#32
  ![0, 0, v20.toNat, 0]
def k0_off2 (i : grid0.Coords) : Fin 4 → Nat :=
  let c0_19 : Index := 0#32
  let c1 : Index := 1#32
  let arg2 : BitVec 32 := BitVec.ofNat 32 (i 2).val
  let v25 : Index := Scalar.indexCast arg2
  let c0_20 : Index := 0#32
  ![0, 1, v25.toNat, 0]
def k0_off3 (i : grid0.Coords) : Fin 4 → Nat :=
  let c0_22 : Index := 0#32
  let c2 : Index := 2#32
  let arg2 : BitVec 32 := BitVec.ofNat 32 (i 2).val
  let v30 : Index := Scalar.indexCast arg2
  let c0_23 : Index := 0#32
  ![0, 2, v30.toNat, 0]
def k0_off4 (i : grid0.Coords) : Fin 4 → Nat :=
  let c0_25 : Index := 0#32
  let c3 : Index := 3#32
  let arg2 : BitVec 32 := BitVec.ofNat 32 (i 2).val
  let v35 : Index := Scalar.indexCast arg2
  let c0_26 : Index := 0#32
  ![0, 3, v35.toNat, 0]
@[reducible] def k0_t1_loop (i : grid0.Coords) : Scf.Loop 32 :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_29 : BitVec 32 := 1#32
  ⟨c0_i32_28, v44, c1_i32_29⟩
def k0_mult1 (i : grid0.Coords) (k0_t1 : Fin (k0_t1_loop i).trips) : BitVec 32 :=
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  v289
def k0_off5 (i : grid0.Coords) (k0_t1 : Fin (k0_t1_loop i).trips) : Fin 2 → Nat :=
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v291 : Index := Scalar.indexCast v290
  let c0_184 : Index := 0#32
  ![v291.toNat, 0]
def k0_off6 (i : grid0.Coords) (k0_t1 : Fin (k0_t1_loop i).trips) : Fin 4 → Nat :=
  let c0_186 : Index := 0#32
  let c0_187 : Index := 0#32
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v295 : Index := Scalar.indexCast v290
  let c0_188 : Index := 0#32
  ![0, 0, v295.toNat, 0]
def k0_off7 (i : grid0.Coords) (k0_t1 : Fin (k0_t1_loop i).trips) : Fin 2 → Nat :=
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v302 : Index := Scalar.indexCast v290
  let c128_190 : Index := 128#32
  ![v302.toNat, 128]
def k0_off8 (i : grid0.Coords) (k0_t1 : Fin (k0_t1_loop i).trips) : Fin 4 → Nat :=
  let c0_192 : Index := 0#32
  let c1_193 : Index := 1#32
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v306 : Index := Scalar.indexCast v290
  let c0_194 : Index := 0#32
  ![0, 1, v306.toNat, 0]
def k0_off9 (i : grid0.Coords) (k0_t1 : Fin (k0_t1_loop i).trips) : Fin 2 → Nat :=
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v313 : Index := Scalar.indexCast v290
  let c256_196 : Index := 256#32
  ![v313.toNat, 256]
def k0_off10 (i : grid0.Coords) (k0_t1 : Fin (k0_t1_loop i).trips) : Fin 4 → Nat :=
  let c0_198 : Index := 0#32
  let c2_199 : Index := 2#32
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v317 : Index := Scalar.indexCast v290
  let c0_200 : Index := 0#32
  ![0, 2, v317.toNat, 0]
def k0_off11 (i : grid0.Coords) (k0_t1 : Fin (k0_t1_loop i).trips) : Fin 2 → Nat :=
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v324 : Index := Scalar.indexCast v290
  let c384_202 : Index := 384#32
  ![v324.toNat, 384]
def k0_off12 (i : grid0.Coords) (k0_t1 : Fin (k0_t1_loop i).trips) : Fin 4 → Nat :=
  let c0_204 : Index := 0#32
  let c3_205 : Index := 3#32
  let c0_i32_28 : BitVec 32 := 0#32
  let c1_i32_29 : BitVec 32 := 1#32
  let arg12 : BitVec 32 := Scf.iv c0_i32_28 c1_i32_29 k0_t1
  let c512_i32_183 : BitVec 32 := 512#32
  let v289 : BitVec 32 := Scalar.muli arg12 c512_i32_183
  let v290 : BitVec 32 := v289
  let v328 : Index := Scalar.indexCast v290
  let c0_206 : Index := 0#32
  ![0, 3, v328.toNat, 0]
def k0_off13 (i : grid0.Coords) (k0_t1 : Fin (k0_t1_loop i).trips) : Fin 3 → Nat :=
  let c0_i32_28 : BitVec 32 := 0#32
  let c1_i32_29 : BitVec 32 := 1#32
  let arg12 : BitVec 32 := Scf.iv c0_i32_28 c1_i32_29 k0_t1
  let v396 : Index := Scalar.indexCast arg12
  let c0_234 : Index := 0#32
  let c0_235 : Index := 0#32
  ![v396.toNat, 0, 0]
def k0_off14 (i : grid0.Coords) (k0_t1 : Fin (k0_t1_loop i).trips) : Fin 3 → Nat :=
  let c0_i32_28 : BitVec 32 := 0#32
  let c1_i32_29 : BitVec 32 := 1#32
  let arg12 : BitVec 32 := Scf.iv c0_i32_28 c1_i32_29 k0_t1
  let v421 : Index := Scalar.indexCast arg12
  let c128_253 : Index := 128#32
  let c0_254 : Index := 0#32
  ![v421.toNat, 128, 0]
def k0_off15 (i : grid0.Coords) (k0_t1 : Fin (k0_t1_loop i).trips) : Fin 3 → Nat :=
  let c0_i32_28 : BitVec 32 := 0#32
  let c1_i32_29 : BitVec 32 := 1#32
  let arg12 : BitVec 32 := Scf.iv c0_i32_28 c1_i32_29 k0_t1
  let v446 : Index := Scalar.indexCast arg12
  let c256_272 : Index := 256#32
  let c0_273 : Index := 0#32
  ![v446.toNat, 256, 0]
def k0_off16 (i : grid0.Coords) (k0_t1 : Fin (k0_t1_loop i).trips) : Fin 3 → Nat :=
  let c0_i32_28 : BitVec 32 := 0#32
  let c1_i32_29 : BitVec 32 := 1#32
  let arg12 : BitVec 32 := Scf.iv c0_i32_28 c1_i32_29 k0_t1
  let v471 : Index := Scalar.indexCast arg12
  let c384_291 : Index := 384#32
  let c0_292 : Index := 0#32
  ![v471.toNat, 384, 0]
@[reducible] def k0_t2_loop (i : grid0.Coords) : Scf.Loop 32 :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let v41 : BitVec 32 := Scalar.addi c0_i32_28 v40
  let c1_i32_30 : BitVec 32 := 1#32
  ⟨v44, v41, c1_i32_30⟩
def k0_mult2 (i : grid0.Coords) (k0_t2 : Fin (k0_t2_loop i).trips) : BitVec 32 :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  v289
def k0_off17 (i : grid0.Coords) (k0_t2 : Fin (k0_t2_loop i).trips) : Fin 2 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v291 : Index := Scalar.indexCast v290
  let c0_184 : Index := 0#32
  ![v291.toNat, 0]
def k0_off18 (i : grid0.Coords) (k0_t2 : Fin (k0_t2_loop i).trips) : Fin 4 → Nat :=
  let c0_186 : Index := 0#32
  let c0_187 : Index := 0#32
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v295 : Index := Scalar.indexCast v290
  let c0_188 : Index := 0#32
  ![0, 0, v295.toNat, 0]
def k0_off19 (i : grid0.Coords) (k0_t2 : Fin (k0_t2_loop i).trips) : Fin 2 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v302 : Index := Scalar.indexCast v290
  let c128_190 : Index := 128#32
  ![v302.toNat, 128]
def k0_off20 (i : grid0.Coords) (k0_t2 : Fin (k0_t2_loop i).trips) : Fin 4 → Nat :=
  let c0_192 : Index := 0#32
  let c1_193 : Index := 1#32
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v306 : Index := Scalar.indexCast v290
  let c0_194 : Index := 0#32
  ![0, 1, v306.toNat, 0]
def k0_off21 (i : grid0.Coords) (k0_t2 : Fin (k0_t2_loop i).trips) : Fin 2 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v313 : Index := Scalar.indexCast v290
  let c256_196 : Index := 256#32
  ![v313.toNat, 256]
def k0_off22 (i : grid0.Coords) (k0_t2 : Fin (k0_t2_loop i).trips) : Fin 4 → Nat :=
  let c0_198 : Index := 0#32
  let c2_199 : Index := 2#32
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v317 : Index := Scalar.indexCast v290
  let c0_200 : Index := 0#32
  ![0, 2, v317.toNat, 0]
def k0_off23 (i : grid0.Coords) (k0_t2 : Fin (k0_t2_loop i).trips) : Fin 2 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v324 : Index := Scalar.indexCast v290
  let c384_202 : Index := 384#32
  ![v324.toNat, 384]
def k0_off24 (i : grid0.Coords) (k0_t2 : Fin (k0_t2_loop i).trips) : Fin 4 → Nat :=
  let c0_204 : Index := 0#32
  let c3_205 : Index := 3#32
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let c512_i32_183 : BitVec 32 := 512#32
  let v289 : BitVec 32 := Scalar.muli arg12 c512_i32_183
  let v290 : BitVec 32 := v289
  let v328 : Index := Scalar.indexCast v290
  let c0_206 : Index := 0#32
  ![0, 3, v328.toNat, 0]
def k0_off25 (i : grid0.Coords) (k0_t2 : Fin (k0_t2_loop i).trips) : Fin 3 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let v396 : Index := Scalar.indexCast arg12
  let c0_234 : Index := 0#32
  let c0_235 : Index := 0#32
  ![v396.toNat, 0, 0]
def k0_off26 (i : grid0.Coords) (k0_t2 : Fin (k0_t2_loop i).trips) : Fin 3 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let v421 : Index := Scalar.indexCast arg12
  let c128_253 : Index := 128#32
  let c0_254 : Index := 0#32
  ![v421.toNat, 128, 0]
def k0_off27 (i : grid0.Coords) (k0_t2 : Fin (k0_t2_loop i).trips) : Fin 3 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let v446 : Index := Scalar.indexCast arg12
  let c256_272 : Index := 256#32
  let c0_273 : Index := 0#32
  ![v446.toNat, 256, 0]
def k0_off28 (i : grid0.Coords) (k0_t2 : Fin (k0_t2_loop i).trips) : Fin 3 → Nat :=
  let c0_i32_28 : BitVec 32 := 0#32
  let arg2 : BitVec 32 := BitVec.ofNat 32 (i 2).val
  let v40 : BitVec 32 := Scalar.subi arg2 c0_i32_28
  let c1_i32 : BitVec 32 := 1#32
  let v42 : BitVec 32 := Scalar.divsi v40 c1_i32
  let v43 : BitVec 32 := Scalar.muli v42 c1_i32
  let v44 : BitVec 32 := Scalar.addi c0_i32_28 v43
  let c1_i32_30 : BitVec 32 := 1#32
  let arg12 : BitVec 32 := Scf.iv v44 c1_i32_30 k0_t2
  let v471 : Index := Scalar.indexCast arg12
  let c384_291 : Index := 384#32
  let c0_292 : Index := 0#32
  ![v471.toNat, 384, 0]
def k0_mult3 (i : grid0.Coords) : BitVec 32 :=
  let arg2 : BitVec 32 := BitVec.ofNat 32 (i 2).val
  let c512_i32 : BitVec 32 := 512#32
  let v45 : BitVec 32 := Scalar.muli arg2 c512_i32
  v45
def k0_off29 (i : grid0.Coords) : Fin 2 → Nat :=
  let arg2 : BitVec 32 := BitVec.ofNat 32 (i 2).val
  let c512_i32 : BitVec 32 := 512#32
  let v45 : BitVec 32 := Scalar.muli arg2 c512_i32
  let v46 : BitVec 32 := v45
  let v47 : Index := Scalar.indexCast v46
  let c0_31 : Index := 0#32
  ![v47.toNat, 0]
def k0_off30 (i : grid0.Coords) : Fin 4 → Nat :=
  let c0_33 : Index := 0#32
  let c0_34 : Index := 0#32
  let arg2 : BitVec 32 := BitVec.ofNat 32 (i 2).val
  let c512_i32 : BitVec 32 := 512#32
  let v45 : BitVec 32 := Scalar.muli arg2 c512_i32
  let v46 : BitVec 32 := v45
  let v51 : Index := Scalar.indexCast v46
  let c0_35 : Index := 0#32
  ![0, 0, v51.toNat, 0]
def k0_off31 (i : grid0.Coords) : Fin 2 → Nat :=
  let arg2 : BitVec 32 := BitVec.ofNat 32 (i 2).val
  let c512_i32 : BitVec 32 := 512#32
  let v45 : BitVec 32 := Scalar.muli arg2 c512_i32
  let v46 : BitVec 32 := v45
  let v58 : Index := Scalar.indexCast v46
  let c128_37 : Index := 128#32
  ![v58.toNat, 128]
def k0_off32 (i : grid0.Coords) : Fin 4 → Nat :=
  let c0_39 : Index := 0#32
  let c1_40 : Index := 1#32
  let arg2 : BitVec 32 := BitVec.ofNat 32 (i 2).val
  let c512_i32 : BitVec 32 := 512#32
  let v45 : BitVec 32 := Scalar.muli arg2 c512_i32
  let v46 : BitVec 32 := v45
  let v62 : Index := Scalar.indexCast v46
  let c0_41 : Index := 0#32
  ![0, 1, v62.toNat, 0]
def k0_off33 (i : grid0.Coords) : Fin 2 → Nat :=
  let arg2 : BitVec 32 := BitVec.ofNat 32 (i 2).val
  let c512_i32 : BitVec 32 := 512#32
  let v45 : BitVec 32 := Scalar.muli arg2 c512_i32
  let v46 : BitVec 32 := v45
  let v69 : Index := Scalar.indexCast v46
  let c256_43 : Index := 256#32
  ![v69.toNat, 256]
def k0_off34 (i : grid0.Coords) : Fin 4 → Nat :=
  let c0_45 : Index := 0#32
  let c2_46 : Index := 2#32
  let arg2 : BitVec 32 := BitVec.ofNat 32 (i 2).val
  let c512_i32 : BitVec 32 := 512#32
  let v45 : BitVec 32 := Scalar.muli arg2 c512_i32
  let v46 : BitVec 32 := v45
  let v73 : Index := Scalar.indexCast v46
  let c0_47 : Index := 0#32
  ![0, 2, v73.toNat, 0]
def k0_off35 (i : grid0.Coords) : Fin 2 → Nat :=
  let arg2 : BitVec 32 := BitVec.ofNat 32 (i 2).val
  let c512_i32 : BitVec 32 := 512#32
  let v45 : BitVec 32 := Scalar.muli arg2 c512_i32
  let v46 : BitVec 32 := v45
  let v80 : Index := Scalar.indexCast v46
  let c384_49 : Index := 384#32
  ![v80.toNat, 384]
def k0_off36 (i : grid0.Coords) : Fin 4 → Nat :=
  let c0_51 : Index := 0#32
  let c3_52 : Index := 3#32
  let arg2 : BitVec 32 := BitVec.ofNat 32 (i 2).val
  let c512_i32 : BitVec 32 := 512#32
  let v45 : BitVec 32 := Scalar.muli arg2 c512_i32
  let v46 : BitVec 32 := v45
  let v84 : Index := Scalar.indexCast v46
  let c0_53 : Index := 0#32
  ![0, 3, v84.toNat, 0]
def k0_off37 (i : grid0.Coords) : Fin 3 → Nat :=
  let arg2 : BitVec 32 := BitVec.ofNat 32 (i 2).val
  let v166 : Index := Scalar.indexCast arg2
  let c0_85 : Index := 0#32
  let c0_86 : Index := 0#32
  ![v166.toNat, 0, 0]
def k0_off38 (i : grid0.Coords) : Fin 3 → Nat :=
  let arg2 : BitVec 32 := BitVec.ofNat 32 (i 2).val
  let v191 : Index := Scalar.indexCast arg2
  let c128_104 : Index := 128#32
  let c0_105 : Index := 0#32
  ![v191.toNat, 128, 0]
def k0_off39 (i : grid0.Coords) : Fin 3 → Nat :=
  let arg2 : BitVec 32 := BitVec.ofNat 32 (i 2).val
  let v216 : Index := Scalar.indexCast arg2
  let c256_123 : Index := 256#32
  let c0_124 : Index := 0#32
  ![v216.toNat, 256, 0]
def k0_off40 (i : grid0.Coords) : Fin 3 → Nat :=
  let arg2 : BitVec 32 := BitVec.ofNat 32 (i 2).val
  let v241 : Index := Scalar.indexCast arg2
  let c384_142 : Index := 384#32
  let c0_143 : Index := 0#32
  ![v241.toNat, 384, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x2048 : Shape := ⟨2, ![16384, 2048]⟩
abbrev S4x4096x8x128 : Shape := ⟨4, ![4, 4096, 8, 128]⟩
abbrev S4x8x4096 : Shape := ⟨3, ![4, 8, 4096]⟩
abbrev S_ : Shape := ⟨0, ![]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x128x4096 : Shape := ⟨4, ![4, 8, 128, 4096]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x4096x8x128, .f32⟩
  | .hbm, ⟨2, _⟩ => ⟨S4x4096x8x128, .f32⟩
  | .hbm, ⟨3, _⟩ => ⟨S4x4096x8x128, .f32⟩
  | .hbm, ⟨4, _⟩ => ⟨S4x8x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x4096x4096, .f32⟩
  | .hbm, ⟨10, _⟩ => ⟨S4x8x4096x4096, .f32⟩
  | .hbm, ⟨11, _⟩ => ⟨S4x8x4096x4096, .f32⟩
  | .hbm, ⟨12, _⟩ => ⟨S4x8x4096x1, .f32⟩
  | .hbm, ⟨13, _⟩ => ⟨S4x8x4096x4096, .f32⟩
  | .hbm, ⟨14, _⟩ => ⟨S4x8x4096x4096, .f32⟩
  | .hbm, ⟨15, _⟩ => ⟨S4x8x1x4096, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S_, .f32⟩
  | .hbm, ⟨32, _⟩ => ⟨S4x8x4096, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x128x4096, .f32⟩
  | .hbm, ⟨44, _⟩ => ⟨S4x4096x8x128, .f32⟩
  | .hbm, ⟨45, _⟩ => ⟨S16384x1024, .f32⟩
  | .hbm, ⟨46, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Experts.lean ====
abbrev S16 : Shape := ⟨1, ![16]⟩
abbrev S36864x2048 : Shape := ⟨2, ![36864, 2048]⟩
abbrev S2x16x2048x2048 : Shape := ⟨4, ![2, 16, 2048, 2048]⟩
abbrev S2x16x1024x2048 : Shape := ⟨4, ![2, 16, 1024, 2048]⟩
abbrev S_ : Shape := ⟨0, ![]⟩
abbrev S144 : Shape := ⟨1, ![144]⟩
abbrev S144x1 : Shape := ⟨2, ![144, 1]⟩
abbrev S1x16 : Shape := ⟨2, ![1, 16]⟩
abbrev S144x16 : Shape := ⟨2, ![144, 16]⟩
abbrev S1 : Shape := ⟨1, ![1]⟩
abbrev S16x1 : Shape := ⟨2, ![16, 1]⟩
abbrev S16x16 : Shape := ⟨2, ![16, 16]⟩
abbrev S256x2048 : Shape := ⟨2, ![256, 2048]⟩
abbrev S2048x2048 : Shape := ⟨2, ![2048, 2048]⟩
abbrev S1024x2048 : Shape := ⟨2, ![1024, 2048]⟩
abbrev S2 : Shape := ⟨1, ![2]⟩
abbrev S1x1x2048x2048 : Shape := ⟨4, ![1, 1, 2048, 2048]⟩
abbrev S1x1x1024x2048 : Shape := ⟨4, ![1, 1, 1024, 2048]⟩
abbrev S256x1024 : Shape := ⟨2, ![256, 1024]⟩

abbrev nBuf : Space → Nat
  | .hbm => 82
  | .vmem => 8
  | .smem => 3
  | _ => 0

abbrev bufTy : (tb : Table) → Fin (tcTables nBuf tb) → BufTy
  | .hbm, ⟨0, _⟩ => ⟨S16, .i32⟩
  | .hbm, ⟨1, _⟩ => ⟨S36864x2048, .f32⟩
  | .hbm, ⟨2, _⟩ => ⟨S2x16x2048x2048, .f32⟩
  | .hbm, ⟨3, _⟩ => ⟨S2x16x1024x2048, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S144, .i32⟩
  | .hbm, ⟨32, _⟩ => ⟨S144x1, .i32⟩
  | .hbm, ⟨33, _⟩ => ⟨S1x16, .i32⟩
  | .hbm, ⟨34, _⟩ => ⟨S144x16, .i32⟩
  | .hbm, ⟨35, _⟩ => ⟨S144x16, .i32⟩
  | .hbm, ⟨36, _⟩ => ⟨S144x16, .i1⟩
  | .hbm, ⟨37, _⟩ => ⟨S144x16, .i32⟩
  | .hbm, ⟨38, _⟩ => ⟨S_, .i32⟩
  | .hbm, ⟨39, _⟩ => ⟨S144, .i32⟩
  | .hbm, ⟨40, _⟩ => ⟨S_, .i32⟩
  | .hbm, ⟨41, _⟩ => ⟨S144, .i32⟩
  | .hbm, ⟨42, _⟩ => ⟨S16, .i32⟩
  | .hbm, ⟨43, _⟩ => ⟨S1x16, .i32⟩
  | .hbm, ⟨44, _⟩ => ⟨S16x1, .i32⟩
  | .hbm, ⟨45, _⟩ => ⟨S16x16, .i32⟩
  | .hbm, ⟨46, _⟩ => ⟨S16x16, .i32⟩
  | .hbm, ⟨47, _⟩ => ⟨S16x16, .i1⟩
  | .hbm, ⟨48, _⟩ => ⟨S1x16, .i32⟩
  | .hbm, ⟨49, _⟩ => ⟨S_, .i32⟩
  | .hbm, ⟨50, _⟩ => ⟨S1x16, .i32⟩
  | .hbm, ⟨51, _⟩ => ⟨S1x16, .i1⟩
  | .hbm, ⟨52, _⟩ => ⟨S16x16, .i1⟩
  | .hbm, ⟨53, _⟩ => ⟨S16x16, .i1⟩
  | .hbm, ⟨54, _⟩ => ⟨S1x16, .i32⟩
  | .hbm, ⟨55, _⟩ => ⟨S_, .i32⟩
  | .hbm, ⟨56, _⟩ => ⟨S_, .i32⟩
  | .hbm, ⟨57, _⟩ => ⟨S16x16, .i32⟩
  | .hbm, ⟨58, _⟩ => ⟨S16x16, .i32⟩
  | .hbm, ⟨59, _⟩ => ⟨S16x16, .i32⟩
  | .hbm, ⟨60, _⟩ => ⟨S_, .i32⟩
  | .hbm, ⟨61, _⟩ => ⟨S16, .i32⟩
  | .hbm, ⟨62, _⟩ => ⟨S_, .i32⟩
  | .hbm, ⟨63, _⟩ => ⟨S16, .i32⟩
  | .hbm, ⟨64, _⟩ => ⟨S16, .i1⟩
  | .hbm, ⟨65, _⟩ => ⟨S_, .i32⟩
  | .hbm, ⟨66, _⟩ => ⟨S_, .i32⟩
  | .hbm, ⟨67, _⟩ => ⟨S16, .i32⟩
  | .hbm, ⟨68, _⟩ => ⟨S16, .i32⟩
  | .hbm, ⟨69, _⟩ => ⟨S144x1, .i32⟩
  | .hbm, ⟨70, _⟩ => ⟨S16, .i32⟩
  | .hbm, ⟨71, _⟩ => ⟨S1x16, .i32⟩
  | .hbm, ⟨72, _⟩ => ⟨S144x16, .i32⟩
  | .hbm, ⟨73, _⟩ => ⟨S144x16, .i32⟩
  | .hbm, ⟨74, _⟩ => ⟨S144x16, .i1⟩
  | .hbm, ⟨75, _⟩ => ⟨S_, .i32⟩
  | .hbm, ⟨76, _⟩ => ⟨S_, .i32⟩
  | .hbm, ⟨77, _⟩ => ⟨S144x16, .i32⟩
  | .hbm, ⟨78, _⟩ => ⟨S144x16, .i32⟩
  | .hbm, ⟨79, _⟩ => ⟨S144x16, .i32⟩
  | .hbm, ⟨80, _⟩ => ⟨S_, .i32⟩
  | .hbm, ⟨81, _⟩ => ⟨S36864x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .f32⟩
  | .local _ .vmem, ⟨5, _⟩ => ⟨S1024x2048, .f32⟩
  | .local _ .vmem, ⟨6, _⟩ => ⟨S2048x2048, .bf16⟩
  | .local _ .vmem, ⟨7, _⟩ => ⟨S1024x2048, .bf16⟩
  | .local _ .smem, ⟨0, _⟩ => ⟨S144, .i32⟩
  | .local _ .smem, ⟨1, _⟩ => ⟨S144, .i32⟩
  | .local _ .smem, ⟨2, _⟩ => ⟨S1, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_call3_v0 : Ref sig .tc := ⟨.hbm, 66, rfl⟩
abbrev main_call3_v1 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v40 : Ref sig .tc := ⟨.hbm, 79, rfl⟩
abbrev main_c_10 : Ref sig .tc := ⟨.hbm, 80, rfl⟩
abbrev main_v42 : Ref sig .tc := ⟨.hbm, 81, rfl⟩
abbrev main_v15 : Ref sig .tc := ⟨.smem, 0, rfl⟩
abbrev main_v41 : Ref sig .tc := ⟨.smem, 1, rfl⟩
abbrev main_v16 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![144], ![false]⟩

abbrev pre0 : Pipeline.Prefetch sig := ⟨3, ![main_v15.idx, main_v41.idx, main_v16.idx], fun | 0 => main_v15.names | 1 => main_v41.names | 2 => main_v16.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v30 : BitVec 32) : Fin 4 → Nat :=
  let c0_i32_9 : BitVec 32 := 0#32
  let c0_i32_11 : BitVec 32 := 0#32
  let c0_i32_12 : BitVec 32 := 0#32
  ![0, v30.toNat, 0, 0]
def k0_cond1 (i : grid0.Coords) (v0 : BitVec 32) : BitVec 1 :=
  let arg0 : BitVec 32 := BitVec.ofNat 32 (i 0).val
  let v1 : BitVec 1 := Scalar.cmpi .slt arg0 v0
  let c0_i32_1 : BitVec 32 := 0#32
  let v11 : BitVec 1 := Scalar.cmpi .eq arg0 c0_i32_1
  let v12 : BitVec 1 := Scalar.andi v1 v11
  let v13 : BitVec 32 := Scalar.extui v12
  let c0_i32_2 : BitVec 32 := 0#32
  let v14 : BitVec 1 := Scalar.cmpi .ne v13 c0_i32_2
  v14

def k0_off4 (v30 : BitVec 32) : Fin 4 → Nat :=
  let c0_i32_13 : BitVec 32 := 0#32
  let c0_i32_15 : BitVec 32 := 0#32
  let c0_i32_16 : BitVec 32 := 0#32
  ![0, v30.toNat, 0, 0]

def k0_chk1 (i : grid0.Coords) (v0 : BitVec 32) (v30 : BitVec 32) : Prop :=
  (∀ (k0_h1 : k0_cond1 i v0 = 1#1), ∀ a, (k0_off3 v30) a + S1x1x2048x2048.size a ≤ S2x16x2048x2048.size a) ∧
  (∀ (k0_h1 : k0_cond1 i v0 = 1#1), ∀ a, (k0_off4 v30) a + S1x1x1024x2048.size a ≤ S2x16x1024x2048.size a)
theorem k0_off3_inb : ∀ (i : grid0.Coords) (v0 : BitVec 32) (v30 : BitVec 32) (k0_hw1 : k0_chk1 i v0 v30), ∀ (k0_h1 : k0_cond1 i v0 = 1#1), ∀ a, (k0_off3 v30) a + S1x1x2048x2048.size a ≤ S2x16x2048x2048.size a := fun i v0 v30 k0_hw1 k0_h1 => k0_hw1.1 k0_h1
theorem k0_off4_inb : ∀ (i : grid0.Coords) (v0 : BitVec 32) (v30 : BitVec 32) (k0_hw1 : k0_chk1 i v0 v30), ∀ (k0_h1 : k0_cond1 i v0 = 1#1), ∀ a, (k0_off4 v30) a + S1x1x1024x2048.size a ≤ S2x16x1024x2048.size a := fun i v0 v30 k0_hw1 k0_h1 => k0_hw1.2 k0_h1

def k0_off5 (i : grid0.Coords) : Fin 1 → Nat :=
  let arg0 : BitVec 32 := BitVec.ofNat 32 (i 0).val
  let v30 : Index := Scalar.indexCast arg0
  ![v30.toNat]
def k0_off6 (v31 : BitVec 32) : Fin 4 → Nat :=
  let c0_i32_8 : BitVec 32 := 0#32
  let c0_i32_10 : BitVec 32 := 0#32
  let c0_i32_11 : BitVec 32 := 0#32
  ![0, v31.toNat, 0, 0]
def k0_cond2 (i : grid0.Coords) (v0 : BitVec 32) (v4 : BitVec 32) (v8 : BitVec 32) : BitVec 1 :=
  let arg0 : BitVec 32 := BitVec.ofNat 32 (i 0).val
  let v1 : BitVec 1 := Scalar.cmpi .slt arg0 v0
  let c0_i32 : BitVec 32 := 0#32
  let v2 : BitVec 1 := Scalar.cmpi .eq arg0 c0_i32
  let v9 : BitVec 1 := Scalar.cmpi .ne v4 v8
  let v10 : BitVec 1 := Scalar.ori v2 v9
  let v15 : BitVec 1 := Scalar.andi v1 v10
  let v16 : BitVec 32 := Scalar.extui v15
  let c0_i32_3 : BitVec 32 := 0#32
  let v17 : BitVec 1 := Scalar.cmpi .ne v16 c0_i32_3
  v17

def k0_off7 (v31 : BitVec 32) : Fin 4 → Nat :=
  let c0_i32_12 : BitVec 32 := 0#32
  let c0_i32_14 : BitVec 32 := 0#32
  let c0_i32_15 : BitVec 32 := 0#32
  ![0, v31.toNat, 0, 0]

def k0_chk2 (i : grid0.Coords) (v0 : BitVec 32) (v4 : BitVec 32) (v8 : BitVec 32) (v31 : BitVec 32) : Prop :=
  (∀ (k0_h2 : k0_cond2 i v0 v4 v8 = 1#1), ∀ a, (k0_off6 v31) a + S1x1x2048x2048.size a ≤ S2x16x2048x2048.size a) ∧
  (∀ (k0_h2 : k0_cond2 i v0 v4 v8 = 1#1), ∀ a, (k0_off7 v31) a + S1x1x1024x2048.size a ≤ S2x16x1024x2048.size a)
theorem k0_off6_inb : ∀ (i : grid0.Coords) (v0 : BitVec 32) (v4 : BitVec 32) (v8 : BitVec 32) (v31 : BitVec 32) (k0_hw2 : k0_chk2 i v0 v4 v8 v31), ∀ (k0_h2 : k0_cond2 i v0 v4 v8 = 1#1), ∀ a, (k0_off6 v31) a + S1x1x2048x2048.size a ≤ S2x16x2048x2048.size a := fun i v0 v4 v8 v31 k0_hw2 k0_h2 => k0_hw2.1 k0_h2
theorem k0_off7_inb : ∀ (i : grid0.Coords) (v0 : BitVec 32) (v4 : BitVec 32) (v8 : BitVec 32) (v31 : BitVec 32) (k0_hw2 : k0_chk2 i v0 v4 v8 v31), ∀ (k0_h2 : k0_cond2 i v0 v4 v8 = 1#1), ∀ a, (k0_off7 v31) a + S1x1x1024x2048.size a ≤ S2x16x1024x2048.size a := fun i v0 v4 v8 v31 k0_hw2 k0_h2 => k0_hw2.2 k0_h2

def k0_off8 (i : grid0.Coords) : Fin 1 → Nat :=
  let arg0 : BitVec 32 := BitVec.ofNat 32 (i 0).val
  let v19 : Index := Scalar.indexCast arg0
  ![v19.toNat]
def k0_off9 (i : grid0.Coords) : Fin 1 → Nat :=
  let arg0 : BitVec 32 := BitVec.ofNat 32 (i 0).val
  let v30 : Index := Scalar.indexCast arg0
  ![v30.toNat]
def k0_off10 (v31 : BitVec 32) : Fin 4 → Nat :=
  let c0_i32_8 : BitVec 32 := 0#32
  let c0_i32_10 : BitVec 32 := 0#32
  let c0_i32_11 : BitVec 32 := 0#32
  ![0, v31.toNat, 0, 0]
def k0_cond3 (i : grid0.Coords) (v0 : BitVec 32) (v4 : BitVec 32) (v8 : BitVec 32) (v20 : BitVec 32) : BitVec 1 :=
  let arg0 : BitVec 32 := BitVec.ofNat 32 (i 0).val
  let v1 : BitVec 1 := Scalar.cmpi .slt arg0 v0
  let c0_i32 : BitVec 32 := 0#32
  let v2 : BitVec 1 := Scalar.cmpi .eq arg0 c0_i32
  let v9 : BitVec 1 := Scalar.cmpi .ne v4 v8
  let v10 : BitVec 1 := Scalar.ori v2 v9
  let v18 : BitVec 1 := Scalar.andi v1 v10
  let c0_i32_4 : BitVec 32 := 0#32
  let v21 : BitVec 1 := Scalar.cmpi .sge v20 c0_i32_4
  let v22 : BitVec 1 := Scalar.andi v18 v21
  let v23 : BitVec 32 := Scalar.extui v22
  let c0_i32_5 : BitVec 32 := 0#32
  let v24 : BitVec 1 := Scalar.cmpi .ne v23 c0_i32_5
  v24

def k0_off11 (v31 : BitVec 32) : Fin 4 → Nat :=
  let c0_i32_12 : BitVec 32 := 0#32
  let c0_i32_14 : BitVec 32 := 0#32
  let c0_i32_15 : BitVec 32 := 0#32
  ![0, v31.toNat, 0, 0]

def k0_chk3 (i : grid0.Coords) (v0 : BitVec 32) (v4 : BitVec 32) (v8 : BitVec 32) (v20 : BitVec 32) (v31 : BitVec 32) : Prop :=
  (∀ (k0_h3 : k0_cond3 i v0 v4 v8 v20 = 1#1), ∀ a, (k0_off10 v31) a + S1x1x2048x2048.size a ≤ S2x16x2048x2048.size a) ∧
  (∀ (k0_h3 : k0_cond3 i v0 v4 v8 v20 = 1#1), ∀ a, (k0_off11 v31) a + S1x1x1024x2048.size a ≤ S2x16x1024x2048.size a)
theorem k0_off10_inb : ∀ (i : grid0.Coords) (v0 : BitVec 32) (v4 : BitVec 32) (v8 : BitVec 32) (v20 : BitVec 32) (v31 : BitVec 32) (k0_hw3 : k0_chk3 i v0 v4 v8 v20 v31), ∀ (k0_h3 : k0_cond3 i v0 v4 v8 v20 = 1#1), ∀ a, (k0_off10 v31) a + S1x1x2048x2048.size a ≤ S2x16x2048x2048.size a := fun i v0 v4 v8 v20 v31 k0_hw3 k0_h3 => k0_hw3.1 k0_h3
theorem k0_off11_inb : ∀ (i : grid0.Coords) (v0 : BitVec 32) (v4 : BitVec 32) (v8 : BitVec 32) (v20 : BitVec 32) (v31 : BitVec 32) (k0_hw3 : k0_chk3 i v0 v4 v8 v20 v31), ∀ (k0_h3 : k0_cond3 i v0 v4 v8 v20 = 1#1), ∀ a, (k0_off11 v31) a + S1x1x1024x2048.size a ≤ S2x16x1024x2048.size a := fun i v0 v4 v8 v20 v31 k0_hw3 k0_h3 => k0_hw3.2 k0_h3

def k0_cond4 (i : grid0.Coords) (v0 : BitVec 32) : BitVec 1 :=
  let arg0 : BitVec 32 := BitVec.ofNat 32 (i 0).val
  let v1 : BitVec 1 := Scalar.cmpi .slt arg0 v0
  let v25 : BitVec 32 := Scalar.extui v1
  let c0_i32_6 : BitVec 32 := 0#32
  let v26 : BitVec 1 := Scalar.cmpi .ne v25 c0_i32_6
  v26

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v27 : BitVec 1 := Scalar.xori v1 v_true
  let v28 : BitVec 32 := Scalar.extui v27
  let c0_i32_7 : BitVec 32 := 0#32
  let v29 : BitVec 1 := Scalar.cmpi .ne v28 c0_i32_7
  v29

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ExpertsRefIdeal.lean ====
abbrev S16 : Shape := ⟨1, ![16]⟩
abbrev S36864x2048 : Shape := ⟨2, ![36864, 2048]⟩
abbrev S2x16x2048x2048 : Shape := ⟨4, ![2, 16, 2048, 2048]⟩
abbrev S2x16x1024x2048 : Shape := ⟨4, ![2, 16, 1024, 2048]⟩
abbrev S_ : Shape := ⟨0, ![]⟩
abbrev S36864 : Shape := ⟨1, ![36864]⟩
abbrev S1x36864 : Shape := ⟨2, ![1, 36864]⟩
abbrev S16x1 : Shape := ⟨2, ![16, 1]⟩
abbrev S16x36864 : Shape := ⟨2, ![16, 36864]⟩
abbrev S1x16x2048x2048 : Shape := ⟨4, ![1, 16, 2048, 2048]⟩
abbrev S16x2048x2048 : Shape := ⟨3, ![16, 2048, 2048]⟩
abbrev S16x2048x36864 : Shape := ⟨3, ![16, 2048, 36864]⟩
abbrev S16x36864x2048 : Shape := ⟨3, ![16, 36864, 2048]⟩
abbrev S16x36864x1024 : Shape := ⟨3, ![16, 36864, 1024]⟩
abbrev S1x16x1024x2048 : Shape := ⟨4, ![1, 16, 1024, 2048]⟩
abbrev S16x1024x2048 : Shape := ⟨3, ![16, 1024, 2048]⟩
abbrev S16x36864x1 : Shape := ⟨3, ![16, 36864, 1]⟩

abbrev nBuf : Space → Nat
  | .hbm => 71
  | .vmem => 0
  | .smem => 0
  | _ => 0

abbrev bufTy : (tb : Table) → Fin (tcTables nBuf tb) → BufTy
  | .hbm, ⟨0, _⟩ => ⟨S16, .i32⟩
  | .hbm, ⟨1, _⟩ => ⟨S36864x2048, .f32⟩
  | .hbm, ⟨2, _⟩ => ⟨S2x16x2048x2048, .f32⟩
  | .hbm, ⟨3, _⟩ => ⟨S2x16x1024x2048, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S36864, .i32⟩
  | .hbm, ⟨32, _⟩ => ⟨S1x36864, .i32⟩
  | .hbm, ⟨33, _⟩ => ⟨S16, .i32⟩
  | .hbm, ⟨34, _⟩ => ⟨S16x1, .i32⟩
  | .hbm, ⟨35, _⟩ => ⟨S16x36864, .i32⟩
  | .hbm, ⟨36, _⟩ => ⟨S16x36864, .i32⟩
  | .hbm, ⟨37, _⟩ => ⟨S16x36864, .i1⟩
  | .hbm, ⟨38, _⟩ => ⟨S1x36864, .i32⟩
  | .hbm, ⟨39, _⟩ => ⟨S16x1, .i32⟩
  | .hbm, ⟨40, _⟩ => ⟨S16x36864, .i32⟩
  | .hbm, ⟨41, _⟩ => ⟨S16x36864, .i32⟩
  | .hbm, ⟨42, _⟩ => ⟨S16x36864, .i1⟩
  | .hbm, ⟨43, _⟩ => ⟨S16x36864, .i1⟩
  | .hbm, ⟨44, _⟩ => ⟨S1x16x2048x2048, .f32⟩
  | .hbm, ⟨45, _⟩ => ⟨S16x2048x2048, .f32⟩
  | .hbm, ⟨46, _⟩ => ⟨S16x2048x36864, .f32⟩
  | .hbm, ⟨47, _⟩ => ⟨S16x36864x2048, .f32⟩
  | .hbm, ⟨48, _⟩ => ⟨S16x36864x1024, .f32⟩
  | .hbm, ⟨49, _⟩ => ⟨S16x36864x1024, .f32⟩
  | .hbm, ⟨50, _⟩ => ⟨S16x36864x1024, .f32⟩
  | .hbm, ⟨51, _⟩ => ⟨S16x36864x1024, .f32⟩
  | .hbm, ⟨52, _⟩ => ⟨S_, .f32⟩
  | .hbm, ⟨53, _⟩ => ⟨S16x36864x1024, .f32⟩
  | .hbm, ⟨54, _⟩ => ⟨S16x36864x1024, .f32⟩
  | .hbm, ⟨55, _⟩ => ⟨S_, .f32⟩
  | .hbm, ⟨56, _⟩ => ⟨S16x36864x1024, .f32⟩
  | .hbm, ⟨57, _⟩ => ⟨S16x36864x1024, .f32⟩
  | .hbm, ⟨58, _⟩ => ⟨S16x36864x1024, .f32⟩
  | .hbm, ⟨59, _⟩ => ⟨S16x36864x1024, .f32⟩
  | .hbm, ⟨60, _⟩ => ⟨S1x16x1024x2048, .f32⟩
  | .hbm, ⟨61, _⟩ => ⟨S16x1024x2048, .f32⟩
  | .hbm, ⟨62, _⟩ => ⟨S16x36864x2048, .f32⟩
  | .hbm, ⟨63, _⟩ => ⟨S16x36864x1, .i1⟩
  | .hbm, ⟨64, _⟩ => ⟨S_, .f32⟩
  | .hbm, ⟨65, _⟩ => ⟨S_, .f32⟩
  | .hbm, ⟨66, _⟩ => ⟨S16x36864x2048, .i1⟩
  | .hbm, ⟨67, _⟩ => ⟨S16x36864x2048, .f32⟩
  | .hbm, ⟨68, _⟩ => ⟨S16x36864x2048, .f32⟩
  | .hbm, ⟨69, _⟩ => ⟨S_, .f32⟩
  | .hbm, ⟨70, _⟩ => ⟨S36864x2048, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩

abbrev nD : Nat := 1
abbrev τ : Topo := Topo.v7x

variable {F : FTy → Type} [FloatOps F]
-- ==== Shift.lean ====
abbrev S16384x2048 : Shape := ⟨2, ![16384, 2048]⟩
abbrev S6x2048 : Shape := ⟨2, ![6, 2048]⟩
abbrev S3x2048x2048 : Shape := ⟨3, ![3, 2048, 2048]⟩
abbrev S3x2048 : Shape := ⟨2, ![3, 2048]⟩
abbrev S3x1x2048 : Shape := ⟨3, ![3, 1, 2048]⟩
abbrev S3x16384x2048 : Shape := ⟨3, ![3, 16384, 2048]⟩
abbrev S1024x2048 : Shape := ⟨2, ![1024, 2048]⟩
abbrev S8x2048 : Shape := ⟨2, ![8, 2048]⟩
abbrev S1x1x2048 : Shape := ⟨3, ![1, 1, 2048]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S3x2048x2048, .f32⟩
  | .hbm, ⟨3, _⟩ => ⟨S3x2048, .f32⟩
  | .hbm, ⟨4, _⟩ => ⟨S3x2048x2048, .bf16⟩
  | .hbm, ⟨5, _⟩ => ⟨S3x1x2048, .f32⟩
  | .hbm, ⟨6, _⟩ => ⟨S3x16384x2048, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x1024x2048, .bf16⟩
  | .local _ .vmem, ⟨9, _⟩ => ⟨S1x1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftRefIdeal.lean ====
abbrev S16384x2048 : Shape := ⟨2, ![16384, 2048]⟩
abbrev S6x2048 : Shape := ⟨2, ![6, 2048]⟩
abbrev S3x2048x2048 : Shape := ⟨3, ![3, 2048, 2048]⟩
abbrev S4x4096x2048 : Shape := ⟨3, ![4, 4096, 2048]⟩
abbrev S_ : Shape := ⟨0, ![]⟩
abbrev S4x4097x2048 : Shape := ⟨3, ![4, 4097, 2048]⟩
abbrev S1x4x4096x2048 : Shape := ⟨4, ![1, 4, 4096, 2048]⟩
abbrev S6x1x1x2048 : Shape := ⟨4, ![6, 1, 1, 2048]⟩
abbrev S6x4x4096x2048 : Shape := ⟨4, ![6, 4, 4096, 2048]⟩
abbrev S3x4x4096x2048 : Shape := ⟨4, ![3, 4, 4096, 2048]⟩
abbrev S3x16384x2048 : Shape := ⟨3, ![3, 16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S6x2048, .f32⟩
  | .hbm, ⟨2, _⟩ => ⟨S3x2048x2048, .f32⟩
  | .hbm, ⟨3, _⟩ => ⟨S4x4096x2048, .f32⟩
  | .hbm, ⟨4, _⟩ => ⟨S_, .i32⟩
  | .hbm, ⟨5, _⟩ => ⟨S_, .f32⟩
  | .hbm, ⟨6, _⟩ => ⟨S4x4097x2048, .f32⟩
  | .hbm, ⟨7, _⟩ => ⟨S4x4096x2048, .f32⟩
  | .hbm, ⟨8, _⟩ => ⟨S1x4x4096x2048, .f32⟩
  | .hbm, ⟨9, _⟩ => ⟨S4x4096x2048, .f32⟩
  | .hbm, ⟨10, _⟩ => ⟨S1x4x4096x2048, .f32⟩
  | .hbm, ⟨11, _⟩ => ⟨S6x1x1x2048, .f32⟩
  | .hbm, ⟨12, _⟩ => ⟨S6x4x4096x2048, .f32⟩
  | .hbm, ⟨13, _⟩ => ⟨S6x4x4096x2048, .f32⟩
  | .hbm, ⟨14, _⟩ => ⟨S6x4x4096x2048, .f32⟩
  | .hbm, ⟨15, _⟩ => ⟨S6x4x4096x2048, .f32⟩
  | .hbm, ⟨16, _⟩ => ⟨S6x4x4096x2048, .f32⟩
  | .hbm, ⟨17, _⟩ => ⟨S3x4x4096x2048, .f32⟩
  | .hbm, ⟨18, _⟩ => ⟨S3x4x4096x2048, .f32⟩
  | .hbm, ⟨19, _⟩ => ⟨S3x16384x2048, .f32⟩
  | .hbm, ⟨20, _⟩ => ⟨S3x16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Online.lean ====
/-
  The arithmetic of a softmax taken block by block, over the extended reals and for one query.

  `X s` is the score of key `s` in base 2 and `V s` the value it carries.  A running state holds the greatest score so
  far `m`, the sum `l` of the weights `2 ^ (X s - m)` and the sum `a` of the values under those weights.  `step_sum` and
  `step_acc` take one more block of keys into the state, some of the block's last keys perhaps left out;
  `quotient_eq` says that `a / l` is the sum of the values under the normalised weights in base `e`, whatever
  greatest score the second program subtracts.
-/
module

public import Idealize.ShloMosaic.PureOps.Ideal
public import Idealize.ShloMosaic.PureOps.Ideal.Laws
public import Mathlib.Analysis.SpecialFunctions.Pow.Real

@[expose] public section

noncomputable section

namespace Cert.Proof.Online

open Idealize.ShloMosaic

/-- A sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a real not below zero goes into a sum from the right, whatever the terms are. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The weight of score `x` under the subtracted score `M`. -/
def wt (x M : ℝ) : ℝ := (2 : ℝ) ^ (x - M)

theorem wt_pos (x M : ℝ) : 0 < wt x M := Real.rpow_pos_of_pos two_pos _

theorem wt_mul (x M M' : ℝ) : wt x M * wt M M' = wt x M' := by
  unfold wt; rw [← Real.rpow_add two_pos]; congr 1; ring

theorem exp2_coe_sub (x M : ℝ) : Ideal.exp2 ((x : EReal) - (M : EReal)) = (wt x M : EReal) := by
  rw [← EReal.coe_sub, Ideal.exp2_coe]; rfl

/-- The state of the greatest score and the weights' sum after the first `n` keys. -/
def Inv (X : ℕ → ℝ) (n : ℕ) (m l : EReal) : Prop :=
  (n = 0 ∧ m = ⊥ ∧ l = 0) ∨
    ∃ M : ℝ, m = (M : EReal) ∧ (∀ s < n, X s ≤ M) ∧ (∃ s < n, X s = M)
      ∧ l = ((∑ s ∈ Finset.range n, wt (X s) M : ℝ) : EReal)

/-- The state of the values' sum after the first `n` keys, the greatest score being `m`. -/
def AInv (X : ℕ → ℝ) (V : ℕ → EReal) (n : ℕ) (m a : EReal) : Prop :=
  (n = 0 ∧ a = 0) ∨ ∃ M : ℝ, m = (M : EReal) ∧ a = ∑ s ∈ Finset.range n, V s * (wt (X s) M : EReal)

/-- One block's shifted scores: key `n + j` takes part when it lies before `n'`. -/
def IsBlock (X : ℕ → ℝ) (CQ : ℝ) (n n' : ℕ) (t : Fin 512 → EReal) : Prop :=
  ∀ j : Fin 512, t j = if n + j.val < n' then ((X (n + j.val) - CQ : ℝ) : EReal) else ⊥

/-- A sum over the block's places whose places from `n'` on give nothing is the sum over the keys from `n` to `n'`. -/
theorem sum_block {M : Type} [AddCommMonoid M] (n n' : ℕ) (hn : n ≤ n') (hn' : n' ≤ n + 512) (g : ℕ → M) :
    (∑ j : Fin 512, if n + j.val < n' then g (n + j.val) else 0) = ∑ s ∈ Finset.Ico n n', g s := by
  rw [Fin.sum_univ_eq_sum_range (fun j => if n + j < n' then g (n + j) else 0) 512, Finset.sum_Ico_eq_sum_range,
    ← Finset.sum_filter]
  refine Finset.sum_congr ?_ fun _ _ => rfl
  ext j; simp only [Finset.mem_filter, Finset.mem_range]; omega

variable {X : ℕ → ℝ} {V : ℕ → EReal} {CQ : ℝ} {n n' : ℕ} {m l a : EReal} {t : Fin 512 → EReal}

/-- The greatest score after the block, as a real that is the greatest of the first `n'` scores. -/
theorem step_max (hI : Inv X n m l) (hn : n < n') (hn' : n' ≤ n + 512) (ht : IsBlock X CQ n n' t) :
    ∃ M' : ℝ, max m ((CQ : EReal) + Finset.univ.sup t) = (M' : EReal) ∧ (∀ s < n', X s ≤ M') ∧ ∃ s < n', X s = M' := by
  -- the block's greatest shifted score
  obtain ⟨j, -, hj⟩ := Finset.exists_mem_eq_sup (Finset.univ : Finset (Fin 512)) ⟨0, Finset.mem_univ _⟩ t
  have h0 : t ⟨0, by norm_num⟩ = ((X n - CQ : ℝ) : EReal) := by rw [ht]; simp [hn]
  have hle : ∀ i, t i ≤ t j := fun i => hj ▸ Finset.le_sup (Finset.mem_univ i)
  have hjn : n + j.val < n' := by
    by_contra hc
    have := hle ⟨0, by norm_num⟩
    rw [h0, ht j, if_neg hc] at this
    exact absurd (le_bot_iff.mp this) (EReal.coe_ne_bot _)
  have htj : t j = ((X (n + j.val) - CQ : ℝ) : EReal) := by rw [ht j, if_pos hjn]
  have hblock : ∀ s, n ≤ s → s < n' → X s ≤ X (n + j.val) := fun s h1 h2 => by
    have := hle ⟨s - n, by omega⟩
    rw [ht, htj] at this
    simp only [show n + (s - n) = s by omega, if_pos h2] at this
    have := EReal.coe_le_coe_iff.mp this
    linarith
  have hsum : (CQ : EReal) + Finset.univ.sup t = ((X (n + j.val) : ℝ) : EReal) := by
    rw [hj, htj, ← EReal.coe_add]; congr 1; ring
  rw [hsum]
  rcases hI with ⟨rfl, rfl, -⟩ | ⟨M, rfl, hM, ⟨s₀, hs₀, hs₀'⟩, -⟩
  · refine ⟨X (0 + j.val), by simp, fun s hs => hblock s (Nat.zero_le _) hs, _, hjn, rfl⟩
  · refine ⟨max M (X (n + j.val)), (EReal.coe_strictMono.monotone.map_max).symm, fun s hs => ?_, ?_⟩
    · rcases Nat.lt_or_ge s n with h | h
      · exact le_max_of_le_left (hM s h)
      · exact le_max_of_le_right (hblock s h hs)
    · rcases max_choice M (X (n + j.val)) with h | h
      · exact ⟨s₀, by omega, by rw [h, hs₀']⟩
      · exact ⟨_, hjn, by rw [h]⟩

/-- A place's weight. -/
theorem block_wt (ht : IsBlock X CQ n n' t) (M' : ℝ) (j : Fin 512) :
    Ideal.exp2 (t j - ((M' : EReal) - (CQ : EReal))) = if n + j.val < n' then (wt (X (n + j.val)) M' : EReal) else 0 := by
  rw [ht j, ← EReal.coe_sub]
  split
  · rw [exp2_coe_sub, show wt (X (n + j.val) - CQ) (M' - CQ) = wt (X (n + j.val)) M' by unfold wt; congr 1; ring]
  · rw [EReal.bot_sub, Ideal.exp2_bot]

/-- What the weights so far are multiplied by. -/
theorem corr (M M' : ℝ) (f : ℕ → ℝ) :
    Ideal.exp2 ((M : EReal) - (M' : EReal)) * ((∑ s ∈ Finset.range n, wt (f s) M : ℝ) : EReal)
      = ((∑ s ∈ Finset.range n, wt (f s) M' : ℝ) : EReal) := by
  rw [exp2_coe_sub, ← EReal.coe_mul, Finset.mul_sum]
  congr 1
  exact Finset.sum_congr rfl fun s _ => by rw [mul_comm, wt_mul]

/-- One block into the greatest score and the weights' sum. -/
theorem step_sum (hI : Inv X n m l) (hn : n < n') (hn' : n' ≤ n + 512) (ht : IsBlock X CQ n n' t) :
    Inv X n' (max m ((CQ : EReal) + Finset.univ.sup t))
      (Ideal.exp2 (m - max m ((CQ : EReal) + Finset.univ.sup t)) * l
        + ∑ j, Ideal.exp2 (t j - (max m ((CQ : EReal) + Finset.univ.sup t) - (CQ : EReal)))) := by
  obtain ⟨M', hM', hle, hex⟩ := step_max hI hn hn' ht
  rw [hM']
  refine Or.inr ⟨M', rfl, hle, hex, ?_⟩
  simp only [block_wt ht]
  rw [sum_block n n' hn.le hn' (fun s => (wt (X s) M' : EReal)), ← coe_sum]
  rcases hI with ⟨rfl, rfl, rfl⟩ | ⟨M, rfl, -, -, rfl⟩
  · rw [mul_zero, zero_add, Nat.Ico_zero_eq_range]
  · rw [corr, ← EReal.coe_add, Finset.sum_range_add_sum_Ico _ hn.le]

/-- One block into the values' sum. -/
theorem step_acc (hI : Inv X n m l) (hA : AInv X V n m a) (hn : n < n') (hn' : n' ≤ n + 512) (ht : IsBlock X CQ n n' t)
    (v : Fin 512 → EReal) (hv : ∀ j, v j = V (n + j.val)) :
    AInv X V n' (max m ((CQ : EReal) + Finset.univ.sup t))
      (Ideal.exp2 (m - max m ((CQ : EReal) + Finset.univ.sup t)) * a
        + ∑ j, v j * Ideal.exp2 (t j - (max m ((CQ : EReal) + Finset.univ.sup t) - (CQ : EReal)))) := by
  obtain ⟨M', hM', hle, hex⟩ := step_max hI hn hn' ht
  rw [hM']
  refine Or.inr ⟨M', rfl, ?_⟩
  simp only [block_wt ht, hv, mul_ite, mul_zero]
  rw [sum_block n n' hn.le hn' (fun s => V s * (wt (X s) M' : EReal))]
  rcases hA with ⟨rfl, rfl⟩ | ⟨M, rfl, rfl⟩
  · rw [mul_zero, zero_add, Nat.Ico_zero_eq_range]
  · rw [exp2_coe_sub, mul_comm, sum_mul_coe _ _ (wt_pos _ _).le]
    simp only [mul_assoc, ← EReal.coe_mul, wt_mul]
    rw [Finset.sum_range_add_sum_Ico _ hn.le]

/-- A weight in base `e`, its score being the base-2 score times `log 2`. -/
theorem exp_eq_wt (x M : ℝ) : Real.exp (x * Real.log 2 - M * Real.log 2) = wt x M := by
  unfold wt; rw [Real.rpow_def_of_pos two_pos]; congr 1; ring

/-- The kept keys' scores in base `e` among `N` keys of which the first `n` are kept. -/
def IsRow (X : ℕ → ℝ) (n N : ℕ) (S : Fin N → EReal) : Prop :=
  ∀ s : Fin N, S s = if s.val < n then ((X s.val * Real.log 2 : ℝ) : EReal) else ⊥

/-- A sum over `N` keys whose keys from `n` on give nothing is the sum over the first `n`. -/
theorem sum_row {M : Type} [AddCommMonoid M] {N : ℕ} (h : n ≤ N) (g : ℕ → M) :
    (∑ s : Fin N, if s.val < n then g s.val else 0) = ∑ s ∈ Finset.range n, g s := by
  rw [Fin.sum_univ_eq_sum_range (fun j => if j < n then g j else 0) N, ← Finset.sum_filter]
  refine Finset.sum_congr ?_ fun _ _ => rfl
  ext j; simp only [Finset.mem_filter, Finset.mem_range]; omega

/-- The quotient of the state is the values' sum under the normalised weights. -/
theorem quotient_eq {N : ℕ} (hI : Inv X n m l) (hA : AInv X V n m a) (hn : 0 < n) (hN : n ≤ N) (S : Fin N → EReal)
    (hS : IsRow X n N S) :
    Ideal.div a l = ∑ s : Fin N, V s.val * Ideal.div (Ideal.exp (S s - Finset.univ.sup S))
      (0 + ∑ s' : Fin N, Ideal.exp (S s' - Finset.univ.sup S)) := by
  have hlog : 0 < Real.log 2 := Real.log_pos one_lt_two
  rcases hI with ⟨rfl, -, -⟩ | ⟨M, rfl, hM, ⟨s₀, hs₀, hs₀'⟩, rfl⟩
  · omega
  rcases hA with ⟨rfl, -⟩ | ⟨M₁, h₁, rfl⟩
  · omega
  obtain rfl : M = M₁ := EReal.coe_injective h₁
  have hsup : Finset.univ.sup S = ((M * Real.log 2 : ℝ) : EReal) := by
    apply le_antisymm
    · refine Finset.sup_le fun s _ => ?_
      rw [hS s]; split
      · next h => exact EReal.coe_le_coe_iff.mpr (mul_le_mul_of_nonneg_right (hM _ h) hlog.le)
      · exact bot_le
    · have := Finset.le_sup (f := S) (Finset.mem_univ ⟨s₀, by omega⟩)
      rwa [hS, if_pos hs₀, hs₀'] at this
  have hw : ∀ s : Fin N, Ideal.exp (S s - Finset.univ.sup S) = if s.val < n then (wt (X s.val) M : EReal) else 0 := fun s => by
    rw [hsup, hS s]; split
    · rw [← EReal.coe_sub, Ideal.exp_coe, exp_eq_wt]
    · rw [EReal.bot_sub, Ideal.exp_bot]
  simp only [hw]
  rw [sum_row hN (fun s => (wt (X s) M : EReal)), zero_add, ← coe_sum]
  have hpos : 0 < ∑ s ∈ Finset.range n, wt (X s) M :=
    Finset.sum_pos (fun s _ => wt_pos _ _) ⟨0, Finset.mem_range.mpr hn⟩
  rw [Ideal.div_coe hpos.ne', sum_mul_coe _ _ (by positivity)]
  rw [← sum_row hN (fun s => V s * (wt (X s) M : EReal) * ((1 / ∑ s ∈ Finset.range n, wt (X s) M : ℝ) : EReal))]
  refine Finset.sum_congr rfl fun s _ => ?_
  rw [Ideal.div_coe hpos.ne']
  split
  · rw [mul_assoc]
  · rw [zero_mul, mul_zero]

end Cert.Proof.Online

end
-- ==== Proof.HeadStep.lean ====
/-
  One head's arithmetic in the attention kernel, read number by number: the scores of a block of keys, the running
  greatest score, the running sums, and the quotient written out.  `Good` says that a state is the state of the softmax
  after the first `n` keys (`Online.Inv`, `Online.AInv`), and `Good.step` takes it through one more block.
-/
module

public import proofs.«01_k».proof.Proof.Gen.KernelIdeal.Skeleton
public import proofs.«01_k».proof.Proof.Online
public import Idealize.ShloMosaic.Lib.Pointwise
public import Idealize.ShloMosaic.Lib.WordCmp

@[expose] public section

set_option maxRecDepth 16384

noncomputable section

namespace Cert.Proof.Fox

open Idealize.ShloMosaic Cert.KernelIdeal Cert.KernelIdeal.Gen

/-- The scores of one block for one head: keys down, queries across. -/
abbrev tile (q kb : FVec Ideal S512x128 .bf16) (ck : FVec Ideal S1x1x512x1 .f32) : FVec Ideal S512x512 .f32 := k0_pay3 q kb ck

/-- The scores of the block on the diagonal, the keys after the query left out. -/
abbrev masked (t : FVec Ideal S512x512 .f32) : FVec Ideal S512x512 .f32 := k0_pay89 t

/-- One head's greatest scores after a block. -/
abbrev hm (cq : FVec Ideal S1x512 .f32) (t : FVec Ideal S512x512 .f32) (m : FVec Ideal S1x1x512 .f32) : FVec Ideal S1x1x512 .f32 :=
  k0_pay26 (k0_pay12 cq t m)

/-- One head's weight sums after a block. -/
abbrev hl (cq : FVec Ideal S1x512 .f32) (t : FVec Ideal S512x512 .f32) (m l : FVec Ideal S1x1x512 .f32) : FVec Ideal S1x1x512 .f32 :=
  k0_pay24 (k0_pay8 m) (k0_pay12 cq t m) (k0_pay16 cq t m) l

/-- One head's value sums after a block. -/
abbrev ha (cq : FVec Ideal S1x512 .f32) (t : FVec Ideal S512x512 .f32) (m : FVec Ideal S1x1x512 .f32)
    (a : FVec Ideal S1x128x512 .f32) (v : FVec Ideal S1x128x512 .bf16) : FVec Ideal S1x128x512 .f32 :=
  k0_pay25 (k0_pay8 m) (k0_pay12 cq t m) (k0_pay16 cq t m) a v

/-- One head's rows of the result. -/
abbrev hout (a : FVec Ideal S1x128x512 .f32) (l : FVec Ideal S1x1x512 .f32) : FVec Ideal S512x128 .bf16 := k0_pay126 a l

/-- The pattern of minus infinity. -/
theorem neg_inf : Ideal.ofBits FTy.f32 0xFF800000#32 = ⊥ := by
  simp [Ideal.ofBits, Ideal.ieee]

/-- A score. -/
theorem tile_apply (q kb : FVec Ideal S512x128 .bf16) (ck : FVec Ideal S1x1x512x1 .f32) (r c : Fin 512) :
    tile q kb ck (ix2 r c) = (∑ d : Fin 128, kb (ix2 r d) * q (ix2 c d)) - ck (ix4 0 0 r 0) * (((Real.log 2)⁻¹ : ℝ) : EReal) := by
  unfold tile k0_pay3
  pointwise
  rfl

/-- A score of the block on the diagonal. -/
theorem masked_apply (t : FVec Ideal S512x512 .f32) (r c : Fin 512) :
    masked t (ix2 r c) = if r.val ≤ c.val then t (ix2 r c) else ⊥ := by
  unfold masked k0_pay89
  pointwise
  rw [WordCmp.cmpi_sle_ofNat (by omega) (by omega), neg_inf]
  by_cases h : r.val ≤ c.val <;> simp [h, Scalar.select]

/-- The new greatest score. -/
theorem mnew_apply (cq : FVec Ideal S1x512 .f32) (t : FVec Ideal S512x512 .f32) (m : FVec Ideal S1x1x512 .f32) (c : Fin 512) :
    k0_pay12 cq t m (ix2 0 c) = max (m (ix3 0 0 c)) (cq (ix2 0 c) + Finset.univ.sup fun r : Fin 512 => t (ix2 r c)) := by
  unfold k0_pay12 k0_pay8
  pointwise
  rw [neg_inf]
  rfl

/-- The greatest score stored. -/
theorem hm_apply (cq : FVec Ideal S1x512 .f32) (t : FVec Ideal S512x512 .f32) (m : FVec Ideal S1x1x512 .f32) (c : Fin 512) :
    hm cq t m (ix3 0 0 c) = k0_pay12 cq t m (ix2 0 c) := by
  unfold hm k0_pay26
  pointwise

/-- A weight. -/
theorem p_apply (cq : FVec Ideal S1x512 .f32) (t : FVec Ideal S512x512 .f32) (m : FVec Ideal S1x1x512 .f32) (r c : Fin 512) :
    k0_pay16 cq t m (ix2 r c) = Ideal.exp2 (t (ix2 r c) - (k0_pay12 cq t m (ix2 0 c) - cq (ix2 0 c))) := by
  unfold k0_pay16
  pointwise
  rfl

/-- The weights' sum stored. -/
theorem hl_apply (cq : FVec Ideal S1x512 .f32) (t : FVec Ideal S512x512 .f32) (m l : FVec Ideal S1x1x512 .f32) (c : Fin 512) :
    hl cq t m l (ix3 0 0 c) = Ideal.exp2 (m (ix3 0 0 c) - k0_pay12 cq t m (ix2 0 c)) * l (ix3 0 0 c)
      + ∑ r : Fin 512, k0_pay16 cq t m (ix2 r c) := by
  unfold hl k0_pay24 k0_pay20 k0_pay8
  pointwise
  rfl

/-- The values' sum stored. -/
theorem ha_apply (cq : FVec Ideal S1x512 .f32) (t : FVec Ideal S512x512 .f32) (m : FVec Ideal S1x1x512 .f32)
    (a : FVec Ideal S1x128x512 .f32) (v : FVec Ideal S1x128x512 .bf16) (d : Fin 128) (c : Fin 512) :
    ha cq t m a v (ix3 0 d c) = Ideal.exp2 (m (ix3 0 0 c) - k0_pay12 cq t m (ix2 0 c)) * a (ix3 0 d c)
      + ∑ r : Fin 512, v (ix3 0 d r) * k0_pay16 cq t m (ix2 r c) := by
  unfold ha k0_pay25 k0_pay20 k0_pay8
  pointwise
  rfl

/-- A number written out. -/
theorem hout_apply (a : FVec Ideal S1x128x512 .f32) (l : FVec Ideal S1x1x512 .f32) (c : Fin 512) (d : Fin 128) :
    hout a l (ix2 c d) = Ideal.div (a (ix3 0 d c)) (l (ix3 0 0 c)) := by
  unfold hout k0_pay126
  pointwise

/-- A query's own running sum, in base 2. -/
theorem cq_apply (x : FVec Ideal S1x1x1x512 .f32) (c : Fin 512) :
    k0_pay78 x (ix2 0 c) = x (ix4 0 0 0 c) * (((Real.log 2)⁻¹ : ℝ) : EReal) := by
  unfold k0_pay78
  pointwise
  rfl

/-- The base-2 score of key `s` for one query: the query's entries `Q`, the keys' `K`, the running sums of the forget
    gates' logarithms `C`, the query's own being `ct`. -/
def score (Q : Fin 128 → ℝ) (K : ℕ → Fin 128 → ℝ) (C : ℕ → ℝ) (ct : ℝ) (s : ℕ) : ℝ :=
  ct * (Real.log 2)⁻¹ + ((∑ d, K s d * Q d) - C s * (Real.log 2)⁻¹)

/-- A tile's column is the block of the query's scores. -/
theorem tile_block (Q : Fin 128 → ℝ) (K : ℕ → Fin 128 → ℝ) (C : ℕ → ℝ) (ct : ℝ) (n : ℕ) (q kb : FVec Ideal S512x128 .bf16)
    (ck : FVec Ideal S1x1x512x1 .f32) (c : Fin 512) (hq : ∀ d, q (ix2 c d) = (Q d : EReal))
    (hk : ∀ r d, kb (ix2 r d) = (K (n + r.val) d : EReal)) (hc : ∀ r, ck (ix4 0 0 r 0) = (C (n + r.val) : EReal)) (r : Fin 512) :
    tile q kb ck (ix2 r c) = ((score Q K C ct (n + r.val) - ct * (Real.log 2)⁻¹ : ℝ) : EReal) := by
  rw [tile_apply, hc]
  simp only [hq, hk, ← EReal.coe_mul]
  rw [← Online.coe_sum, ← EReal.coe_sub]
  congr 1
  unfold score; ring

/-- One query's state is the softmax's after the first `n` keys. -/
structure Good (X : ℕ → ℝ) (V : Fin 128 → ℕ → EReal) (n : ℕ) (m l : FVec Ideal S1x1x512 .f32) (a : FVec Ideal S1x128x512 .f32)
    (c : Fin 512) : Prop where
  sum : Online.Inv X n (m (ix3 0 0 c)) (l (ix3 0 0 c))
  acc : ∀ d, Online.AInv X (V d) n (m (ix3 0 0 c)) (a (ix3 0 d c))

/-- One block of keys into the state. -/
theorem Good.step {X : ℕ → ℝ} {V : Fin 128 → ℕ → EReal} {CQ : ℝ} {n n' : ℕ} {m l : FVec Ideal S1x1x512 .f32}
    {a : FVec Ideal S1x128x512 .f32} {c : Fin 512} (h : Good X V n m l a c) (hn : n < n') (hn' : n' ≤ n + 512)
    {cq : FVec Ideal S1x512 .f32} {t : FVec Ideal S512x512 .f32} {v : FVec Ideal S1x128x512 .bf16}
    (hcq : cq (ix2 0 c) = (CQ : EReal)) (ht : Online.IsBlock X CQ n n' fun r => t (ix2 r c))
    (hv : ∀ d r, v (ix3 0 d r) = V d (n + r.val)) :
    Good X V n' (hm cq t m) (hl cq t m l) (ha cq t m a v) c := by
  constructor
  · rw [hm_apply, hl_apply]
    simp only [p_apply]
    rw [mnew_apply, hcq]
    exact Online.step_sum h.sum hn hn' ht
  · intro d
    rw [hm_apply, ha_apply]
    simp only [p_apply]
    rw [mnew_apply, hcq]
    exact Online.step_acc h.sum (h.acc d) hn hn' ht _ (hv d)

end Cert.Proof.Fox

end
-- ==== Proof.Finite.lean ====
/-
  The precondition read off element by element: where the predicate `finite` holds, every query entry, key entry and
  running sum is a real number (`reals`).
-/
module

public import proofs.«01_k».proof.Defs
public import proofs.«01_k».proof.Proof.HeadStep
public import Idealize.ShloMosaic.Lib.ReduceAll
public import Idealize.ShloMosaic.Lib.IdealHost
public import Idealize.ShloMosaic.Lib.Pointwise
public import Idealize.ShloMosaic.Lib.Affine

@[expose] public section

set_option maxRecDepth 16384

noncomputable section

namespace Cert.Proof.Fox

open Idealize.ShloMosaic

/-- The side conditions of the predicate. -/
instance preFacts : Cert.Pre_finite.Facts where
  bcast_S_S4x4096x8x128 := by decide
  reducesTo_S4x4096x8x128_S_d0_1_2_3 := by decide
  h_S_ := by decide
  bcast_S_S4x8x4096 := by decide
  reducesTo_S4x8x4096_S_d0_1_2 := by decide

/-- The pattern of plus infinity. -/
theorem pos_inf : Ideal.ofBits FTy.f32 0x7F800000#32 = ⊤ := by
  simp [Ideal.ofBits, Ideal.ieee]

/-- The pattern of 128. -/
theorem c128 : Ideal.ofBits FTy.f32 0x43000000#32 = ((128 : ℝ) : EReal) := by
  simp [Ideal.ofBits, Ideal.ieee, -EReal.coe_mul]; norm_num

/-- The pattern of 2. -/
theorem c2 : Ideal.ofBits FTy.f32 0x40000000#32 = ((2 : ℝ) : EReal) := by
  simp [Ideal.ofBits, Ideal.ieee, -EReal.coe_mul]; norm_num

/-- A number whose absolute value is below infinity is real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- Where the predicate holds, the queries, the keys and the running sums are real. -/
theorem reals (z : FVec Ideal ⟨2, ![16384, 2048]⟩ .f32) (q k v : FVec Ideal ⟨4, ![4, 4096, 8, 128]⟩ .f32) (c : FVec Ideal ⟨3, ![4, 8, 4096]⟩ .f32)
    (h : Cert.Pre_finite.fn (F := Ideal) z q k v c = fun _ => 1#1) :
    (∀ i, ∃ r : ℝ, q i = (r : EReal)) ∧ (∀ i, ∃ r : ℝ, k i = (r : EReal)) ∧ ∀ i, ∃ r : ℝ, c i = (r : EReal) := by
  have e := congrFun h (fun a => a.elim0)
  dsimp only [Cert.Pre_finite.fn] at e
  obtain ⟨e', ec⟩ := IntOp.andi_eq_one.1 e
  obtain ⟨eq, ek⟩ := IntOp.andi_eq_one.1 e'
  haveI : Subsingleton (Cert.Pre_finite.S_).Idx := ⟨fun a b => funext fun x => x.elim0⟩
  refine ⟨fun i => real_of_abs_lt _ ?_, fun i => real_of_abs_lt _ ?_, fun i => real_of_abs_lt _ ?_⟩
  · have := Host.reduce_andi_all _ _ _ _ _ eq i
    rw [← pos_inf]; exact this
  · have := Host.reduce_andi_all _ _ _ _ _ ek i
    rw [← pos_inf]; exact this
  · have := Host.reduce_andi_all _ _ _ _ _ ec i
    rw [← pos_inf]; exact this

end Cert.Proof.Fox

end
-- ==== Proof.RefValue.lean ====
/-
  The reference's result number by number (`ref_apply`): the softmax of the masked scores of a query, times the values.
-/
module

public import proofs.«01_k».proof.Proof.Finite
public import proofs.«01_k».proof.Proof.Gen.ReferenceIdeal.Run
public import Idealize.ShloMosaic.Lib.WordCmp
public import Idealize.ShloMosaic.Lib.StableHlo.ReadAt

@[expose] public section

set_option maxRecDepth 16384

noncomputable section

namespace Cert.Proof.Fox

open Idealize.ShloMosaic Idealize.ShloMosaic.TcCoe Cert.ReferenceIdeal Cert.ReferenceIdeal.Gen Cert.ReferenceIdeal.Value

/-- The scale of the scores, as the reference computes it. -/
def refScale : EReal := Ideal.div (Ideal.ofBits FTy.f32 0x3F800000#32) (Ideal.sqrt (Ideal.ofBits FTy.f32 0x43000000#32))

/-- The masked scores of query `t`. -/
def refRow (q k : FVec Ideal S4x4096x8x128 .f32) (cs : FVec Ideal S4x8x4096 .f32) (b : Fin 4) (h : Fin 8) (t s : Fin 4096) : EReal :=
  if s.val ≤ t.val then (∑ d, q (ix4 b t h d) * k (ix4 b s h d)) * refScale + cs (ix3 b h t) - cs (ix3 b h s) else ⊥

/-- A result of the reference. -/
def refOut (q k v : FVec Ideal S4x4096x8x128 .f32) (cs : FVec Ideal S4x8x4096 .f32) (b : Fin 4) (t : Fin 4096) (h : Fin 8) (d : Fin 128) : EReal :=
  ∑ s : Fin 4096, v (ix4 b s h d) * Ideal.div (Ideal.exp (refRow q k cs b h t s - Finset.univ.sup (refRow q k cs b h t)))
    (0 + ∑ s', Ideal.exp (refRow q k cs b h t s' - Finset.univ.sup (refRow q k cs b h t)))

/-- The masked score, as the program selects it. -/
theorem select_row (q k : FVec Ideal S4x4096x8x128 .f32) (cs : FVec Ideal S4x8x4096 .f32) (b : Fin 4) (h : Fin 8) (t s : Fin 4096) :
    Scalar.select (IntOp.cmpi CmpIPredicate.sge (BitVec.ofNat 32 t.val) (BitVec.ofNat 32 s.val))
      ((∑ d, q (ix4 b t h d) * k (ix4 b s h d)) * Ideal.div (Ideal.ofBits FTy.f32 0x3F800000#32) (Ideal.sqrt (Ideal.ofBits FTy.f32 0x43000000#32)) + cs (ix3 b h t) - cs (ix3 b h s))
      (id (constant (F := Ideal) S_ FTy.f32 0xFF800000#32) ix0) = refRow q k cs b h t s := by
  have e : (id (constant (F := Ideal) S_ FTy.f32 0xFF800000#32) ix0 : EReal) = ⊥ := neg_inf
  rw [WordCmp.cmpi_sge_ofNat (by omega) (by omega), e]
  unfold refRow refScale
  by_cases g : s.val ≤ t.val <;> simp [g, Scalar.select]

/-- The products of the queries and the keys. -/
def prodsT (q k : FVec Ideal S4x4096x8x128 .f32) : FVec Ideal S4x8x4096x4096 .f32 :=
  Host.dotGeneral dot_S4x4096x8x128_S4x4096x8x128_S4x8x4096x4096_3_3_1_1_02_02 none q k

/-- The scores, of the products `P` and a scale. -/
def scoresT (P : FVec Ideal S4x8x4096x4096 .f32) (g : FVec Ideal S_ .f32) (cs : FVec Ideal S4x8x4096 .f32) : FVec Ideal S4x8x4096x4096 .f32 :=
  subf (addf (mulf P (broadcastInDim S4x8x4096x4096 ![] bcast_S_S4x8x4096x4096 g))
      (broadcastInDim S4x8x4096x4096 ![0, 1, 2, 3] bcast_S4x8x4096x1_S4x8x4096x4096_0_1_2_3 (broadcastInDim S4x8x4096x1 ![0, 1, 2] bcast_S4x8x4096_S4x8x4096x1_0_1_2 cs)))
      (broadcastInDim S4x8x4096x4096 ![0, 1, 2, 3] bcast_S4x8x1x4096_S4x8x4096x4096_0_1_2_3 (broadcastInDim S4x8x1x4096 ![0, 1, 3] bcast_S4x8x4096_S4x8x1x4096_0_1_3 cs))

/-- Which keys a query sees. -/
def seenT : IVec S4096x4096 1 :=
  cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- The scores `S`, with `g` in the place of those that `M` masks. -/
def maskT (M : IVec S4096x4096 1) (S : FVec Ideal S4x8x4096x4096 .f32) (g : FVec Ideal S_ .f32) : FVec Ideal S4x8x4096x4096 .f32 :=
  select (broadcastInDim S4x8x4096x4096 ![2, 3] bcast_S4096x4096_S4x8x4096x4096_2_3 M) S (broadcastInDim S4x8x4096x4096 ![] bcast_S_S4x8x4096x4096 g)

/-- The greatest score of each row, folded. -/
def foldsT (A : FVec Ideal S4x8x4096x4096 .f32) : FVec Ideal S4x8x4096 .f32 :=
  Host.reduce FloatOps.maximumf A (constant S_ .f32 0xFF800000#32) reducesTo_S4x8x4096x4096_S4x8x4096_d3 h_S_

/-- The greatest score of each row. -/
def topsT (M : FVec Ideal S4x8x4096 .f32) : FVec Ideal S4x8x4096 .f32 :=
  maximumf (broadcastInDim S4x8x4096 ![] bcast_S_S4x8x4096 (constant S_ .f32 0xFF800000#32)) M

/-- The exponentials of the scores over the greatest of their row. -/
def expsT (A : FVec Ideal S4x8x4096x4096 .f32) (M : FVec Ideal S4x8x4096 .f32) : FVec Ideal S4x8x4096x4096 .f32 :=
  Host.exp (subf A (broadcastInDim S4x8x4096x4096 ![0, 1, 2, 3] bcast_S4x8x4096x1_S4x8x4096x4096_0_1_2_3 (broadcastInDim S4x8x4096x1 ![0, 1, 2] bcast_S4x8x4096_S4x8x4096x1_0_1_2 M)))

/-- The exponentials over their sum. -/
def probsT (E : FVec Ideal S4x8x4096x4096 .f32) : FVec Ideal S4x8x4096x4096 .f32 :=
  Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)))

/-- The weighted values, a row for each position. -/
def outT (v : FVec Ideal S4x4096x8x128 .f32) (P : FVec Ideal S4x8x4096x4096 .f32) : FVec Ideal S16384x1024 .bf16 :=
  truncf .bf16 (shapeCast _ (transpose S4x4096x8x128 [0, 3, 1, 2] (Host.dotGeneral (F := Ideal)  dot_S4x4096x8x128_S4x8x4096x4096_S4x8x128x4096_1_3_3_2_02_01 none v P) transposes_S4x8x128x4096_S4x4096x8x128_0_3_1_2) shapeCasts_S4x4096x8x128_S16384x1024) bitsLt_bf16_f32

/-- The scale of the scores. -/
def scaleT : FVec Ideal S_ .f32 := Host.divf (constant S_ .f32 0x3F800000#32) (Host.sqrt (constant S_ .f32 0x43000000#32))

/-- The masked scores. -/
def maskedT (q k : FVec Ideal S4x4096x8x128 .f32) (cs : FVec Ideal S4x8x4096 .f32) : FVec Ideal S4x8x4096x4096 .f32 :=
  maskT seenT (scoresT (prodsT q k) scaleT cs) (id (constant S_ .f32 0xFF800000#32))

/-- The result as its stages. -/
def resT (q k v : FVec Ideal S4x4096x8x128 .f32) (cs : FVec Ideal S4x8x4096 .f32) : FVec Ideal S16384x1024 .bf16 :=
  outT v (probsT (expsT (maskedT q k cs) (topsT (foldsT (maskedT q k cs)))))

theorem prodsT_apply (q k : FVec Ideal S4x4096x8x128 .f32) (b : Fin 4) (h : Fin 8) (t s : Fin 4096) :
    prodsT q k (ix4 b h t s) = ∑ d, q (ix4 b t h d) * k (ix4 b s h d) := by
  unfold prodsT
  pointwise

theorem scoresT_apply (P : FVec Ideal S4x8x4096x4096 .f32) (g : FVec Ideal S_ .f32) (cs : FVec Ideal S4x8x4096 .f32) (b : Fin 4) (h : Fin 8) (t s : Fin 4096) :
    scoresT P g cs (ix4 b h t s) = P (ix4 b h t s) * g ix0 + cs (ix3 b h t) - cs (ix3 b h s) := by
  unfold scoresT
  pointwise

theorem seenT_apply (t s : Fin 4096) : seenT (ix2 t s) = IntOp.cmpi CmpIPredicate.sge (BitVec.ofNat 32 t.val) (BitVec.ofNat 32 s.val) := by
  unfold seenT
  pointwise

theorem maskT_apply (M : IVec S4096x4096 1) (S : FVec Ideal S4x8x4096x4096 .f32) (g : FVec Ideal S_ .f32) (b : Fin 4) (h : Fin 8) (t s : Fin 4096) :
    maskT M S g (ix4 b h t s) = Scalar.select (M (ix2 t s)) (S (ix4 b h t s)) (g ix0) := by
  unfold maskT
  pointwise

/-- A fold of the greatest from the bottom. -/
theorem fold_top {ι : Type} (s : Finset ι) (f : ι → EReal) : s.fold (FloatOps.maximumf (F := Ideal) (φ := .f32)) ⊥ f = s.sup f := rfl

theorem topsT_apply (M : FVec Ideal S4x8x4096 .f32) (b : Fin 4) (h : Fin 8) (t : Fin 4096) : topsT M (ix3 b h t) = M (ix3 b h t) := by
  unfold topsT
  pointwise
  rw [neg_inf, max_eq_right bot_le]

/-- The first number of the folds. -/
theorem first_neg_inf : constant (F := Ideal) S_ .f32 0xFF800000#32 (Shape.Idx.first h_S_) = (⊥ : EReal) := neg_inf

/-- The index that a fold over the last axis reads. -/
theorem lift_ix (g : S4x8x4096x4096.Reduces [3] S4x8x4096) (b : Fin 4) (h : Fin 8) (t s : Fin 4096) : g.lift (ix3 b h t) s = ix4 b h t s := by
  funext a
  apply Fin.ext
  refine (Shape.Reduces.lift_val g (ix3 b h t) s a).trans ?_
  unfold Shape.Reduces.liftVal
  fin_cases a <;> rfl

theorem foldsT_apply (A : FVec Ideal S4x8x4096x4096 .f32) (b : Fin 4) (h : Fin 8) (t : Fin 4096) :
    foldsT A (ix3 b h t) = Finset.univ.sup fun s => A (ix4 b h t s) := by
  unfold foldsT
  rw [Host.reduce_eq_fold_single _ _ _ _ (by decide), first_neg_inf]
  refine (fold_top _ _).trans (Finset.sup_congr rfl fun s _ => congrArg A ?_)
  exact lift_ix _ b h t s

theorem expsT_apply (A : FVec Ideal S4x8x4096x4096 .f32) (M : FVec Ideal S4x8x4096 .f32) (b : Fin 4) (h : Fin 8) (t s : Fin 4096) :
    expsT A M (ix4 b h t s) = Ideal.exp (A (ix4 b h t s) - M (ix3 b h t)) := by
  unfold expsT
  pointwise

theorem probsT_apply (E : FVec Ideal S4x8x4096x4096 .f32) (b : Fin 4) (h : Fin 8) (t s : Fin 4096) :
    probsT E (ix4 b h t s) = Ideal.div (E (ix4 b h t s)) (0 + ∑ s', E (ix4 b h t s')) := by
  rw [zero_add]
  unfold probsT
  pointwise

theorem outT_apply (v : FVec Ideal S4x4096x8x128 .f32) (P : FVec Ideal S4x8x4096x4096 .f32) (j0 : Fin 16384) (j1 : Fin 1024) :
    outT v P (ix2 j0 j1) = ∑ s : Fin 4096, v (ix4 ⟨j0.val / 4096, by omega⟩ s ⟨j1.val / 128, by omega⟩ ⟨j1.val % 128, by omega⟩)
      * P (ix4 ⟨j0.val / 4096, by omega⟩ ⟨j1.val / 128, by omega⟩ ⟨j0.val % 4096, by omega⟩ s) := by
  unfold outT
  pointwise

/-- The reference's result as its stages. -/
theorem ref_eq (m : (ℓ : Loc nD τ sig) → Buf (Elt Ideal) ℓ) (c : Dev nD) :
    res_main_v32 m c = resT (m ((c.tc : Thread nD τ).loc main_arg1)) (m ((c.tc : Thread nD τ).loc main_arg2)) (m ((c.tc : Thread nD τ).loc main_arg3)) (m ((c.tc : Thread nD τ).loc main_arg4)) := by
  unfold res_main_v32 resT outT probsT expsT topsT foldsT maskedT maskT seenT scoresT scaleT prodsT
  rfl

/-- The masked scores of a query. -/
theorem maskedT_apply (q k : FVec Ideal S4x4096x8x128 .f32) (cs : FVec Ideal S4x8x4096 .f32) (b : Fin 4) (h : Fin 8) (t s : Fin 4096) :
    maskedT q k cs (ix4 b h t s) = refRow q k cs b h t s := by
  unfold maskedT
  rw [maskT_apply, seenT_apply, scoresT_apply, prodsT_apply, ← select_row]
  rfl

/-- A result of the reference. -/
theorem resT_apply (q k v : FVec Ideal S4x4096x8x128 .f32) (cs : FVec Ideal S4x8x4096 .f32) (j0 : Fin 16384) (j1 : Fin 1024) :
    resT q k v cs (ix2 j0 j1) = refOut q k v cs
      ⟨j0.val / 4096, by omega⟩ ⟨j0.val % 4096, by omega⟩ ⟨j1.val / 128, by omega⟩ ⟨j1.val % 128, by omega⟩ := by
  unfold resT refOut
  rw [outT_apply]
  simp only [probsT_apply, expsT_apply, topsT_apply, foldsT_apply, maskedT_apply]

end Cert.Proof.Fox

end
-- ==== Proof.HostValue.lean ====
/-
  What the attention kernel's windows read, in terms of the argument arrays: the arrays that the host operations leave,
  read at an index.
-/
module

public import proofs.«01_k».proof.Proof.Finite
public import proofs.«01_k».proof.Proof.Gen.KernelIdeal.Value
public import Idealize.ShloMosaic.Lib.StableHlo.ReadAt

@[expose] public section

set_option maxRecDepth 16384

noncomputable section

namespace Cert.Proof.Fox

open Idealize.ShloMosaic Idealize.ShloMosaic.TcCoe Cert.KernelIdeal Cert.KernelIdeal.Gen

variable (m : (ℓ : Loc nD τ sig) → Buf (Elt Ideal) ℓ) (c : Dev nD)

/-- The values, transposed block by block. -/
theorem v12_apply (j0 : Fin 32) (j1 : Fin 1024) (j2 : Fin 512) : (show EReal from V m c main_v12 (ix3 j0 j1 j2))
    = m ((c : Thread nD τ).loc main_arg3) (ix4 ⟨j0.val / 8, by omega⟩ ⟨j0.val % 8 * 512 + j2.val, by omega⟩ ⟨j1.val / 128, by omega⟩ ⟨j1.val % 128, by omega⟩) := by
  unfold V
  after_reads_at

/-- The running sums, a column for each head. -/
theorem v13_apply (j0 : Fin 4) (j1 : Fin 8) (j2 : Fin 4096) : (show EReal from V m c main_v13 (ix4 j0 j1 j2 0))
    = m ((c : Thread nD τ).loc main_arg4) (ix3 j0 j1 j2) := by
  unfold V
  after_reads_at

/-- The running sums, block by block. -/
theorem v14_apply (j0 : Fin 4) (j1 : Fin 8) (j2 : Fin 8) (j3 : Fin 512) : (show EReal from V m c main_v14 (ix4 j0 j1 j2 j3))
    = m ((c : Thread nD τ).loc main_arg4) (ix3 j0 j1 ⟨j2.val * 512 + j3.val, by omega⟩) := by
  unfold V
  after_reads_at

/-- The scale of the queries, as the host computes it. -/
def qScale : EReal := Ideal.div 1 (Ideal.sqrt (Ideal.ofBits FTy.f32 0x43000000#32) * Ideal.log (Ideal.ofBits FTy.f32 0x40000000#32))

/-- The queries, scaled. -/
theorem v9_q (j0 : Fin 16384) (j1 : Fin 1024) : (show EReal from V m c main_v9 (ix2 j0 ⟨2048 + j1.val, by omega⟩))
    = (show EReal from m ((c : Thread nD τ).loc main_arg1) (ix4 ⟨j0.val / 4096, by omega⟩ ⟨j0.val % 4096, by omega⟩ ⟨j1.val / 128, by omega⟩ ⟨j1.val % 128, by omega⟩)) * qScale := by
  unfold V
  after_reads_at
  after_reads_at
  rfl

/-- The keys. -/
theorem v9_k (j0 : Fin 16384) (j1 : Fin 1024) : (show EReal from V m c main_v9 (ix2 j0 ⟨3072 + j1.val, by omega⟩))
    = m ((c : Thread nD τ).loc main_arg2) (ix4 ⟨j0.val / 4096, by omega⟩ ⟨j0.val % 4096, by omega⟩ ⟨j1.val / 128, by omega⟩ ⟨j1.val % 128, by omega⟩) := by
  unfold V
  after_reads_at
  rw [dif_neg (by show ¬ (3072 + j1.val < 2048); omega), dif_neg (by show ¬ (3072 + j1.val - 2048 < 1024); omega)]
  after_reads_at
  have e : 3072 + j1.val - 2048 - 1024 = j1.val := by omega
  simp only [e]

end Cert.Proof.Fox

end
-- ==== Proof.RowValue.lean ====
/-
  The reference's result from the state of an online softmax: for real queries, keys and running sums the reference's
  masked scores are the kernel's, in the base of the natural logarithm, so the kernel's quotient is the reference's result
  (`quotient_ref`).
-/
module

public import proofs.«01_k».proof.Proof.RefValue
public import proofs.«01_k».proof.Proof.HostValue

@[expose] public section

set_option maxRecDepth 16384

noncomputable section

namespace Cert.Proof.Fox

open Idealize.ShloMosaic

/-- The scale of the queries as a real number. -/
def qs : ℝ := 1 / (Real.sqrt 128 * Real.log 2)

theorem log2_pos : 0 < Real.log 2 := Real.log_pos one_lt_two

theorem sqrt_128 : Ideal.sqrt ((128 : ℝ) : EReal) = ((Real.sqrt 128 : ℝ) : EReal) := by
  have h : ¬ (128 : ℝ) < 0 := by norm_num
  rw [Ideal.sqrt_coe]
  simp only [h, ↓reduceIte]

theorem log_2 : Ideal.log ((2 : ℝ) : EReal) = ((Real.log 2 : ℝ) : EReal) := by
  have h : ¬ (2 : ℝ) ≤ 0 := by norm_num
  rw [Ideal.log_coe]
  simp only [h, ↓reduceIte]

theorem sqrt_pos : 0 < Real.sqrt 128 := Real.sqrt_pos.2 (by norm_num)

theorem qScale_eq : qScale = (qs : EReal) := by
  unfold qScale qs
  rw [c128, c2, sqrt_128, log_2, ← EReal.coe_mul, Ideal.div_coe (mul_pos sqrt_pos log2_pos).ne', one_mul]

theorem refScale_eq : refScale = ((1 / Real.sqrt 128 : ℝ) : EReal) := by
  unfold refScale
  rw [c128, sqrt_128, Ideal.div_coe sqrt_pos.ne', Ideal.ofBits_one_f32, one_mul]

/-- The masked scores of the reference are the kernel's scores. -/
theorem row_eq (q k : FVec Ideal ⟨4, ![4, 4096, 8, 128]⟩ .f32) (cs : FVec Ideal ⟨3, ![4, 8, 4096]⟩ .f32) (b : Fin 4) (h : Fin 8) (t : Fin 4096)
    (qr : Fin 128 → ℝ) (K : ℕ → Fin 128 → ℝ) (C : ℕ → ℝ) (ct : ℝ)
    (hq : ∀ d, q (ix4 b t h d) = (qr d : EReal)) (hk : ∀ (s : Fin 4096) d, k (ix4 b s h d) = (K s.val d : EReal))
    (hc : ∀ s : Fin 4096, cs (ix3 b h s) = (C s.val : EReal)) (hct : cs (ix3 b h t) = (ct : EReal)) :
    Online.IsRow (score (fun d => qr d * qs) K C ct) (t.val + 1) 4096 (refRow q k cs b h t) := by
  intro s
  unfold refRow
  by_cases g : s.val ≤ t.val
  · rw [if_pos g, if_pos (by omega), hct, hc, refScale_eq]
    simp only [hq, hk, ← EReal.coe_mul, ← Online.coe_sum]
    rw [← EReal.coe_add, ← EReal.coe_sub]
    congr 1
    unfold score qs
    have hl := log2_pos.ne'
    have hs := sqrt_pos.ne'
    have e : (∑ d, K s.val d * (qr d * (1 / (Real.sqrt 128 * Real.log 2)))) = (∑ d, qr d * K s.val d) * (1 / (Real.sqrt 128 * Real.log 2)) := by
      rw [Finset.sum_mul]
      exact Finset.sum_congr rfl fun d _ => by ring
    rw [e]
    field_simp
    ring
  · rw [if_neg g, if_neg (by omega)]

/-- The quotient of a softmax's state after a query's keys is the reference's result. -/
theorem quotient_ref (q k v : FVec Ideal ⟨4, ![4, 4096, 8, 128]⟩ .f32) (cs : FVec Ideal ⟨3, ![4, 8, 4096]⟩ .f32) (b : Fin 4) (h : Fin 8) (t : Fin 4096)
    (qr : Fin 128 → ℝ) (K : ℕ → Fin 128 → ℝ) (C : ℕ → ℝ) (ct : ℝ) (V : ℕ → EReal) (d : Fin 128)
    (hq : ∀ d, q (ix4 b t h d) = (qr d : EReal)) (hk : ∀ (s : Fin 4096) d, k (ix4 b s h d) = (K s.val d : EReal))
    (hc : ∀ s : Fin 4096, cs (ix3 b h s) = (C s.val : EReal)) (hct : cs (ix3 b h t) = (ct : EReal))
    (hv : ∀ s : Fin 4096, v (ix4 b s h d) = V s.val) (m l a : EReal)
    (hI : Online.Inv (score (fun d => qr d * qs) K C ct) (t.val + 1) m l)
    (hA : Online.AInv (score (fun d => qr d * qs) K C ct) V (t.val + 1) m a) :
    Ideal.div a l = refOut q k v cs b t h d := by
  rw [Online.quotient_eq hI hA (by omega) (by omega : t.val + 1 ≤ 4096) _ (row_eq q k cs b h t qr K C ct hq hk hc hct)]
  unfold refOut
  simp only [hv]

end Cert.Proof.Fox

end
-- ==== Proof.LoopValue.lean ====
/-
  The attention kernel's loop over the blocks of keys before the diagonal.

  The running state of the four heads lies in three buffers, a row per head.  `trip_rows` says what one trip leaves in
  the rows of a head: one block taken into what the rows held (HeadStep.lean).  `loop_good` follows the trips: before trip
  `k` each query's state is the softmax's after the first `512 k` keys.
-/
module

public import proofs.«01_k».proof.Proof.Gen.KernelIdeal.Loops
public import proofs.«01_k».proof.Proof.HeadStep
public import Idealize.ShloMosaic.Lib.Pipeline.Value

@[expose] public section

set_option maxRecDepth 16384

noncomputable section

namespace Cert.Proof.Fox

open Idealize.ShloMosaic Cert.KernelIdeal Cert.KernelIdeal.Gen

section Rows

variable {sig : RefSig} {κ : Kind} {sp : Space} {s : Shape} {e : EltTy} {Val : EltTy → Type}

/-- A load of the newest piece's own rectangle reads its payload. -/
theorem readAt_hit (v : View sig κ sp s e) (f : v.ty.Contents Val) (r : Rect s) (w : r.shape.Idx → Val e) (L : List (View.Piece Val s e)) :
    v.readAt Val r.toLoadRect (v.writes Val f (⟨r, w⟩ :: L)) = w := by
  rw [View.readAt_eq_ld]
  funext x
  exact View.read_writes_cons_emb v f r w L x

/-- A load that meets no cell of the newest piece reads the earlier ones. -/
theorem readAt_miss (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext x
  rw [View.readAt_apply, View.readAt_apply, View.writes_cons]
  exact View.read_slice_write_of_not_mem _ _ _ _ (by rw [Rect.map_emb_univ]; exact LoadRect.idx_not_mem_of_disj h x)

end Rows

theorem rowM_inb : ∀ h : Fin 4, ∀ a, (![h.val, 0, 0] : Fin 3 → ℕ) a + S1x1x512.size a ≤ S4x1x512.size a := by decide
theorem rowA_inb : ∀ h : Fin 4, ∀ a, (![h.val, 0, 0] : Fin 3 → ℕ) a + S1x128x512.size a ≤ S4x128x512.size a := by decide

/-- Head `h`'s rectangle in a buffer of one row per head. -/
abbrev recM (h : Fin 4) : Rect S4x1x512 := Rect.unit ![h.val, 0, 0] S1x1x512.size (rowM_inb h)

/-- Head `h`'s rectangle in the buffer of the values' sums. -/
abbrev recA (h : Fin 4) : Rect S4x128x512 := Rect.unit ![h.val, 0, 0] S1x128x512.size (rowA_inb h)

/-- Head `h`'s row of a buffer of one row per head. -/
abbrev rowM (v : View sig .tc .vmem S4x1x512 .f32) (h : Fin 4) (f : v.ty.Contents (Elt Ideal)) : FVec Ideal S1x1x512 .f32 :=
  v.readAt (Elt Ideal) (recM h).toLoadRect f

/-- Head `h`'s rows of the buffer of the values' sums. -/
abbrev rowA (v : View sig .tc .vmem S4x128x512 .f32) (h : Fin 4) (f : v.ty.Contents (Elt Ideal)) : FVec Ideal S1x128x512 .f32 :=
  v.readAt (Elt Ideal) (recA h).toLoadRect f

/-- Four stores, one per head, read back. -/
theorem rowM_four (v : View sig .tc .vmem S4x1x512 .f32) (f : v.ty.Contents (Elt Ideal)) (w : Fin 4 → FVec Ideal S1x1x512 .f32)
    (L : List (View.Piece (Elt Ideal) S4x1x512 .f32)) (h : Fin 4) :
    rowM v h (v.writes (Elt Ideal) f (⟨recM 3, w 3⟩ :: ⟨recM 2, w 2⟩ :: ⟨recM 1, w 1⟩ :: ⟨recM 0, w 0⟩ :: L)) = w h := by
  fin_cases h
  · exact (readAt_miss v f _ _ _ _ (by decide)).trans ((readAt_miss v f _ _ _ _ (by decide)).trans
      ((readAt_miss v f _ _ _ _ (by decide)).trans (readAt_hit v f _ _ _)))
  · exact (readAt_miss v f _ _ _ _ (by decide)).trans ((readAt_miss v f _ _ _ _ (by decide)).trans (readAt_hit v f _ _ _))
  · exact (readAt_miss v f _ _ _ _ (by decide)).trans (readAt_hit v f _ _ _)
  · exact readAt_hit v f _ _ _

/-- Four stores, one per head, read back. -/
theorem rowA_four (v : View sig .tc .vmem S4x128x512 .f32) (f : v.ty.Contents (Elt Ideal)) (w : Fin 4 → FVec Ideal S1x128x512 .f32)
    (L : List (View.Piece (Elt Ideal) S4x128x512 .f32)) (h : Fin 4) :
    rowA v h (v.writes (Elt Ideal) f (⟨recA 3, w 3⟩ :: ⟨recA 2, w 2⟩ :: ⟨recA 1, w 1⟩ :: ⟨recA 0, w 0⟩ :: L)) = w h := by
  fin_cases h
  · exact (readAt_miss v f _ _ _ _ (by decide)).trans ((readAt_miss v f _ _ _ _ (by decide)).trans
      ((readAt_miss v f _ _ _ _ (by decide)).trans (readAt_hit v f _ _ _)))
  · exact (readAt_miss v f _ _ _ _ (by decide)).trans ((readAt_miss v f _ _ _ _ (by decide)).trans (readAt_hit v f _ _ _))
  · exact (readAt_miss v f _ _ _ _ (by decide)).trans (readAt_hit v f _ _ _)
  · exact readAt_hit v f _ _ _

variable (𝒱 : Variants) (c : Dev nD) (bd : Option 𝒱.V) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S1x4x8x512 .f32) (harg6 : arg6.IsWhole)
  (arg7 : Memref sig .tc .vmem S1x4x4096x1 .f32) (harg7 : arg7.IsWhole)
  (arg8 : Memref sig .tc .vmem S512x512 .bf16) (harg8 : arg8.IsWhole)
  (arg9 : Memref sig .tc .vmem S4x1x512 .f32) (harg9 : arg9.IsWhole)
  (arg10 : Memref sig .tc .vmem S4x1x512 .f32) (harg10 : arg10.IsWhole)
  (arg11 : Memref sig .tc .vmem S4x128x512 .f32) (harg11 : arg11.IsWhole)
  (arg2 : BitVec 32) (v13 v15 v17 v19 : FVec Ideal S512x128 .bf16) (v24 : FVec Ideal S1x512 .f32) (v26 v31 v36 : Vec Ideal S1x1x1x512 .f32)

/-- The four heads' keys of block `k`. -/
abbrev keys (X4 : BufTy.Contents (Elt Ideal) arg4.view.ty) (k : Fin (k0_t1_loop i).trips) : Fin 4 → FVec Ideal S512x128 .bf16 :=
  ![arg4.view.readAt (Elt Ideal) (Rect.unit (s := S4096x512) (k0_off5 i k) S512x128.size (k0_off5_inb i k)).toLoadRect X4,
    arg4.view.readAt (Elt Ideal) (Rect.unit (s := S4096x512) (k0_off7 i k) S512x128.size (k0_off7_inb i k)).toLoadRect X4,
    arg4.view.readAt (Elt Ideal) (Rect.unit (s := S4096x512) (k0_off9 i k) S512x128.size (k0_off9_inb i k)).toLoadRect X4,
    arg4.view.readAt (Elt Ideal) (Rect.unit (s := S4096x512) (k0_off11 i k) S512x128.size (k0_off11_inb i k)).toLoadRect X4]

/-- The four heads' running sums at the keys of block `k`. -/
abbrev sums (X7 : BufTy.Contents (Elt Ideal) arg7.view.ty) (k : Fin (k0_t1_loop i).trips) : Fin 4 → FVec Ideal S1x1x512x1 .f32 :=
  ![arg7.view.readAt (Elt Ideal) (Rect.unit (s := S1x4x4096x1) (k0_off6 i k) S1x1x512x1.size (k0_off6_inb i k)).toLoadRect X7,
    arg7.view.readAt (Elt Ideal) (Rect.unit (s := S1x4x4096x1) (k0_off8 i k) S1x1x512x1.size (k0_off8_inb i k)).toLoadRect X7,
    arg7.view.readAt (Elt Ideal) (Rect.unit (s := S1x4x4096x1) (k0_off10 i k) S1x1x512x1.size (k0_off10_inb i k)).toLoadRect X7,
    arg7.view.readAt (Elt Ideal) (Rect.unit (s := S1x4x4096x1) (k0_off12 i k) S1x1x512x1.size (k0_off12_inb i k)).toLoadRect X7]

/-- The four heads' values of block `k`. -/
abbrev vals (X5 : BufTy.Contents (Elt Ideal) arg5.view.ty) (k : Fin (k0_t1_loop i).trips) : Fin 4 → FVec Ideal S1x128x512 .bf16 :=
  ![arg5.view.readAt (Elt Ideal) (Rect.unit (s := S8x512x512) (k0_off13 i k) S1x128x512.size (k0_off13_inb i k)).toLoadRect X5,
    arg5.view.readAt (Elt Ideal) (Rect.unit (s := S8x512x512) (k0_off14 i k) S1x128x512.size (k0_off14_inb i k)).toLoadRect X5,
    arg5.view.readAt (Elt Ideal) (Rect.unit (s := S8x512x512) (k0_off15 i k) S1x128x512.size (k0_off15_inb i k)).toLoadRect X5,
    arg5.view.readAt (Elt Ideal) (Rect.unit (s := S8x512x512) (k0_off16 i k) S1x128x512.size (k0_off16_inb i k)).toLoadRect X5]

/-- The four heads' scores of block `k`. -/
abbrev tiles (X4 : BufTy.Contents (Elt Ideal) arg4.view.ty) (X7 : BufTy.Contents (Elt Ideal) arg7.view.ty)
    (k : Fin (k0_t1_loop i).trips) (h : Fin 4) : FVec Ideal S512x512 .f32 :=
  tile ((![v13, v15, v17, v19] : Fin 4 → FVec Ideal S512x128 .bf16) h) (keys i arg4 X4 k h) (sums i arg7 X7 k h)

/-- The four heads' own running sums, in base 2. -/
abbrev owns (h : Fin 4) : FVec Ideal S1x512 .f32 := (![v24, k0_pay79 v26, k0_pay80 v31, k0_pay81 v36] : Fin 4 → FVec Ideal S1x512 .f32) h

/-- What one trip leaves in a head's rows: one block taken into what they held. -/
theorem trip_rows (X4 : BufTy.Contents (Elt Ideal) arg4.view.ty) (X5 : BufTy.Contents (Elt Ideal) arg5.view.ty) (X7 : BufTy.Contents (Elt Ideal) arg7.view.ty)
    (k : Fin (k0_t1_loop i).trips) (f9 : BufTy.Contents (Elt Ideal) arg9.view.ty) (f10 : BufTy.Contents (Elt Ideal) arg10.view.ty) (f11 : BufTy.Contents (Elt Ideal) arg11.view.ty) (h : Fin 4) :
    rowM arg9.view h (arg9.view.writes (Elt Ideal) f9 (tripL_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 k f9 f10 f11).1)
        = hm (owns v24 v26 v31 v36 h) (tiles i arg4 arg7 v13 v15 v17 v19 X4 X7 k h) (rowM arg9.view h f9)
    ∧ rowM arg10.view h (arg10.view.writes (Elt Ideal) f10 (tripL_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 k f9 f10 f11).2.1)
        = hl (owns v24 v26 v31 v36 h) (tiles i arg4 arg7 v13 v15 v17 v19 X4 X7 k h) (rowM arg9.view h f9) (rowM arg10.view h f10)
    ∧ rowA arg11.view h (arg11.view.writes (Elt Ideal) f11 (tripL_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 k f9 f10 f11).2.2)
        = ha (owns v24 v26 v31 v36 h) (tiles i arg4 arg7 v13 v15 v17 v19 X4 X7 k h) (rowM arg9.view h f9) (rowA arg11.view h f11)
            (vals i arg5 X5 k h) := by
  unfold tripL_k0_t1 trip_k0_t1
  dsimp only
  refine ⟨(rowM_four arg9.view f9 (fun h => hm (owns v24 v26 v31 v36 h) (tiles i arg4 arg7 v13 v15 v17 v19 X4 X7 k h) (rowM arg9.view h f9)) [] h),
    (rowM_four arg10.view f10 (fun h => hl (owns v24 v26 v31 v36 h) (tiles i arg4 arg7 v13 v15 v17 v19 X4 X7 k h) (rowM arg9.view h f9) (rowM arg10.view h f10)) [] h),
    (rowA_four arg11.view f11 (fun h => ha (owns v24 v26 v31 v36 h) (tiles i arg4 arg7 v13 v15 v17 v19 X4 X7 k h) (rowM arg9.view h f9) (rowA arg11.view h f11) (vals i arg5 X5 k h)) [] h)⟩

/-- The three buffers after the trips before `k`, from what they held when the loop began. -/
abbrev st9 (X4 : BufTy.Contents (Elt Ideal) arg4.view.ty) (X5 : BufTy.Contents (Elt Ideal) arg5.view.ty) (X7 : BufTy.Contents (Elt Ideal) arg7.view.ty) (f9 : BufTy.Contents (Elt Ideal) arg9.view.ty) (f10 : BufTy.Contents (Elt Ideal) arg10.view.ty) (f11 : BufTy.Contents (Elt Ideal) arg11.view.ty) (k : ℕ) : BufTy.Contents (Elt Ideal) arg9.view.ty :=
  arg9.view.writes (Elt Ideal) f9 (pb_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k).1

abbrev st10 (X4 : BufTy.Contents (Elt Ideal) arg4.view.ty) (X5 : BufTy.Contents (Elt Ideal) arg5.view.ty) (X7 : BufTy.Contents (Elt Ideal) arg7.view.ty) (f9 : BufTy.Contents (Elt Ideal) arg9.view.ty) (f10 : BufTy.Contents (Elt Ideal) arg10.view.ty) (f11 : BufTy.Contents (Elt Ideal) arg11.view.ty) (k : ℕ) : BufTy.Contents (Elt Ideal) arg10.view.ty :=
  arg10.view.writes (Elt Ideal) f10 (pb_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k).2.1

abbrev st11 (X4 : BufTy.Contents (Elt Ideal) arg4.view.ty) (X5 : BufTy.Contents (Elt Ideal) arg5.view.ty) (X7 : BufTy.Contents (Elt Ideal) arg7.view.ty) (f9 : BufTy.Contents (Elt Ideal) arg9.view.ty) (f10 : BufTy.Contents (Elt Ideal) arg10.view.ty) (f11 : BufTy.Contents (Elt Ideal) arg11.view.ty) (k : ℕ) : BufTy.Contents (Elt Ideal) arg11.view.ty :=
  arg11.view.writes (Elt Ideal) f11 (pb_k0_t1 (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k).2.2

/-- Before trip `k` a head's state at a query is the softmax's after the first `512 k` keys. -/
theorem loop_good (X4 : BufTy.Contents (Elt Ideal) arg4.view.ty) (X5 : BufTy.Contents (Elt Ideal) arg5.view.ty) (X7 : BufTy.Contents (Elt Ideal) arg7.view.ty) (f9 : BufTy.Contents (Elt Ideal) arg9.view.ty) (f10 : BufTy.Contents (Elt Ideal) arg10.view.ty) (f11 : BufTy.Contents (Elt Ideal) arg11.view.ty)
    (h : Fin 4) (X : ℕ → ℝ) (V : Fin 128 → ℕ → EReal) (CQ : ℝ) (cc : Fin 512)
    (h0 : Good X V 0 (rowM arg9.view h f9) (rowM arg10.view h f10) (rowA arg11.view h f11) cc)
    (hcq : owns v24 v26 v31 v36 h (ix2 0 cc) = (CQ : EReal))
    (ht : ∀ (k : Fin (k0_t1_loop i).trips) (r : Fin 512), tiles i arg4 arg7 v13 v15 v17 v19 X4 X7 k h (ix2 r cc)
      = ((X (512 * k.val + r.val) - CQ : ℝ) : EReal))
    (hv : ∀ (k : Fin (k0_t1_loop i).trips) (d : Fin 128) (r : Fin 512), vals i arg5 X5 k h (ix3 0 d r) = V d (512 * k.val + r.val)) :
    ∀ k ≤ (k0_t1_loop i).trips, Good X V (512 * k) (rowM arg9.view h (st9 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k))
      (rowM arg10.view h (st10 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k)) (rowA arg11.view h (st11 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k)) cc
  | 0, _ => h0
  | k + 1, hk => by
    have ih := loop_good X4 X5 X7 f9 f10 f11 h X V CQ cc h0 hcq ht hv k (by omega)
    have hs := pb_k0_t1_succ (F := Ideal) 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 ⟨k, hk⟩
    obtain ⟨e9, e10, e11⟩ := trip_rows 𝒱 c bd i arg3 harg3 arg4 harg4 arg5 harg5 arg6 harg6 arg7 harg7 arg8 harg8 arg9 harg9 arg10 harg10 arg11 harg11 arg2 v13 v15 v17 v19 v24 v26 v31 v36 X4 X5 X7 ⟨k, hk⟩ (st9 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k) (st10 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k) (st11 𝒱 c bd i arg3 harg3 arg4 harg4 arg5 harg5 arg6 harg6 arg7 harg7 arg8 harg8 arg9 harg9 arg10 harg10 arg11 harg11 arg2 v13 v15 v17 v19 v24 v26 v31 v36 X4 X5 X7 f9 f10 f11 k) h
    unfold st9 st10 st11
    rw [hs]
    dsimp only
    rw [View.writes_append, View.writes_append, View.writes_append]
    unfold st9 st10 st11 at e9 e10 e11 ih
    rw [e9, e10, e11]
    refine ih.step (by omega) (by omega) hcq (fun r => ?_) (hv ⟨k, hk⟩)
    rw [if_pos (by omega)]
    exact ht ⟨k, hk⟩ r

end Cert.Proof.Fox

end
-- ==== Proof.Body.lean ====
/-
  What one grid point of the attention kernel writes out, as the state after the blocks before the diagonal with the
  diagonal's block taken in and the values' sums divided by the weights' (`out_eq`).
-/
module

public import proofs.«01_k».proof.Proof.Gen.KernelIdeal.Frame
public import proofs.«01_k».proof.Proof.LoopValue

@[expose] public section

set_option maxRecDepth 16384

noncomputable section

namespace Cert.Proof.Fox

open Idealize.ShloMosaic Cert.KernelIdeal Cert.KernelIdeal.Gen

theorem recO_inb : ∀ h : Fin 4, ∀ a, (![0, 128 * h.val] : Fin 2 → ℕ) a + S512x128.size a ≤ S512x512.size a := by decide

/-- Head `h`'s columns of a block of the result. -/
abbrev recO (h : Fin 4) : Rect S512x512 := Rect.unit ![0, 128 * h.val] S512x128.size (recO_inb h)

/-- Four stores, one per head, read back through a head's columns. -/
theorem readO_four (v : View sig .tc .vmem S512x512 .bf16) (f : v.ty.Contents (Elt Ideal)) (w : Fin 4 → FVec Ideal S512x128 .bf16)
    (L : List (View.Piece (Elt Ideal) S512x512 .bf16)) (h : Fin 4) :
    v.readAt (Elt Ideal) (recO h).toLoadRect
      (v.writes (Elt Ideal) f (⟨recO 3, w 3⟩ :: ⟨recO 2, w 2⟩ :: ⟨recO 1, w 1⟩ :: ⟨recO 0, w 0⟩ :: L)) = w h := by
  fin_cases h
  · exact (readAt_miss v f _ _ _ _ (by decide)).trans ((readAt_miss v f _ _ _ _ (by decide)).trans
      ((readAt_miss v f _ _ _ _ (by decide)).trans (readAt_hit v f _ _ _)))
  · exact (readAt_miss v f _ _ _ _ (by decide)).trans ((readAt_miss v f _ _ _ _ (by decide)).trans (readAt_hit v f _ _ _))
  · exact (readAt_miss v f _ _ _ _ (by decide)).trans (readAt_hit v f _ _ _)
  · exact readAt_hit v f _ _ _

variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S1x4x8x512 .f32) (harg6 : arg6.IsWhole)
  (arg7 : Memref sig .tc .vmem S1x4x4096x1 .f32) (harg7 : arg7.IsWhole)
  (arg8 : Memref sig .tc .vmem S512x512 .bf16) (harg8 : arg8.IsWhole)
  (arg9 : Memref sig .tc .vmem S4x1x512 .f32) (harg9 : arg9.IsWhole)
  (arg10 : Memref sig .tc .vmem S4x1x512 .f32) (harg10 : arg10.IsWhole)
  (arg11 : Memref sig .tc .vmem S4x128x512 .f32) (harg11 : arg11.IsWhole)
  (x0 : Vec Ideal S512x512 .bf16) (x1 : Vec Ideal S4096x512 .bf16) (x2 : Vec Ideal S8x512x512 .bf16) (x3 : Vec Ideal S1x4x8x512 .f32) (x4 : Vec Ideal S1x4x4096x1 .f32)

/-- The four heads' queries. -/
abbrev qrow : Fin 4 → FVec Ideal S512x128 .bf16 :=
  ![k0_pay74 (arg3.view.readAt (Elt Ideal) (Rect.unit (s := S512x512) ![0, 0] S512x128.size inb_S512x512_S512x128_0_0).toLoadRect (harg3.unread x0)),
    k0_pay75 (arg3.view.readAt (Elt Ideal) (Rect.unit (s := S512x512) ![0, 128] S512x128.size inb_S512x512_S512x128_0_128).toLoadRect (harg3.unread x0)),
    k0_pay76 (arg3.view.readAt (Elt Ideal) (Rect.unit (s := S512x512) ![0, 256] S512x128.size inb_S512x512_S512x128_0_256).toLoadRect (harg3.unread x0)),
    k0_pay77 (arg3.view.readAt (Elt Ideal) (Rect.unit (s := S512x512) ![0, 384] S512x128.size inb_S512x512_S512x128_0_384).toLoadRect (harg3.unread x0))]

/-- The four heads' own running sums, as loaded. -/
abbrev crow : Fin 4 → FVec Ideal S1x1x1x512 .f32 :=
  ![arg6.view.readAt (Elt Ideal) (Rect.unit (s := S1x4x8x512) (k0_off1 i) S1x1x1x512.size (k0_off1_inb i)).toLoadRect (harg6.unread x3),
    arg6.view.readAt (Elt Ideal) (Rect.unit (s := S1x4x8x512) (k0_off2 i) S1x1x1x512.size (k0_off2_inb i)).toLoadRect (harg6.unread x3),
    arg6.view.readAt (Elt Ideal) (Rect.unit (s := S1x4x8x512) (k0_off3 i) S1x1x1x512.size (k0_off3_inb i)).toLoadRect (harg6.unread x3),
    arg6.view.readAt (Elt Ideal) (Rect.unit (s := S1x4x8x512) (k0_off4 i) S1x1x1x512.size (k0_off4_inb i)).toLoadRect (harg6.unread x3)]

/-- The four heads' keys of the diagonal's block. -/
abbrev keysD : Fin 4 → FVec Ideal S512x128 .bf16 :=
  ![arg4.view.readAt (Elt Ideal) (Rect.unit (s := S4096x512) (k0_off29 i) S512x128.size (k0_off29_inb i)).toLoadRect (harg4.unread x1),
    arg4.view.readAt (Elt Ideal) (Rect.unit (s := S4096x512) (k0_off31 i) S512x128.size (k0_off31_inb i)).toLoadRect (harg4.unread x1),
    arg4.view.readAt (Elt Ideal) (Rect.unit (s := S4096x512) (k0_off33 i) S512x128.size (k0_off33_inb i)).toLoadRect (harg4.unread x1),
    arg4.view.readAt (Elt Ideal) (Rect.unit (s := S4096x512) (k0_off35 i) S512x128.size (k0_off35_inb i)).toLoadRect (harg4.unread x1)]

/-- The four heads' running sums at the keys of the diagonal's block. -/
abbrev sumsD : Fin 4 → FVec Ideal S1x1x512x1 .f32 :=
  ![arg7.view.readAt (Elt Ideal) (Rect.unit (s := S1x4x4096x1) (k0_off30 i) S1x1x512x1.size (k0_off30_inb i)).toLoadRect (harg7.unread x4),
    arg7.view.readAt (Elt Ideal) (Rect.unit (s := S1x4x4096x1) (k0_off32 i) S1x1x512x1.size (k0_off32_inb i)).toLoadRect (harg7.unread x4),
    arg7.view.readAt (Elt Ideal) (Rect.unit (s := S1x4x4096x1) (k0_off34 i) S1x1x512x1.size (k0_off34_inb i)).toLoadRect (harg7.unread x4),
    arg7.view.readAt (Elt Ideal) (Rect.unit (s := S1x4x4096x1) (k0_off36 i) S1x1x512x1.size (k0_off36_inb i)).toLoadRect (harg7.unread x4)]

/-- The four heads' values of the diagonal's block. -/
abbrev valsD : Fin 4 → FVec Ideal S1x128x512 .bf16 :=
  ![arg5.view.readAt (Elt Ideal) (Rect.unit (s := S8x512x512) (k0_off37 i) S1x128x512.size (k0_off37_inb i)).toLoadRect (harg5.unread x2),
    arg5.view.readAt (Elt Ideal) (Rect.unit (s := S8x512x512) (k0_off38 i) S1x128x512.size (k0_off38_inb i)).toLoadRect (harg5.unread x2),
    arg5.view.readAt (Elt Ideal) (Rect.unit (s := S8x512x512) (k0_off39 i) S1x128x512.size (k0_off39_inb i)).toLoadRect (harg5.unread x2),
    arg5.view.readAt (Elt Ideal) (Rect.unit (s := S8x512x512) (k0_off40 i) S1x128x512.size (k0_off40_inb i)).toLoadRect (harg5.unread x2)]

/-- The four heads' own running sums, in base 2. -/
abbrev ownD (h : Fin 4) : FVec Ideal S1x512 .f32 :=
  owns (k0_pay78 (crow i arg6 harg6 x3 0)) (crow i arg6 harg6 x3 1) (crow i arg6 harg6 x3 2) (crow i arg6 harg6 x3 3) h

/-- The four heads' scores of the diagonal's block. -/
abbrev tileD (h : Fin 4) : FVec Ideal S512x512 .f32 :=
  masked (tile (qrow arg3 harg3 x0 h) (keysD i arg4 harg4 x1 h) (sumsD i arg7 harg7 x4 h))

/-- The buffer of the greatest scores after the loop. -/
abbrev end9 : BufTy.Contents (Elt Ideal) arg9.view.ty := st9 Variants.none c none i arg3 harg3 arg4 harg4 arg5 harg5 arg6 harg6 arg7 harg7 arg8 harg8 arg9 harg9 arg10 harg10 arg11 harg11 (BitVec.ofNat 32 (i 2).val) (qrow arg3 harg3 x0 0) (qrow arg3 harg3 x0 1) (qrow arg3 harg3 x0 2) (qrow arg3 harg3 x0 3) (k0_pay78 (crow i arg6 harg6 x3 0)) (crow i arg6 harg6 x3 1) (crow i arg6 harg6 x3 2) (crow i arg6 harg6 x3 3) (harg4.unread x1) (harg5.unread x2) (harg7.unread x4) (arg9.view.writes (Elt Ideal) arg9.view.junk [⟨Rect.unit ![0, 0, 0] S4x1x512.size inb_S4x1x512_S4x1x512_0_0_0, k0_pay71 (F := Ideal)⟩]) (arg10.view.writes (Elt Ideal) arg10.view.junk [⟨Rect.unit ![0, 0, 0] S4x1x512.size inb_S4x1x512_S4x1x512_0_0_0, k0_pay72 (F := Ideal)⟩]) (arg11.view.writes (Elt Ideal) arg11.view.junk [⟨Rect.unit ![0, 0, 0] S4x128x512.size inb_S4x128x512_S4x128x512_0_0_0, k0_pay73 (F := Ideal)⟩]) (k0_t1_loop i).trips

/-- The buffer of the weights' sums after the loop. -/
abbrev end10 : BufTy.Contents (Elt Ideal) arg10.view.ty := st10 Variants.none c none i arg3 harg3 arg4 harg4 arg5 harg5 arg6 harg6 arg7 harg7 arg8 harg8 arg9 harg9 arg10 harg10 arg11 harg11 (BitVec.ofNat 32 (i 2).val) (qrow arg3 harg3 x0 0) (qrow arg3 harg3 x0 1) (qrow arg3 harg3 x0 2) (qrow arg3 harg3 x0 3) (k0_pay78 (crow i arg6 harg6 x3 0)) (crow i arg6 harg6 x3 1) (crow i arg6 harg6 x3 2) (crow i arg6 harg6 x3 3) (harg4.unread x1) (harg5.unread x2) (harg7.unread x4) (arg9.view.writes (Elt Ideal) arg9.view.junk [⟨Rect.unit ![0, 0, 0] S4x1x512.size inb_S4x1x512_S4x1x512_0_0_0, k0_pay71 (F := Ideal)⟩]) (arg10.view.writes (Elt Ideal) arg10.view.junk [⟨Rect.unit ![0, 0, 0] S4x1x512.size inb_S4x1x512_S4x1x512_0_0_0, k0_pay72 (F := Ideal)⟩]) (arg11.view.writes (Elt Ideal) arg11.view.junk [⟨Rect.unit ![0, 0, 0] S4x128x512.size inb_S4x128x512_S4x128x512_0_0_0, k0_pay73 (F := Ideal)⟩]) (k0_t1_loop i).trips

/-- The buffer of the values' sums after the loop. -/
abbrev end11 : BufTy.Contents (Elt Ideal) arg11.view.ty := st11 Variants.none c none i arg3 harg3 arg4 harg4 arg5 harg5 arg6 harg6 arg7 harg7 arg8 harg8 arg9 harg9 arg10 harg10 arg11 harg11 (BitVec.ofNat 32 (i 2).val) (qrow arg3 harg3 x0 0) (qrow arg3 harg3 x0 1) (qrow arg3 harg3 x0 2) (qrow arg3 harg3 x0 3) (k0_pay78 (crow i arg6 harg6 x3 0)) (crow i arg6 harg6 x3 1) (crow i arg6 harg6 x3 2) (crow i arg6 harg6 x3 3) (harg4.unread x1) (harg5.unread x2) (harg7.unread x4) (arg9.view.writes (Elt Ideal) arg9.view.junk [⟨Rect.unit ![0, 0, 0] S4x1x512.size inb_S4x1x512_S4x1x512_0_0_0, k0_pay71 (F := Ideal)⟩]) (arg10.view.writes (Elt Ideal) arg10.view.junk [⟨Rect.unit ![0, 0, 0] S4x1x512.size inb_S4x1x512_S4x1x512_0_0_0, k0_pay72 (F := Ideal)⟩]) (arg11.view.writes (Elt Ideal) arg11.view.junk [⟨Rect.unit ![0, 0, 0] S4x128x512.size inb_S4x128x512_S4x128x512_0_0_0, k0_pay73 (F := Ideal)⟩]) (k0_t1_loop i).trips

/-- The second loop makes no trip. -/
theorem pb_k0_t2_none (arg2 : BitVec 32) (v13 v15 v17 v19 : FVec Ideal S512x128 .bf16) (v24 : FVec Ideal S1x512 .f32)
    (v26 v31 v36 : Vec Ideal S1x1x1x512 .f32) (v44 : BitVec 32) (X4 : BufTy.Contents (Elt Ideal) arg4.view.ty)
    (X5 : BufTy.Contents (Elt Ideal) arg5.view.ty) (X7 : BufTy.Contents (Elt Ideal) arg7.view.ty)
    (f9 : BufTy.Contents (Elt Ideal) arg9.view.ty) (f10 : BufTy.Contents (Elt Ideal) arg10.view.ty) (f11 : BufTy.Contents (Elt Ideal) arg11.view.ty) :
    pb_k0_t2 (F := Ideal) Variants.none c none i arg3 harg3 arg4 harg4 arg5 harg5 arg6 harg6 arg7 harg7 arg8 harg8 arg9 harg9 arg10 harg10 arg11 harg11 arg2 v13 v15 v17 v19 v24 v26 v31 v36 v44 X4 X5 X7 f9 f10 f11
      (Scf.trips (k0_t2_loop i).lb (k0_t2_loop i).ub (k0_t2_loop i).st) = ([], [], []) := by
  have h : Scf.trips (k0_t2_loop i).lb (k0_t2_loop i).ub (k0_t2_loop i).st = 0 := Nat.le_zero.mp (k0_t2_abs i).2.1
  rw [h]
  rfl

/-- The third head's quotient is the others'. -/
theorem hout_two (a : FVec Ideal S1x128x512 .f32) (l : FVec Ideal S1x1x512 .f32) : k0_pay1 (k0_pay128 a) l = hout a l := rfl

/-- A load after a loop that wrote nothing, after a loop that wrote `L`, after the first stores. -/
theorem after_loops {s : Shape} {e : EltTy} (v : View sig .tc .vmem s e) (f : v.ty.Contents (Elt Ideal)) (B : LoadRect s)
    (L₂ L L₀ : List (View.Piece (Elt Ideal) s e)) (h : L₂ = []) :
    v.readAt (Elt Ideal) B (v.writes (Elt Ideal) f (L₂ ++ (L ++ L₀))) = v.readAt (Elt Ideal) B (v.writes (Elt Ideal) (v.writes (Elt Ideal) f L₀) L) := by
  rw [h, List.nil_append, View.writes_append]

set_option maxHeartbeats 4000000 in
/-- A head's columns of what the grid point writes out. -/
theorem out_eq (h : Fin 4) (r : Fin 512) (d : Fin 128) :
    out0_A_5 c i arg3 harg3 arg4 harg4 arg5 harg5 arg6 harg6 arg7 harg7 arg8 harg8 arg9 harg9 arg10 harg10 arg11 harg11 x0 x1 x2 x3 x4 ((recO h).toLoadRect.idx (ix2 r d))
      = hout
          (ha (ownD i arg6 harg6 x3 h) (tileD i arg3 harg3 arg4 harg4 arg7 harg7 x0 x1 x4 h)
            (rowM arg9.view h (end9 c i arg3 harg3 arg4 harg4 arg5 harg5 arg6 harg6 arg7 harg7 arg8 harg8 arg9 harg9 arg10 harg10 arg11 harg11 x0 x1 x2 x3 x4)) (rowA arg11.view h (end11 c i arg3 harg3 arg4 harg4 arg5 harg5 arg6 harg6 arg7 harg7 arg8 harg8 arg9 harg9 arg10 harg10 arg11 harg11 x0 x1 x2 x3 x4)) (valsD i arg5 harg5 x2 h))
          (hl (ownD i arg6 harg6 x3 h) (tileD i arg3 harg3 arg4 harg4 arg7 harg7 x0 x1 x4 h)
            (rowM arg9.view h (end9 c i arg3 harg3 arg4 harg4 arg5 harg5 arg6 harg6 arg7 harg7 arg8 harg8 arg9 harg9 arg10 harg10 arg11 harg11 x0 x1 x2 x3 x4)) (rowM arg10.view h (end10 c i arg3 harg3 arg4 harg4 arg5 harg5 arg6 harg6 arg7 harg7 arg8 harg8 arg9 harg9 arg10 harg10 arg11 harg11 x0 x1 x2 x3 x4))) (ix2 r d) := by
  unfold out0_A_5 kernelRun0_A
  dsimp only
  refine (congrFun (readO_four VO0_5 _ ![_, _, _, _] [] h) (ix2 r d)).trans ?_
  fin_cases h
  · refine congrFun (congrArg₂ hout ?_ ?_) _
    · refine (rowA_four arg11.view _ ![_, _, _, _] _ 0).trans ?_
      refine congrArg₂ (fun m a => ha (ownD i arg6 harg6 x3 0) (tileD i arg3 harg3 arg4 harg4 arg7 harg7 x0 x1 x4 0) m a (valsD i arg5 harg5 x2 0)) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · exact after_loops _ _ _ _ _ _ (congrArg (fun p => p.2.2) (pb_k0_t2_none c i arg3 harg3 arg4 harg4 arg5 harg5 arg6 harg6 arg7 harg7 arg8 harg8 arg9 harg9 arg10 harg10 arg11 harg11 _ _ _ _ _ _ _ _ _ _ _ _ _ _ _ _))
    · refine (rowM_four arg10.view _ ![_, _, _, _] _ 0).trans ?_
      refine congrArg₂ (fun m l => hl (ownD i arg6 harg6 x3 0) (tileD i arg3 harg3 arg4 harg4 arg7 harg7 x0 x1 x4 0) m l) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · exact after_loops _ _ _ _ _ _ (congrArg (fun p => p.2.1) (pb_k0_t2_none c i arg3 harg3 arg4 harg4 arg5 harg5 arg6 harg6 arg7 harg7 arg8 harg8 arg9 harg9 arg10 harg10 arg11 harg11 _ _ _ _ _ _ _ _ _ _ _ _ _ _ _ _))
  · refine congrFun (congrArg₂ hout ?_ ?_) _
    · refine (rowA_four arg11.view _ ![_, _, _, _] _ 1).trans ?_
      refine congrArg₂ (fun m a => ha (ownD i arg6 harg6 x3 1) (tileD i arg3 harg3 arg4 harg4 arg7 harg7 x0 x1 x4 1) m a (valsD i arg5 harg5 x2 1)) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        exact after_loops _ _ _ _ _ _ (congrArg (fun p => p.2.2) (pb_k0_t2_none c i arg3 harg3 arg4 harg4 arg5 harg5 arg6 harg6 arg7 harg7 arg8 harg8 arg9 harg9 arg10 harg10 arg11 harg11 _ _ _ _ _ _ _ _ _ _ _ _ _ _ _ _))
    · refine (rowM_four arg10.view _ ![_, _, _, _] _ 1).trans ?_
      refine congrArg₂ (fun m l => hl (ownD i arg6 harg6 x3 1) (tileD i arg3 harg3 arg4 harg4 arg7 harg7 x0 x1 x4 1) m l) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        exact after_loops _ _ _ _ _ _ (congrArg (fun p => p.2.1) (pb_k0_t2_none c i arg3 harg3 arg4 harg4 arg5 harg5 arg6 harg6 arg7 harg7 arg8 harg8 arg9 harg9 arg10 harg10 arg11 harg11 _ _ _ _ _ _ _ _ _ _ _ _ _ _ _ _))
  · refine (congrFun (hout_two _ _) _).trans ?_
    refine congrFun (congrArg₂ hout ?_ ?_) _
    · refine (rowA_four arg11.view _ ![_, _, _, _] _ 2).trans ?_
      refine congrArg₂ (fun m a => ha (ownD i arg6 harg6 x3 2) (tileD i arg3 harg3 arg4 harg4 arg7 harg7 x0 x1 x4 2) m a (valsD i arg5 harg5 x2 2)) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        refine (readAt_miss _ _ _ _ _ _ (by decide)).trans ?_
        exact after_loops _ _ _ _ _ _ (congrArg (fun p => p.2.2) (pb_k0_t2_none c i arg3 harg3 arg4 harg4 arg5 harg5 arg6 harg6 arg7 harg7 arg8 harg8 arg9 harg9 arg10 harg10 arg11 harg11 _ _ _ _ _ _ _ _ _ _ _ _ _ _ _ _))
    · refine (rowM_four arg10.view _ ![_, _, _, _] _ 2).trans ?_
      refine congrArg₂ (fun m l => hl (ownD i arg6 harg6 x3 2) (tileD i arg3 harg3 arg4 harg4 arg7 harg7 x0 x1 x4 2) m l) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        refine (readAt_miss _ _ _ _ _ _ (by decide)).trans ?_
        exact after_loops _ _ _ _ _ _ (congrArg (fun p => p.2.1) (pb_k0_t2_none c i arg3 harg3 arg4 harg4 arg5 harg5 arg6 harg6 arg7 harg7 arg8 harg8 arg9 harg9 arg10 harg10 arg11 harg11 _ _ _ _ _ _ _ _ _ _ _ _ _ _ _ _))
  · refine congrFun (congrArg₂ hout ?_ ?_) _
    · refine (rowA_four arg11.view _ ![_, _, _, _] _ 3).trans ?_
      refine congrArg₂ (fun m a => ha (ownD i arg6 harg6 x3 3) (tileD i arg3 harg3 arg4 harg4 arg7 harg7 x0 x1 x4 3) m a (valsD i arg5 harg5 x2 3)) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        refine (readAt_miss _ _ _ _ _ _ (by decide)).trans ?_
        refine (readAt_miss _ _ _ _ _ _ (by decide)).trans ?_
        exact after_loops _ _ _ _ _ _ (congrArg (fun p => p.2.2) (pb_k0_t2_none c i arg3 harg3 arg4 harg4 arg5 harg5 arg6 harg6 arg7 harg7 arg8 harg8 arg9 harg9 arg10 harg10 arg11 harg11 _ _ _ _ _ _ _ _ _ _ _ _ _ _ _ _))
    · refine (rowM_four arg10.view _ ![_, _, _, _] _ 3).trans ?_
      refine congrArg₂ (fun m l => hl (ownD i arg6 harg6 x3 3) (tileD i arg3 harg3 arg4 harg4 arg7 harg7 x0 x1 x4 3) m l) ?_ ?_
      · exact after_loops _ _ _ _ _ _ (congrArg (fun p => p.1) (pb_k0_t2_none c i arg3 harg3 arg4 harg4 arg5 harg5 arg6 harg6 arg7 harg7 arg8 harg8 arg9 harg9 arg10 harg10 arg11 harg11 _ _ _ _ _ _ _ _ _ _ _ _ _ _ _ _))
      · refine (readAt_miss _ _ _ _ _ _ (by decide)).trans ?_
        refine (readAt_miss _ _ _ _ _ _ (by decide)).trans ?_
        refine (readAt_miss _ _ _ _ _ _ (by decide)).trans ?_
        exact after_loops _ _ _ _ _ _ (congrArg (fun p => p.2.1) (pb_k0_t2_none c i arg3 harg3 arg4 harg4 arg5 harg5 arg6 harg6 arg7 harg7 arg8 harg8 arg9 harg9 arg10 harg10 arg11 harg11 _ _ _ _ _ _ _ _ _ _ _ _ _ _ _ _))

end Cert.Proof.Fox

end
-- ==== Proof.PointValue.lean ====
/-
  What one grid point of the attention kernel writes out, number by number: for each of its four heads and each query
  of its block, the quotient of a softmax's state after the keys up to the query (`out_value`).
-/
module

public import proofs.«01_k».proof.Proof.Body
public import Idealize.ShloMosaic.Lib.WritesUnit

@[expose] public section

set_option maxRecDepth 16384

noncomputable section

namespace Cert.Proof.Fox

open Idealize.ShloMosaic Cert.KernelIdeal Cert.KernelIdeal.Gen

/-- Column `d` of head `h` in a row of the four heads' columns. -/
def col (h : Fin 4) (d : Fin 128) : Fin 512 := ⟨128 * h.val + d.val, by omega⟩

/-- A number loaded through a rectangle of two axes. -/
theorem load2 {R C R' C' : ℕ} {e : EltTy} (m : Memref sig .tc .vmem ⟨2, ![R, C]⟩ e) (hm : m.IsWhole) (x : Vec Ideal ⟨2, ![R, C]⟩ e)
    {off : Fin 2 → ℕ} (inb : ∀ a, off a + (⟨2, ![R', C']⟩ : Shape).size a ≤ (⟨2, ![R, C]⟩ : Shape).size a) {o p : ℕ} (ho : off = ![o, p])
    (r : Fin R') (d : Fin C') (r' : Fin R) (d' : Fin C) (hr : r'.val = o + r.val) (hd : d'.val = p + d.val) :
    m.view.readAt (Elt Ideal) (Rect.unit (s := ⟨2, ![R, C]⟩) off (⟨2, ![R', C']⟩ : Shape).size inb).toLoadRect (hm.unread x) (ix2 r d)
      = x (ix2 r' d') := by
  rw [View.readAt_apply, hm.read_unread]
  congr 1
  subst ho
  funext a
  apply Fin.ext
  fin_cases a
  · show o + 1 * r.val = r'.val; omega
  · show p + 1 * d.val = d'.val; omega

/-- A number loaded through a rectangle of three axes. -/
theorem load3 {A B C A' B' C' : ℕ} {e : EltTy} (m : Memref sig .tc .vmem ⟨3, ![A, B, C]⟩ e) (hm : m.IsWhole) (x : Vec Ideal ⟨3, ![A, B, C]⟩ e)
    {off : Fin 3 → ℕ} (inb : ∀ a, off a + (⟨3, ![A', B', C']⟩ : Shape).size a ≤ (⟨3, ![A, B, C]⟩ : Shape).size a) {o p q : ℕ}
    (ho : off = ![o, p, q]) (j₀ : Fin A') (j₁ : Fin B') (j₂ : Fin C') (k₀ : Fin A) (k₁ : Fin B) (k₂ : Fin C)
    (h₀ : k₀.val = o + j₀.val) (h₁ : k₁.val = p + j₁.val) (h₂ : k₂.val = q + j₂.val) :
    m.view.readAt (Elt Ideal) (Rect.unit (s := ⟨3, ![A, B, C]⟩) off (⟨3, ![A', B', C']⟩ : Shape).size inb).toLoadRect (hm.unread x) (ix3 j₀ j₁ j₂)
      = x (ix3 k₀ k₁ k₂) := by
  rw [View.readAt_apply, hm.read_unread]
  congr 1
  subst ho
  funext a
  apply Fin.ext
  fin_cases a
  · show o + 1 * j₀.val = k₀.val; omega
  · show p + 1 * j₁.val = k₁.val; omega
  · show q + 1 * j₂.val = k₂.val; omega

/-- A number loaded through a rectangle of four axes. -/
theorem load4 {A B C D A' B' C' D' : ℕ} {e : EltTy} (m : Memref sig .tc .vmem ⟨4, ![A, B, C, D]⟩ e) (hm : m.IsWhole)
    (x : Vec Ideal ⟨4, ![A, B, C, D]⟩ e) {off : Fin 4 → ℕ}
    (inb : ∀ a, off a + (⟨4, ![A', B', C', D']⟩ : Shape).size a ≤ (⟨4, ![A, B, C, D]⟩ : Shape).size a) {o p q w : ℕ}
    (ho : off = ![o, p, q, w]) (j₀ : Fin A') (j₁ : Fin B') (j₂ : Fin C') (j₃ : Fin D') (k₀ : Fin A) (k₁ : Fin B) (k₂ : Fin C) (k₃ : Fin D)
    (h₀ : k₀.val = o + j₀.val) (h₁ : k₁.val = p + j₁.val) (h₂ : k₂.val = q + j₂.val) (h₃ : k₃.val = w + j₃.val) :
    m.view.readAt (Elt Ideal) (Rect.unit (s := ⟨4, ![A, B, C, D]⟩) off (⟨4, ![A', B', C', D']⟩ : Shape).size inb).toLoadRect (hm.unread x)
        (ix4 j₀ j₁ j₂ j₃)
      = x (ix4 k₀ k₁ k₂ k₃) := by
  rw [View.readAt_apply, hm.read_unread]
  congr 1
  subst ho
  funext a
  apply Fin.ext
  fin_cases a
  · show o + 1 * j₀.val = k₀.val; omega
  · show p + 1 * j₁.val = k₁.val; omega
  · show q + 1 * j₂.val = k₂.val; omega
  · show w + 1 * j₃.val = k₃.val; omega

/-- A load of a fill of the whole buffer. -/
theorem load_fill {s : Shape} {e : EltTy} (v : View sig .tc .vmem s e) (f : v.ty.Contents (Elt Ideal)) {off : Fin s.rank → ℕ}
    (inb : ∀ a, off a + s.size a ≤ s.size a) (hoff : ∀ a, off a = 0) (w : s.Idx → Elt Ideal e) (B : LoadRect s) (x : B.shape.Idx) :
    v.readAt (Elt Ideal) B (v.writes (Elt Ideal) f [⟨Rect.unit off s.size inb, w⟩]) x = w (B.idx x) := by
  rw [View.readAt_apply]
  exact View.read_writes_cons_unit_of_mem (v := v) (f := f) inb w [] (B.idx x) (B.idx x) rfl fun a => by rw [hoff a, Nat.zero_add]

/-- What the blocks of a grid point hold for head `h` and query `cc`: the query's entries `Q`, the keys' `K`, the running
    sums `C` at the keys and `ct` at the query, the values `V`. -/
structure Holds (qi : Fin 8) (h : Fin 4) (cc : Fin 512) (Q : Fin 128 → ℝ) (K : ℕ → Fin 128 → ℝ) (C : ℕ → ℝ) (ct : ℝ) (V : Fin 128 → ℕ → EReal)
    (x0 : Vec Ideal S512x512 .bf16) (x1 : Vec Ideal S4096x512 .bf16) (x2 : Vec Ideal S8x512x512 .bf16) (x3 : Vec Ideal S1x4x8x512 .f32) (x4 : Vec Ideal S1x4x4096x1 .f32) : Prop where
  q : ∀ d, x0 (ix2 cc (col h d)) = (Q d : EReal)
  k : ∀ (s : Fin 4096) d, x1 (ix2 s (col h d)) = (K s.val d : EReal)
  cs : ∀ s : Fin 4096, x4 (ix4 0 h s 0) = (C s.val : EReal)
  ct : x3 (ix4 0 h qi cc) = (ct : EReal)
  v : ∀ (k : Fin 8) (d : Fin 128) (r : Fin 512), x2 (ix3 k (col h d) r) = V d (512 * k.val + r.val)

theorem trips_eq : ∀ i : grid0.Coords, (k0_t1_loop i).trips = (i 2).val := by decide +kernel

variable (c : Dev nD) (i : grid0.Coords)
  (arg3 : Memref sig .tc .vmem S512x512 .bf16) (harg3 : arg3.IsWhole)
  (arg4 : Memref sig .tc .vmem S4096x512 .bf16) (harg4 : arg4.IsWhole)
  (arg5 : Memref sig .tc .vmem S8x512x512 .bf16) (harg5 : arg5.IsWhole)
  (arg6 : Memref sig .tc .vmem S1x4x8x512 .f32) (harg6 : arg6.IsWhole)
  (arg7 : Memref sig .tc .vmem S1x4x4096x1 .f32) (harg7 : arg7.IsWhole)
  (arg8 : Memref sig .tc .vmem S512x512 .bf16) (harg8 : arg8.IsWhole)
  (arg9 : Memref sig .tc .vmem S4x1x512 .f32) (harg9 : arg9.IsWhole)
  (arg10 : Memref sig .tc .vmem S4x1x512 .f32) (harg10 : arg10.IsWhole)
  (arg11 : Memref sig .tc .vmem S4x128x512 .f32) (harg11 : arg11.IsWhole)
  (x0 : Vec Ideal S512x512 .bf16) (x1 : Vec Ideal S4096x512 .bf16) (x2 : Vec Ideal S8x512x512 .bf16) (x3 : Vec Ideal S1x4x8x512 .f32) (x4 : Vec Ideal S1x4x4096x1 .f32)

/-- The cast of a block to its own shape. -/
theorem pay74_apply (v : FVec Ideal S512x128 .bf16) (r : Fin 512) (d : Fin 128) : k0_pay74 v (ix2 r d) = v (ix2 r d) := by
  unfold k0_pay74
  pointwise

/-- A query's entry. -/
theorem qrow_apply (h : Fin 4) (cc : Fin 512) (d : Fin 128) : qrow arg3 harg3 x0 h (ix2 cc d) = x0 (ix2 cc (col h d)) := by
  fin_cases h
  · exact (pay74_apply _ cc d).trans (load2 arg3 harg3 x0 inb_S512x512_S512x128_0_0 rfl cc d cc (col 0 d) (by omega) (by show 128 * 0 + d.val = _; omega))
  · exact (pay74_apply _ cc d).trans (load2 arg3 harg3 x0 inb_S512x512_S512x128_0_128 rfl cc d cc (col 1 d) (by omega) (by show 128 * 1 + d.val = _; omega))
  · exact (pay74_apply _ cc d).trans (load2 arg3 harg3 x0 inb_S512x512_S512x128_0_256 rfl cc d cc (col 2 d) (by omega) (by show 128 * 2 + d.val = _; omega))
  · exact (pay74_apply _ cc d).trans (load2 arg3 harg3 x0 inb_S512x512_S512x128_0_384 rfl cc d cc (col 3 d) (by omega) (by show 128 * 3 + d.val = _; omega))

/-- A query's own running sum. -/
theorem crow_apply (qi : Fin 8) (hqi : (i 2).val = qi.val) (h : Fin 4) (cc : Fin 512) :
    crow i arg6 harg6 x3 h (ix4 0 0 0 cc) = x3 (ix4 0 h qi cc) := by
  fin_cases h
  · exact load4 arg6 harg6 x3 (k0_off1_inb i) (k0_off1_eq i) 0 0 0 cc 0 0 qi cc rfl rfl (by rw [hqi]; rfl) (by omega)
  · exact load4 arg6 harg6 x3 (k0_off2_inb i) (k0_off2_eq i) 0 0 0 cc 0 1 qi cc rfl rfl (by rw [hqi]; rfl) (by omega)
  · exact load4 arg6 harg6 x3 (k0_off3_inb i) (k0_off3_eq i) 0 0 0 cc 0 2 qi cc rfl rfl (by rw [hqi]; rfl) (by omega)
  · exact load4 arg6 harg6 x3 (k0_off4_inb i) (k0_off4_eq i) 0 0 0 cc 0 3 qi cc rfl rfl (by rw [hqi]; rfl) (by omega)

/-- … in base 2. -/
theorem own_apply (h : Fin 4) (cc : Fin 512) :
    ownD i arg6 harg6 x3 h (ix2 0 cc) = crow i arg6 harg6 x3 h (ix4 0 0 0 cc) * (((Real.log 2)⁻¹ : ℝ) : EReal) := by
  fin_cases h <;> exact cq_apply _ cc

/-- A key's entry before the diagonal. -/
theorem keys_apply (k : Fin (k0_t1_loop i).trips) (h : Fin 4) (r : Fin 512) (d : Fin 128) (s : Fin 4096) (hs : s.val = 512 * k.val + r.val) :
    keys i arg4 (harg4.unread x1) k h (ix2 r d) = x1 (ix2 s (col h d)) := by
  fin_cases h
  · exact load2 arg4 harg4 x1 (k0_off5_inb i k) (k0_off5_eq i k) r d s (col 0 d) hs (by show 128 * 0 + d.val = _; omega)
  · exact load2 arg4 harg4 x1 (k0_off7_inb i k) (k0_off7_eq i k) r d s (col 1 d) hs (by show 128 * 1 + d.val = _; omega)
  · exact load2 arg4 harg4 x1 (k0_off9_inb i k) (k0_off9_eq i k) r d s (col 2 d) hs (by show 128 * 2 + d.val = _; omega)
  · exact load2 arg4 harg4 x1 (k0_off11_inb i k) (k0_off11_eq i k) r d s (col 3 d) hs (by show 128 * 3 + d.val = _; omega)

/-- A key's running sum before the diagonal. -/
theorem sums_apply (k : Fin (k0_t1_loop i).trips) (h : Fin 4) (r : Fin 512) (s : Fin 4096) (hs : s.val = 512 * k.val + r.val) :
    sums i arg7 (harg7.unread x4) k h (ix4 0 0 r 0) = x4 (ix4 0 h s 0) := by
  fin_cases h
  · exact load4 arg7 harg7 x4 (k0_off6_inb i k) (k0_off6_eq i k) 0 0 r 0 0 0 s 0 rfl rfl hs rfl
  · exact load4 arg7 harg7 x4 (k0_off8_inb i k) (k0_off8_eq i k) 0 0 r 0 0 1 s 0 rfl rfl hs rfl
  · exact load4 arg7 harg7 x4 (k0_off10_inb i k) (k0_off10_eq i k) 0 0 r 0 0 2 s 0 rfl rfl hs rfl
  · exact load4 arg7 harg7 x4 (k0_off12_inb i k) (k0_off12_eq i k) 0 0 r 0 0 3 s 0 rfl rfl hs rfl

/-- A value before the diagonal. -/
theorem vals_apply (k : Fin (k0_t1_loop i).trips) (h : Fin 4) (d : Fin 128) (r : Fin 512) (kk : Fin 8) (hk : kk.val = k.val) :
    vals i arg5 (harg5.unread x2) k h (ix3 0 d r) = x2 (ix3 kk (col h d) r) := by
  fin_cases h
  · exact load3 arg5 harg5 x2 (k0_off13_inb i k) (k0_off13_eq i k) 0 d r kk (col 0 d) r (by rw [hk]; rfl) (by show 128 * 0 + d.val = _; omega) (by omega)
  · exact load3 arg5 harg5 x2 (k0_off14_inb i k) (k0_off14_eq i k) 0 d r kk (col 1 d) r (by rw [hk]; rfl) (by show 128 * 1 + d.val = _; omega) (by omega)
  · exact load3 arg5 harg5 x2 (k0_off15_inb i k) (k0_off15_eq i k) 0 d r kk (col 2 d) r (by rw [hk]; rfl) (by show 128 * 2 + d.val = _; omega) (by omega)
  · exact load3 arg5 harg5 x2 (k0_off16_inb i k) (k0_off16_eq i k) 0 d r kk (col 3 d) r (by rw [hk]; rfl) (by show 128 * 3 + d.val = _; omega) (by omega)

/-- A key's entry in the diagonal's block. -/
theorem keysD_apply (h : Fin 4) (r : Fin 512) (d : Fin 128) (s : Fin 4096) (hs : s.val = 512 * (i 2).val + r.val) :
    keysD i arg4 harg4 x1 h (ix2 r d) = x1 (ix2 s (col h d)) := by
  fin_cases h
  · exact load2 arg4 harg4 x1 (k0_off29_inb i) (k0_off29_eq i) r d s (col 0 d) hs (by show 128 * 0 + d.val = _; omega)
  · exact load2 arg4 harg4 x1 (k0_off31_inb i) (k0_off31_eq i) r d s (col 1 d) hs (by show 128 * 1 + d.val = _; omega)
  · exact load2 arg4 harg4 x1 (k0_off33_inb i) (k0_off33_eq i) r d s (col 2 d) hs (by show 128 * 2 + d.val = _; omega)
  · exact load2 arg4 harg4 x1 (k0_off35_inb i) (k0_off35_eq i) r d s (col 3 d) hs (by show 128 * 3 + d.val = _; omega)

/-- A key's running sum in the diagonal's block. -/
theorem sumsD_apply (h : Fin 4) (r : Fin 512) (s : Fin 4096) (hs : s.val = 512 * (i 2).val + r.val) :
    sumsD i arg7 harg7 x4 h (ix4 0 0 r 0) = x4 (ix4 0 h s 0) := by
  fin_cases h
  · exact load4 arg7 harg7 x4 (k0_off30_inb i) (k0_off30_eq i) 0 0 r 0 0 0 s 0 rfl rfl hs rfl
  · exact load4 arg7 harg7 x4 (k0_off32_inb i) (k0_off32_eq i) 0 0 r 0 0 1 s 0 rfl rfl hs rfl
  · exact load4 arg7 harg7 x4 (k0_off34_inb i) (k0_off34_eq i) 0 0 r 0 0 2 s 0 rfl rfl hs rfl
  · exact load4 arg7 harg7 x4 (k0_off36_inb i) (k0_off36_eq i) 0 0 r 0 0 3 s 0 rfl rfl hs rfl

/-- A value in the diagonal's block. -/
theorem valsD_apply (h : Fin 4) (d : Fin 128) (r : Fin 512) (kk : Fin 8) (hk : kk.val = (i 2).val) :
    valsD i arg5 harg5 x2 h (ix3 0 d r) = x2 (ix3 kk (col h d) r) := by
  fin_cases h
  · exact load3 arg5 harg5 x2 (k0_off37_inb i) (k0_off37_eq i) 0 d r kk (col 0 d) r (by rw [hk]; rfl) (by show 128 * 0 + d.val = _; omega) (by omega)
  · exact load3 arg5 harg5 x2 (k0_off38_inb i) (k0_off38_eq i) 0 d r kk (col 1 d) r (by rw [hk]; rfl) (by show 128 * 1 + d.val = _; omega) (by omega)
  · exact load3 arg5 harg5 x2 (k0_off39_inb i) (k0_off39_eq i) 0 d r kk (col 2 d) r (by rw [hk]; rfl) (by show 128 * 2 + d.val = _; omega) (by omega)
  · exact load3 arg5 harg5 x2 (k0_off40_inb i) (k0_off40_eq i) 0 d r kk (col 3 d) r (by rw [hk]; rfl) (by show 128 * 3 + d.val = _; omega) (by omega)

/-- What the grid point writes for a head and a query is the quotient of the softmax's state after the keys up to the
    query. -/
theorem out_value (qi : Fin 8) (hqi : (i 2).val = qi.val) (h : Fin 4) (cc : Fin 512) (Q : Fin 128 → ℝ) (K : ℕ → Fin 128 → ℝ) (C : ℕ → ℝ) (ct : ℝ)
    (V : Fin 128 → ℕ → EReal) (H : Holds qi h cc Q K C ct V x0 x1 x2 x3 x4) :
    ∃ (m l : EReal) (a : Fin 128 → EReal), Online.Inv (score Q K C ct) (512 * qi.val + cc.val + 1) m l
      ∧ (∀ d, Online.AInv (score Q K C ct) (V d) (512 * qi.val + cc.val + 1) m (a d))
      ∧ ∀ d, out0_A_5 c i arg3 harg3 arg4 harg4 arg5 harg5 arg6 harg6 arg7 harg7 arg8 harg8 arg9 harg9 arg10 harg10 arg11 harg11 x0 x1 x2 x3 x4 (ix2 cc (col h d)) = Ideal.div (a d) l := by
  have hlt := (i 2).isLt
  have hown : ownD i arg6 harg6 x3 h (ix2 0 cc) = ((ct * (Real.log 2)⁻¹ : ℝ) : EReal) := by
    rw [own_apply, crow_apply i arg6 harg6 x3 qi hqi, H.ct, ← EReal.coe_mul]
  have htr := trips_eq i
  have hq : ∀ d, qrow arg3 harg3 x0 h (ix2 cc d) = (Q d : EReal) := fun d => by rw [qrow_apply]; exact H.q d
  -- the loop
  have hloop := loop_good Variants.none c none i arg3 harg3 arg4 harg4 arg5 harg5 arg6 harg6 arg7 harg7 arg8 harg8 arg9 harg9 arg10 harg10 arg11 harg11 (BitVec.ofNat 32 (i 2).val)
    (qrow arg3 harg3 x0 0) (qrow arg3 harg3 x0 1) (qrow arg3 harg3 x0 2) (qrow arg3 harg3 x0 3)
    (k0_pay78 (crow i arg6 harg6 x3 0)) (crow i arg6 harg6 x3 1) (crow i arg6 harg6 x3 2) (crow i arg6 harg6 x3 3)
    (harg4.unread x1) (harg5.unread x2) (harg7.unread x4)
    (arg9.view.writes (Elt Ideal) arg9.view.junk [⟨Rect.unit ![0, 0, 0] S4x1x512.size inb_S4x1x512_S4x1x512_0_0_0, k0_pay71 (F := Ideal)⟩])
    (arg10.view.writes (Elt Ideal) arg10.view.junk [⟨Rect.unit ![0, 0, 0] S4x1x512.size inb_S4x1x512_S4x1x512_0_0_0, k0_pay72 (F := Ideal)⟩])
    (arg11.view.writes (Elt Ideal) arg11.view.junk [⟨Rect.unit ![0, 0, 0] S4x128x512.size inb_S4x128x512_S4x128x512_0_0_0, k0_pay73 (F := Ideal)⟩])
    h (score Q K C ct) V (ct * (Real.log 2)⁻¹) cc
    ?_ hown ?_ ?_ (k0_t1_loop i).trips le_rfl
  · -- the diagonal's block
    rw [htr, hqi] at hloop
    have hstep := hloop.step (n' := 512 * qi.val + cc.val + 1) (by omega) (by omega)
      (t := tileD i arg3 harg3 arg4 harg4 arg7 harg7 x0 x1 x4 h) (v := valsD i arg5 harg5 x2 h) hown (fun r => ?_) (fun d r => ?_)
    · refine ⟨_, _, _, hstep.sum, hstep.acc, fun d => ?_⟩
      have e := out_eq c i arg3 harg3 arg4 harg4 arg5 harg5 arg6 harg6 arg7 harg7 arg8 harg8 arg9 harg9 arg10 harg10 arg11 harg11 x0 x1 x2 x3 x4 h cc d
      rw [hout_apply] at e
      rw [show ((recO h).toLoadRect.idx (ix2 cc d)) = ix2 cc (col h d) from by
        funext a; apply Fin.ext; fin_cases a
        · show 0 + 1 * cc.val = cc.val; omega
        · show 128 * h.val + 1 * d.val = 128 * h.val + d.val; omega] at e
      unfold end9 end10 end11 at e
      rw [htr, hqi] at e
      exact e
    · -- the scores
      have hs : 512 * qi.val + r.val < 4096 := by omega
      show masked _ (ix2 r cc) = _
      rw [masked_apply]
      by_cases hr : r.val ≤ cc.val
      · rw [if_pos hr, if_pos (by omega)]
        have hs' : 512 * (i 2).val + r.val < 4096 := by omega
        rw [tile_block Q K C ct (512 * qi.val) _ _ _ cc hq (fun r d => ?_) (fun r => ?_) r]
        · exact (keysD_apply i arg4 harg4 x1 h r d ⟨512 * qi.val + r.val, by omega⟩ (by simp [hqi])).trans (H.k _ d)
        · exact (sumsD_apply i arg7 harg7 x4 h r ⟨512 * qi.val + r.val, by omega⟩ (by simp [hqi])).trans (H.cs _)
      · rw [if_neg hr, if_neg (by omega)]
    · exact (valsD_apply i arg5 harg5 x2 h d r qi hqi.symm).trans (H.v qi d r)
  · -- nothing taken in yet
    refine ⟨Or.inl ⟨rfl, ?_, ?_⟩, fun d => Or.inl ⟨rfl, ?_⟩⟩
    · refine (load_fill arg9.view _ _ (fun a => by fin_cases a <;> rfl) _ _ _).trans ?_
      exact neg_inf
    · refine (load_fill arg10.view _ _ (fun a => by fin_cases a <;> rfl) _ _ _).trans ?_
      exact Ideal.ofBits_zero_f32
    · refine (load_fill arg11.view _ _ (fun a => by fin_cases a <;> rfl) _ _ _).trans ?_
      exact Ideal.ofBits_zero_f32
  · -- a block's scores
    intro k r
    have hk : k.val < 8 := by have := k.isLt; omega
    refine tile_block Q K C ct (512 * k.val) _ _ _ cc (fun d => ?_) (fun r d => ?_) (fun r => ?_) r
    · refine Eq.trans ?_ (hq d)
      fin_cases h <;> rfl
    · exact (keys_apply i arg4 harg4 x1 k h r d ⟨512 * k.val + r.val, by omega⟩ rfl).trans (H.k _ d)
    · exact (sums_apply i arg7 harg7 x4 k h r ⟨512 * k.val + r.val, by omega⟩ rfl).trans (H.cs _)
  · -- a block's values
    intro k d r
    have hk : k.val < 8 := by have := k.isLt; omega
    exact (vals_apply i arg5 harg5 x2 k h d r ⟨k.val, hk⟩ rfl).trans (H.v _ d r)

end Cert.Proof.Fox

end
-- ==== Proof.Launch.lean ====
/-
  The attention kernel's result array in terms of its arguments: every grid point writes its block of the reference's
  result (`flushed_eq`), and the blocks cover the array (`final`).
-/
module

public import proofs.«01_k».proof.Proof.RowValue
public import proofs.«01_k».proof.Proof.PointValue
public import Idealize.ShloMosaic.Lib.Pipeline.Value

@[expose] public section

set_option maxRecDepth 16384

noncomputable section

namespace Cert.Proof.Fox

open Idealize.ShloMosaic Idealize.ShloMosaic.TcCoe Cert.KernelIdeal Cert.KernelIdeal.Gen Cert.KernelIdeal.Value
open Idealize.ShloMosaic.Pipeline (Dat)

/-- The coordinates of a grid point. -/
abbrev gb (t : Fin cfg0.N) : ℕ := (grid0.coords t 0).val
abbrev gh (t : Fin cfg0.N) : ℕ := (grid0.coords t 1).val
abbrev gq (t : Fin cfg0.N) : ℕ := (grid0.coords t 2).val

theorem coords_lt : ∀ t : Fin cfg0.N, gb t < 4 ∧ gh t < 2 ∧ gq t < 8 := (by decide +kernel : ∀ t : Fin grid0.N, _)

theorem idx0 : ∀ t : Fin cfg0.N, win0_0.index t (0 : Fin 2) = gb t * 8 + gq t ∧ win0_0.index t (1 : Fin 2) = 4 + gh t :=
  (by decide +kernel : ∀ t : Fin grid0.N, _)
theorem idx1 : ∀ t : Fin cfg0.N, win0_1.index t (0 : Fin 2) = gb t ∧ win0_1.index t (1 : Fin 2) = 6 + gh t :=
  (by decide +kernel : ∀ t : Fin grid0.N, _)
theorem idx2 : ∀ t : Fin cfg0.N, win0_2.index t (0 : Fin 3) = gb t ∧ win0_2.index t (1 : Fin 3) = gh t ∧ win0_2.index t (2 : Fin 3) = 0 :=
  (by decide +kernel : ∀ t : Fin grid0.N, _)
theorem idx3 : ∀ t : Fin cfg0.N, win0_3.index t (0 : Fin 4) = gb t ∧ win0_3.index t (1 : Fin 4) = gh t ∧ win0_3.index t (2 : Fin 4) = 0 ∧ win0_3.index t (3 : Fin 4) = 0 :=
  (by decide +kernel : ∀ t : Fin grid0.N, _)
theorem idx4 : ∀ t : Fin cfg0.N, win0_4.index t (0 : Fin 4) = gb t ∧ win0_4.index t (1 : Fin 4) = gh t ∧ win0_4.index t (2 : Fin 4) = 0 ∧ win0_4.index t (3 : Fin 4) = 0 :=
  (by decide +kernel : ∀ t : Fin grid0.N, _)
theorem idx5 : ∀ t : Fin cfg0.N, win0_5.index t (0 : Fin 2) = gb t * 8 + gq t ∧ win0_5.index t (1 : Fin 2) = gh t :=
  (by decide +kernel : ∀ t : Fin grid0.N, _)

/-- Every block of the result is some point's. -/
theorem point_of : ∀ (b : Fin 32) (h : Fin 2), ∃ t : Fin cfg0.N, gb t * 8 + gq t = b.val ∧ gh t = h.val :=
  (by decide +kernel : ∀ (b : Fin 32) (h : Fin 2), ∃ t : Fin grid0.N, _)

variable (m : (ℓ : Loc nD τ sig) → Buf (Elt Ideal) ℓ) (c : Dev nD) (t : Fin cfg0.N)

/-- An index of a block, in its array. -/
theorem emb0 (r j : Fin 512) (r' : Fin 16384) (j' : Fin 4096) (hr : r'.val = (gb t * 8 + gq t) * 512 + r.val) (hj : j'.val = (4 + gh t) * 512 + j.val) :
    ((cfg0.win 0).blk t).view.emb (ix2 r j) = ix2 r' j' := by
  obtain ⟨e0, e1⟩ := idx0 t
  funext a; apply Fin.ext
  match a with
  | ⟨0, _⟩ => show win0_0.index t (0 : Fin 2) * 512 + 1 * r.val = r'.val; omega
  | ⟨1, _⟩ => show win0_0.index t (1 : Fin 2) * 512 + 1 * j.val = j'.val; omega

theorem emb1 (r : Fin 4096) (j : Fin 512) (r' : Fin 16384) (j' : Fin 4096) (hr : r'.val = gb t * 4096 + r.val) (hj : j'.val = (6 + gh t) * 512 + j.val) :
    ((cfg0.win 1).blk t).view.emb (ix2 r j) = ix2 r' j' := by
  obtain ⟨e0, e1⟩ := idx1 t
  funext a; apply Fin.ext
  match a with
  | ⟨0, _⟩ => show win0_1.index t (0 : Fin 2) * 4096 + 1 * r.val = r'.val; omega
  | ⟨1, _⟩ => show win0_1.index t (1 : Fin 2) * 512 + 1 * j.val = j'.val; omega

theorem emb2 (k : Fin 8) (j r : Fin 512) (k' : Fin 32) (j' : Fin 1024) (hk : k'.val = gb t * 8 + k.val) (hj : j'.val = gh t * 512 + j.val) :
    ((cfg0.win 2).blk t).view.emb (ix3 k j r) = ix3 k' j' r := by
  obtain ⟨e0, e1, e2⟩ := idx2 t
  funext a; apply Fin.ext
  match a with
  | ⟨0, _⟩ => show win0_2.index t (0 : Fin 3) * 8 + 1 * k.val = k'.val; omega
  | ⟨1, _⟩ => show win0_2.index t (1 : Fin 3) * 512 + 1 * j.val = j'.val; omega
  | ⟨2, _⟩ => show win0_2.index t (2 : Fin 3) * 512 + 1 * r.val = r.val; omega

theorem emb3 (h : Fin 4) (k : Fin 8) (r : Fin 512) (b' : Fin 4) (h' : Fin 8) (hb : b'.val = gb t) (hh : h'.val = gh t * 4 + h.val) :
    ((cfg0.win 3).blk t).view.emb (ix4 0 h k r) = ix4 b' h' k r := by
  obtain ⟨e0, e1, e2, e3⟩ := idx3 t
  funext a; apply Fin.ext
  match a with
  | ⟨0, _⟩ => show win0_3.index t (0 : Fin 4) * 1 + 1 * 0 = b'.val; omega
  | ⟨1, _⟩ => show win0_3.index t (1 : Fin 4) * 4 + 1 * h.val = h'.val; omega
  | ⟨2, _⟩ => show win0_3.index t (2 : Fin 4) * 8 + 1 * k.val = k.val; omega
  | ⟨3, _⟩ => show win0_3.index t (3 : Fin 4) * 512 + 1 * r.val = r.val; omega

theorem emb4 (h : Fin 4) (s : Fin 4096) (b' : Fin 4) (h' : Fin 8) (hb : b'.val = gb t) (hh : h'.val = gh t * 4 + h.val) :
    ((cfg0.win 4).blk t).view.emb (ix4 0 h s 0) = ix4 b' h' s 0 := by
  obtain ⟨e0, e1, e2, e3⟩ := idx4 t
  funext a; apply Fin.ext
  match a with
  | ⟨0, _⟩ => show win0_4.index t (0 : Fin 4) * 1 + 1 * 0 = b'.val; omega
  | ⟨1, _⟩ => show win0_4.index t (1 : Fin 4) * 4 + 1 * h.val = h'.val; omega
  | ⟨2, _⟩ => show win0_4.index t (2 : Fin 4) * 4096 + 1 * s.val = s.val; omega
  | ⟨3, _⟩ => show win0_4.index t (3 : Fin 4) * 1 + 1 * 0 = 0; omega

theorem emb5 (r j : Fin 512) (r' : Fin 16384) (j' : Fin 1024) (hr : r'.val = (gb t * 8 + gq t) * 512 + r.val) (hj : j'.val = gh t * 512 + j.val) :
    ((cfg0.win 5).blk t).view.emb (ix2 r j) = ix2 r' j' := by
  obtain ⟨e0, e1⟩ := idx5 t
  funext a; apply Fin.ext
  match a with
  | ⟨0, _⟩ => show win0_5.index t (0 : Fin 2) * 512 + 1 * r.val = r'.val; omega
  | ⟨1, _⟩ => show win0_5.index t (1 : Fin 2) * 512 + 1 * j.val = j'.val; omega

/-- The argument arrays. -/
abbrev argQ : FVec Ideal ⟨4, ![4, 4096, 8, 128]⟩ .f32 := m ((c : Thread nD τ).loc main_arg1)
abbrev argK : FVec Ideal ⟨4, ![4, 4096, 8, 128]⟩ .f32 := m ((c : Thread nD τ).loc main_arg2)
abbrev argV : FVec Ideal ⟨4, ![4, 4096, 8, 128]⟩ .f32 := m ((c : Thread nD τ).loc main_arg3)
abbrev argC : FVec Ideal ⟨3, ![4, 8, 4096]⟩ .f32 := m ((c : Thread nD τ).loc main_arg4)

/-- A number at an index of the key axis, none past its end. -/
def at4096 {α : Type} [Zero α] (f : Fin 4096 → α) (s : ℕ) : α := if h : s < 4096 then f ⟨s, h⟩ else 0

theorem at4096_val {α : Type} [Zero α] (f : Fin 4096 → α) (s : Fin 4096) : at4096 f s.val = f s := dif_pos s.isLt

theorem toReal_of {x : EReal} (h : ∃ r : ℝ, x = (r : EReal)) : x = (x.toReal : EReal) := by
  obtain ⟨r, rfl⟩ := h
  rw [EReal.toReal_coe]

/-- The blocks of a grid point hold the arguments of its sequence, heads and queries. -/
theorem holds (hq : ∀ i, ∃ r : ℝ, argQ m c i = (r : EReal)) (hk : ∀ i, ∃ r : ℝ, argK m c i = (r : EReal)) (hc : ∀ i, ∃ r : ℝ, argC m c i = (r : EReal))
    (h : Fin 4) (cc : Fin 512) (qi : Fin 8) (hqi : qi.val = gq t) (b : Fin 4) (hb : b.val = gb t) (H : Fin 8) (hH : H.val = gh t * 4 + h.val)
    (T : Fin 4096) (hT : T.val = 512 * qi.val + cc.val) :
    Holds qi h cc (fun d => (argQ m c (ix4 b T H d)).toReal * qs) (fun s d => at4096 (fun s => (argK m c (ix4 b s H d)).toReal) s)
      (at4096 fun s => (argC m c (ix3 b H s)).toReal) (argC m c (ix3 b H T)).toReal (fun d => at4096 fun s => argV m c (ix4 b s H d))
      (iblk m c 0 t) (iblk m c 1 t) (iblk m c 2 t) (iblk m c 3 t) (iblk m c 4 t) where
  q d := by
    have hcol : (col h d).val = 128 * h.val + d.val := rfl
    have hg := (coords_lt t).2.1
    have e : iblk m c 0 t (ix2 cc (col h d)) = V m c main_v9 (ix2 (⟨(gb t * 8 + gq t) * 512 + cc.val, by omega⟩ : Fin 16384) (⟨2048 + (gh t * 512 + (col h d).val), by omega⟩ : Fin 4096)) :=
      congrArg (V m c main_v9) (emb0 t cc (col h d) _ _ rfl (by dsimp only; omega))
    refine e.trans ((v9_q m c _ ⟨gh t * 512 + (col h d).val, by omega⟩).trans ?_)
    rw [qScale_eq, EReal.coe_mul, ← toReal_of (hq _)]
    refine congrArg (fun x : EReal => x * (qs : EReal)) (congrArg (argQ m c) ?_)
    congr 1 <;> apply Fin.ext <;> dsimp only <;> omega
  k s d := by
    have hcol : (col h d).val = 128 * h.val + d.val := rfl
    have hg := (coords_lt t).2.1
    have e : iblk m c 1 t (ix2 s (col h d)) = V m c main_v9 (ix2 (⟨gb t * 4096 + s.val, by omega⟩ : Fin 16384) (⟨3072 + (gh t * 512 + (col h d).val), by omega⟩ : Fin 4096)) :=
      congrArg (V m c main_v9) (emb1 t s (col h d) _ _ rfl (by dsimp only; omega))
    refine e.trans ((v9_k m c _ ⟨gh t * 512 + (col h d).val, by omega⟩).trans ?_)
    rw [at4096_val, ← toReal_of (hk _)]
    refine congrArg (argK m c) ?_
    congr 1 <;> apply Fin.ext <;> dsimp only <;> omega
  cs s := by
    have e : iblk m c 4 t (ix4 0 h s 0) = V m c main_v13 (ix4 b H s 0) := congrArg (V m c main_v13) (emb4 t h s b H hb hH)
    refine e.trans ((v13_apply m c b H s).trans ?_)
    rw [at4096_val, ← toReal_of (hc _)]
  ct := by
    have e : iblk m c 3 t (ix4 0 h qi cc) = V m c main_v14 (ix4 b H qi cc) := congrArg (V m c main_v14) (emb3 t h qi cc b H hb hH)
    refine e.trans ((v14_apply m c b H qi cc).trans ?_)
    rw [← toReal_of (hc _)]
    refine congrArg (argC m c) ?_
    congr 1; apply Fin.ext; dsimp only; omega
  v k d r := by
    have hcol : (col h d).val = 128 * h.val + d.val := rfl
    have hg := (coords_lt t).2.1
    have e : iblk m c 2 t (ix3 k (col h d) r) = V m c main_v12 (ix3 (⟨gb t * 8 + k.val, by omega⟩ : Fin 32) (⟨gh t * 512 + (col h d).val, by omega⟩ : Fin 1024) r) :=
      congrArg (V m c main_v12) (emb2 t k (col h d) r _ _ rfl rfl)
    refine e.trans ((v12_apply m c _ _ r).trans ?_)
    have hr : 512 * k.val + r.val = (⟨512 * k.val + r.val, by omega⟩ : Fin 4096).val := rfl
    rw [hr, at4096_val]
    refine congrArg (argV m c) ?_
    congr 1 <;> apply Fin.ext <;> dsimp only <;> omega

/-- The array that the blocks make up. -/
abbrev goal : FVec Ideal ⟨2, ![16384, 1024]⟩ .bf16 := resT (argQ m c) (argK m c) (argV m c) (argC m c)

/-- A grid point writes back its block of the reference's result. -/
theorem flushed_eq (hq : ∀ i, ∃ r : ℝ, argQ m c i = (r : EReal)) (hk : ∀ i, ∃ r : ℝ, argK m c i = (r : EReal)) (hc : ∀ i, ∃ r : ℝ, argC m c i = (r : EReal)) :
    (dats m 0 c).flushed 5 t = ((cfg0.win 5).blk t).view.read (Elt Ideal) (goal m c) := by
  rw [flushed5_A]
  funext j
  obtain ⟨cc, jj, rfl⟩ : ∃ (cc jj : Fin 512), j = ix2 cc jj := ⟨j 0, j 1, (ix2_eta j).symm⟩
  obtain ⟨hb, hg, hqi⟩ := coords_lt t
  obtain ⟨h, d, rfl⟩ : ∃ (h : Fin 4) (d : Fin 128), jj = col h d :=
    ⟨⟨jj.val / 128, by omega⟩, ⟨jj.val % 128, by omega⟩, Fin.ext (by show jj.val = 128 * (jj.val / 128) + jj.val % 128; omega)⟩
  have hcol : (col h d).val = 128 * h.val + d.val := rfl
  obtain ⟨M, l, a, hI, hA, hout⟩ := out_value c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (iblk m c 0 t) (iblk m c 1 t) (iblk m c 2 t) (iblk m c 3 t) (iblk m c 4 t)
    ⟨gq t, hqi⟩ rfl h cc _ _ _ _ _
    (holds m c t hq hk hc h cc ⟨gq t, hqi⟩ rfl ⟨gb t, hb⟩ rfl ⟨gh t * 4 + h.val, by omega⟩ rfl ⟨512 * gq t + cc.val, by omega⟩ rfl)
  refine (hout d).trans ?_
  have hr := quotient_ref (argQ m c) (argK m c) (argV m c) (argC m c) ⟨gb t, hb⟩ ⟨gh t * 4 + h.val, by omega⟩ ⟨512 * gq t + cc.val, by omega⟩
    _ _ _ _ _ d (fun d => toReal_of (hq _)) (fun s d => by rw [at4096_val]; exact toReal_of (hk _)) (fun s => by rw [at4096_val]; exact toReal_of (hc _))
    (toReal_of (hc _)) (fun s => by rw [at4096_val]) M l (a d) hI (hA d)
  rw [hr]
  have e : ((cfg0.win 5).blk t).view.read (Elt Ideal) (goal m c) (ix2 cc (col h d))
      = goal m c (ix2 (⟨(gb t * 8 + gq t) * 512 + cc.val, by omega⟩ : Fin 16384) (⟨gh t * 512 + (col h d).val, by omega⟩ : Fin 1024)) :=
    congrArg (goal m c) (emb5 t cc (col h d) _ _ rfl rfl)
  refine Eq.trans ?_ e.symm
  refine Eq.trans ?_ (resT_apply (argQ m c) (argK m c) (argV m c) (argC m c) _ _).symm
  congr 1 <;> apply Fin.ext <;> dsimp only <;> omega

/-- Every index of the result array is in some point's block. -/
theorem covered (i : S16384x1024.Idx) : ∃ t : Fin cfg0.N, (cfg0.win 5).flush t = true ∧ i ∈ ((cfg0.win 5).blk t).view.set := by
  obtain ⟨r, j, rfl⟩ : ∃ (r : Fin 16384) (j : Fin 1024), i = ix2 r j := ⟨i 0, i 1, (ix2_eta i).symm⟩
  obtain ⟨t, h0, h1⟩ := point_of ⟨r.val / 512, by omega⟩ ⟨j.val / 512, by omega⟩
  refine ⟨t, flush0_5 t, ?_⟩
  have e := emb5 t ⟨r.val % 512, by omega⟩ ⟨j.val % 512, by omega⟩ r j (by dsimp only at *; omega) (by dsimp only at *; omega)
  rw [← e]
  exact View.emb_mem_set _ _

/-- The kernel's result array is the reference's result. -/
theorem final (hq : ∀ i, ∃ r : ℝ, argQ m c i = (r : EReal)) (hk : ∀ i, ∃ r : ℝ, argK m c i = (r : EReal)) (hc : ∀ i, ∃ r : ℝ, argC m c i = (r : EReal)) :
    (dats m 0 c).arrAt 5 cfg0.N = goal m c :=
  (dats m 0 c).arrAt_eq_of_cover 5 (goal m c) (fun t _ => flushed_eq m c t hq hk hc) covered

end Cert.Proof.Fox

end
-- ==== Proof.FoxClaims.lean ====
/-
  The claims of the attention call: the frames, the named constant, and the value — the kernel's result array is the
  reference's on finite queries, keys and running sums.
-/
module

public import proofs.«01_k».proof.Proof.Launch
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof.FoxClaims

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant. -/
theorem preserves : Cert.preserves_Kernel_KernelIdeal :=
  IdealRules.named_const.statement Cert.KernelIdeal.κ "log2e" .f32 0x3FB8AA3B#32 (((Real.log 2)⁻¹ : ℝ) : EReal) rfl

/-- The kernel's result is the reference's. -/
theorem algebraic : Cert.algebraic_KernelIdeal_ReferenceIdeal_pre_finite := by
  intro m ρ m' ρ' hpre hagree
  refine ⟨fun c => Fox.goal m c, (θ_run _ _ _).mono (fun r h c => ⟨?_, (h c).2⟩) (Cert.KernelIdeal.Value.run_blocks (F := Ideal) m ρ),
    (θ_run _ _ _).mono (fun r h c => ⟨?_, (h c).2⟩) (Cert.ReferenceIdeal.Value.run (F := Ideal) m' ρ')⟩
  · obtain ⟨hq, hk, hc⟩ := Fox.reals _ _ _ _ _ (hpre c)
    exact (h c).1.trans (Fox.final m c hq hk hc)
  · obtain ⟨-, h1, h2, h3, h4⟩ := hagree c
    refine (h c).1.trans ((Fox.ref_eq m' c).trans ?_)
    show Fox.resT _ _ _ _ = Fox.resT (m (c.tc.loc Cert.KernelIdeal.main_arg1)) (m (c.tc.loc Cert.KernelIdeal.main_arg2)) (m (c.tc.loc Cert.KernelIdeal.main_arg3)) (m (c.tc.loc Cert.KernelIdeal.main_arg4))
    rw [← h1, ← h2, ← h3, ← h4]

end Cert.Proof.FoxClaims

end
-- ==== Proof.MoeWords.lean ====
/-
  The words of the experts kernel's tables: what the body's conditions say at a grid point, and what the two words of a
  point have to satisfy for its fetches to be well ordered (`Good`).
-/
module

public import proofs.«01_k».proof.Proof.Gen.ExpertsIdeal
public import Idealize.ShloMosaic.Lib.WordCmp
public import Idealize.ShloMosaic.Lib.Tactic

@[expose] public section

noncomputable section

namespace Cert.Proof.Moe

open Idealize.ShloMosaic Idealize.ShloMosaic.TcCoe Cert.ExpertsIdeal Cert.ExpertsIdeal.Gen

/-- The word that stands for a next expert: its number, or -1 for none. -/
def nextWord : Option ℕ → BitVec 32
  | none => 4294967295#32
  | some e => BitVec.ofNat 32 e

section Conds

variable (i : grid0.Coords) (n a b : ℕ) (hn : n ≤ 144) (ha : a ≤ 15) (hb : b ≤ 15)

theorem lt144 : (i 0).val < 144 := (i 0).isLt

include hn in
theorem cond1_iff : k0_cond1 i (BitVec.ofNat 32 n) = 1#1 ↔ (i 0).val < n ∧ (i 0).val = 0 := by
  have := lt144 i
  unfold k0_cond1
  word_cmp

include hn ha hb in
theorem cond2_iff : k0_cond2 i (BitVec.ofNat 32 n) (BitVec.ofNat 32 a) (BitVec.ofNat 32 b) = 1#1 ↔ (i 0).val < n ∧ ((i 0).val = 0 ∨ a ≠ b) := by
  have := lt144 i
  unfold k0_cond2
  word_cmp

include hn ha hb in
theorem cond3_iff (o : Option ℕ) (ho : ∀ e, o = some e → e ≤ 15) :
    k0_cond3 i (BitVec.ofNat 32 n) (BitVec.ofNat 32 a) (BitVec.ofNat 32 b) (nextWord o) = 1#1
      ↔ ((i 0).val < n ∧ ((i 0).val = 0 ∨ a ≠ b)) ∧ o.isSome := by
  have := lt144 i
  unfold k0_cond3
  rcases o with _ | e
  · have h : IntOp.cmpi CmpIPredicate.sge 4294967295#32 0#32 = 0#1 := by decide
    unfold nextWord; word_cmp
    rw [h]
    refine ⟨fun h => absurd ?_ h, fun h => absurd h.2 (by decide)⟩
    rw [show IntOp.andi (BitVec.ofBool (decide ((i 0).val < n) && (decide ((i 0).val = 0) || decide (a ≠ b)))) 0#1 = 0#1 from BitVec.and_zero]
    rfl
  · have := ho e rfl
    unfold nextWord; word_cmp
    exact ⟨fun h => ⟨h.1, rfl⟩, fun h => ⟨h.1, Nat.zero_le _⟩⟩

include hn in
theorem cond4_iff : k0_cond4 i (BitVec.ofNat 32 n) = 1#1 ↔ (i 0).val < n := by
  have := lt144 i
  unfold k0_cond4
  word_cmp

include hn in
theorem cond5_iff : k0_cond5 i (BitVec.ofNat 32 n) = 1#1 ↔ ¬ (i 0).val < n := by
  have := lt144 i
  unfold k0_cond5
  word_cmp
  by_cases h : (i 0).val < n
  · rw [decide_eq_true h]; exact ⟨fun h' => absurd rfl h', fun h' => absurd h h'⟩
  · rw [decide_eq_false h]; exact ⟨fun _ => h, fun _ => by decide⟩

end Conds

theorem off1_eq (i : grid0.Coords) : k0_off1 i = ![(i 0).val] := by
  have := lt144 i
  funext x; fin_cases x
  show (BitVec.ofNat 32 (i 0).val).toNat = _
  simp only [BitVec.toNat_ofNat]; exact Nat.mod_eq_of_lt (by omega)

theorem off8_eq (i : grid0.Coords) : k0_off8 i = ![(i 0).val] := off1_eq i

theorem off2_eq (i : grid0.Coords) : k0_off2 i = ![(i 0).val - 1] := by
  unfold k0_off2
  exact (by decide +kernel : ∀ j : Fin 144, (![(Scalar.indexCast (Scalar.maxsi (Scalar.subi (BitVec.ofNat 32 j.val) 1#32) 0#32)).toNat] : Fin 1 → ℕ) = ![j.val - 1]) (i 0)

/-- The index map of the input's window: the grid point, held below the row blocks in use. -/
theorem map_word (n : ℕ) (hn : n ≤ 144) (j : Fin 144) :
    (Scalar.maxsi (Scalar.minsi (BitVec.ofNat 32 j.val) (Scalar.subi (BitVec.ofNat 32 n) 1#32)) 0#32).toNat = min j.val (n - 1) := by
  have := (by decide +kernel : ∀ (n : Fin 145) (j : Fin 144),
    (Scalar.maxsi (Scalar.minsi (BitVec.ofNat 32 j.val) (Scalar.subi (BitVec.ofNat 32 n.val) 1#32)) 0#32).toNat = min j.val (n.val - 1))
  exact this ⟨n, by omega⟩ j

/-! ## The schedule -/

/-- The tables as numbers: `n` row blocks in use, each row block's expert `te`, each row block's next expert `nx` (none
    for the last expert's), with what orders the fetches. -/
structure Sched where
  n : ℕ
  te : ℕ → ℕ
  nx : ℕ → Option ℕ
  hn : n ≤ 144
  hte : ∀ j, te j ≤ 15
  hnx : ∀ j e, nx j = some e → e ≤ 15
  fresh : ∀ j, j + 1 < n → te (j + 1) ≠ te j → nx j = some (te (j + 1))
  same : ∀ j, j + 1 < n → te (j + 1) = te j → nx (j + 1) = nx j
  last : ∀ j, j + 1 = n → nx j = none

namespace Sched

variable (s : Sched)

/-- The expert whose weights are in flight before grid point `j`. -/
def pend : ℕ → Option ℕ
  | 0 => none
  | j + 1 => if j < s.n then s.nx j else none

theorem pend_dead (j : ℕ) (h : s.n ≤ j) : s.pend j = none := by
  rcases j with _ | j
  · rfl
  · show (if j < s.n then s.nx j else none) = none
    split
    · exact s.last j (by omega)
    · rfl

theorem pend_fresh (j : ℕ) (h : j + 1 < s.n) (hf : s.te (j + 1) ≠ s.te j) : s.pend (j + 1) = some (s.te (j + 1)) := by
  show (if j < s.n then s.nx j else none) = _
  rw [if_pos (by omega), s.fresh j h hf]

theorem pend_same (j : ℕ) (h : j + 1 < s.n) (hf : s.te (j + 1) = s.te j) : s.pend (j + 1 + 1) = s.pend (j + 1) := by
  show (if j + 1 < s.n then s.nx (j + 1) else none) = (if j < s.n then s.nx j else none)
  rw [if_pos h, if_pos (by omega), s.same j h hf]

theorem pend_succ (j : ℕ) (h : j < s.n) : s.pend (j + 1) = s.nx j := if_pos h

theorem pend_le (j e : ℕ) (h : s.pend j = some e) : e ≤ 15 := by
  rcases j with _ | j
  · exact absurd h (by simp [pend])
  · revert h
    show (if j < s.n then s.nx j else none) = some e → _
    split
    · exact s.hnx j e
    · exact fun h => absurd h (by simp)

end Sched

end Cert.Proof.Moe

end
-- ==== Proof.MoeModel.lean ====
/-
  The experts' schedule in natural numbers: from the rows routed to each expert, the row blocks of each expert (`tiles`),
  their running sums (`ends`), each block's expert (`expertOf`) and the next expert with rows (`nextOf`); that these form a
  schedule (`sched`), and which expert owns a block (`expertOf_iff`).
-/
module

public import proofs.«01_k».proof.Proof.MoeWords
public import Idealize.ShloMosaic.Lib.Routing.Words
public import Idealize.ShloMosaic.Lib.Routing.Ops

@[expose] public section

namespace Cert.Proof.Moe

/-- The row blocks of expert `e`. -/
def tiles (cnt : ℕ → ℕ) (e : ℕ) : ℕ := (cnt e + 255) / 256

/-- The row blocks of the experts up to and including `e`. -/
def ends (cnt : ℕ → ℕ) (e : ℕ) : ℕ := ((List.range (e + 1)).map (tiles cnt)).sum

/-- The expert of block `j`. -/
def expertOf (cnt : ℕ → ℕ) (j : ℕ) : ℕ := min (Nat.count (fun e => ends cnt e ≤ j) 16) 15

/-- An expert as a candidate to follow `e`: itself if it is later and has rows, else 16. -/
def later (cnt : ℕ → ℕ) (e e' : ℕ) : ℕ := if e < e' ∧ 0 < tiles cnt e' then e' else 16

/-- The first expert with rows after `e`, or 16. -/
def firstAfter (cnt : ℕ → ℕ) (e : ℕ) : ℕ := (Finset.univ : Finset (Fin 16)).fold min 2147483647 (fun e' => later cnt e e'.val)

def nextOf (cnt : ℕ → ℕ) (e : ℕ) : Option ℕ := if firstAfter cnt e < 16 then some (firstAfter cnt e) else none

variable (cnt : ℕ → ℕ)

theorem ends_succ (e : ℕ) : ends cnt (e + 1) = ends cnt e + tiles cnt (e + 1) := by
  unfold ends; rw [List.range_succ (n := e + 1), List.map_append, List.sum_append]; simp

theorem ends_zero : ends cnt 0 = tiles cnt 0 := by simp [ends]

theorem ends_mono {a b : ℕ} (h : a ≤ b) : ends cnt a ≤ ends cnt b := by
  induction b, h using Nat.le_induction with
  | base => exact le_rfl
  | succ b _ ih => rw [ends_succ]; omega

/-- The blocks before expert `e`'s. -/
theorem ends_sub (a e : ℕ) (h : a < e) : ends cnt a ≤ ends cnt e - tiles cnt e ∧ tiles cnt e ≤ ends cnt e := by
  obtain ⟨e, rfl⟩ : ∃ k, e = k + 1 := ⟨e - 1, by omega⟩
  have := ends_mono cnt (show a ≤ e by omega)
  rw [ends_succ]; omega

theorem tiles_le_ends (e : ℕ) : tiles cnt e ≤ ends cnt e := by
  rcases e with _ | e
  · rw [ends_zero]
  · rw [ends_succ]; omega

/-- A running count of a property that holds up to a point: it holds exactly below the count. -/
theorem count_down (p : ℕ → Prop) [DecidablePred p] (hp : ∀ a b, a ≤ b → p b → p a) (n : ℕ) :
    ∀ e, e < n → (p e ↔ e < Nat.count p n) := by
  induction n with
  | zero => intro e h; omega
  | succ n ih =>
    intro e he
    rw [Nat.count_succ]
    by_cases hn : p n
    · have hall : Nat.count p n = n := Nat.count_iff_forall.mpr fun k hk => hp _ _ hk.le hn
      rw [if_pos hn, hall]
      exact ⟨fun _ => he, fun _ => hp e n (by omega) hn⟩
    · rw [if_neg hn]
      rcases Nat.lt_or_ge e n with h | h
      · exact ih e h
      · obtain rfl : e = n := by omega
        exact ⟨fun h => absurd h hn, fun h => absurd h (by have := Nat.count_le (p := p) (n := e); omega)⟩

theorem expertOf_le (j : ℕ) : expertOf cnt j ≤ 15 := Nat.min_le_right _ _

/-- The expert of a block in use: the block is below its end and not below an earlier one's. -/
theorem expertOf_spec {j : ℕ} (hj : j < ends cnt 15) : j < ends cnt (expertOf cnt j) ∧ ∀ e, e < expertOf cnt j → ends cnt e ≤ j := by
  have hd := count_down (fun e => ends cnt e ≤ j) (fun a b hab h => (ends_mono cnt hab).trans h) 16
  have h15 := hd 15 (by omega)
  have hc : Nat.count (fun e => ends cnt e ≤ j) 16 ≤ 15 := by
    by_contra h; exact absurd (h15.mpr (by omega)) (by omega)
  have he : expertOf cnt j = Nat.count (fun e => ends cnt e ≤ j) 16 := Nat.min_eq_left hc
  rw [he]
  refine ⟨?_, fun e h => (hd e (by omega)).mpr h⟩
  by_contra h
  exact absurd ((hd _ (by omega)).mp (by omega : ends cnt (Nat.count (fun e => ends cnt e ≤ j) 16) ≤ j)) (by omega)

/-- Block `j` lies in expert `e`'s stretch exactly when it is in use and `e` is its expert. -/
theorem expertOf_iff {j e : ℕ} (he : e ≤ 15) :
    (ends cnt e - tiles cnt e ≤ j ∧ j < ends cnt e) ↔ (j < ends cnt 15 ∧ expertOf cnt j = e) := by
  constructor
  · rintro ⟨h1, h2⟩
    have hj : j < ends cnt 15 := h2.trans_le (ends_mono cnt he)
    refine ⟨hj, ?_⟩
    obtain ⟨ha, hb⟩ := expertOf_spec cnt hj
    rcases Nat.lt_trichotomy (expertOf cnt j) e with h | h | h
    · have := (ends_sub cnt _ _ h).1; omega
    · exact h
    · have := hb e h; omega
  · rintro ⟨hj, rfl⟩
    obtain ⟨ha, hb⟩ := expertOf_spec cnt hj
    refine ⟨?_, ha⟩
    rcases h : expertOf cnt j with _ | k
    · rw [ends_zero]; omega
    · have := hb k (by omega)
      rw [ends_succ]; omega

/-- A minimum: at most its start and each of its terms, and one of them. -/
theorem fold_min (f : ℕ → ℕ) (r : ℕ) :
    (∀ x, x < 16 → (Finset.univ : Finset (Fin 16)).fold min r (fun x => f x.val) ≤ f x)
      ∧ ((Finset.univ : Finset (Fin 16)).fold min r (fun x => f x.val) = r
        ∨ ∃ x, x < 16 ∧ (Finset.univ : Finset (Fin 16)).fold min r (fun x => f x.val) = f x) := by
  obtain ⟨h1, h2⟩ := (Finset.le_fold_min _).mp (le_refl ((Finset.univ : Finset (Fin 16)).fold min r (fun x => f x.val)))
  refine ⟨fun x hx => h2 ⟨x, hx⟩ (Finset.mem_univ _), ?_⟩
  rcases (Finset.fold_min_le _).mp (le_refl ((Finset.univ : Finset (Fin 16)).fold min r (fun x => f x.val))) with h | ⟨x, -, h⟩
  · exact .inl (le_antisymm h1 h)
  · exact .inr ⟨x.val, x.isLt, le_antisymm (h2 x (Finset.mem_univ _)) h⟩

theorem firstAfter_le (e : ℕ) : firstAfter cnt e ≤ 16 := by
  refine ((fold_min (later cnt e) 2147483647).1 0 (by omega)).trans ?_
  unfold later; rw [if_neg (by omega)]

theorem nextOf_some {e b : ℕ} (hb : b < 16) (heb : e < b) (ht : 0 < tiles cnt b) (h0 : ∀ x, e < x → x < b → tiles cnt x = 0) :
    nextOf cnt e = some b := by
  obtain ⟨h2, h3⟩ := fold_min (later cnt e) 2147483647
  have hle : firstAfter cnt e ≤ b := by
    have := h2 b hb
    rwa [show later cnt e b = b from if_pos ⟨heb, ht⟩] at this
  have heq : firstAfter cnt e = b := by
    rcases h3 with h3 | ⟨x, hx, h3⟩
    · have : firstAfter cnt e = 2147483647 := h3; omega
    · have h3 : firstAfter cnt e = later cnt e x := h3
      unfold later at h3
      split at h3
      · next h =>
        by_contra hne
        have := h0 x h.1 (by omega); omega
      · omega
  unfold nextOf; rw [heq, if_pos hb]

theorem nextOf_none {e : ℕ} (h0 : ∀ x, e < x → x < 16 → tiles cnt x = 0) : nextOf cnt e = none := by
  obtain ⟨-, h3⟩ := fold_min (later cnt e) 2147483647
  refine if_neg ?_
  rcases h3 with h3 | ⟨x, hx, h3⟩
  · have : firstAfter cnt e = 2147483647 := h3; omega
  · have h3 : firstAfter cnt e = later cnt e x := h3
    unfold later at h3
    split at h3
    · next h => have := h0 x h.1 hx; omega
    · omega

theorem nextOf_le {e b : ℕ} (h : nextOf cnt e = some b) : b ≤ 15 := by
  unfold nextOf at h
  split at h
  · have : firstAfter cnt e = b := Option.some.inj h; omega
  · exact absurd h (by simp)

/-- No rows after expert `a` where the blocks up to `a` are all those up to `b`. -/
theorem tiles_zero {a x b : ℕ} (hax : a < x) (hxb : x ≤ b) (h : ends cnt b ≤ ends cnt a) : tiles cnt x = 0 := by
  have h1 := ends_sub cnt a x hax
  have h2 := ends_mono cnt hxb
  omega

/-- The schedule of the counts. -/
def sched (hn : ends cnt 15 ≤ 144) : Sched where
  n := ends cnt 15
  te := expertOf cnt
  nx j := nextOf cnt (expertOf cnt j)
  hn := hn
  hte := expertOf_le cnt
  hnx _ _ h := nextOf_le cnt h
  fresh := fun j hj hne => by
    obtain ⟨ha, ha'⟩ := expertOf_spec cnt (show j < ends cnt 15 by omega)
    obtain ⟨hb, hb'⟩ := expertOf_spec cnt hj
    have hlt : expertOf cnt j < expertOf cnt (j + 1) := by
      by_contra h
      have := ha' (expertOf cnt (j + 1)) (by omega); omega
    have hE := hb' _ hlt
    refine nextOf_some cnt (by have := expertOf_le cnt (j + 1); omega) hlt ?_ fun x h1 h2 => ?_
    · obtain ⟨k, hk⟩ : ∃ k, expertOf cnt (j + 1) = k + 1 := ⟨expertOf cnt (j + 1) - 1, by omega⟩
      have hk' := hb' k (by omega)
      rw [hk, ends_succ] at hb
      rw [hk]; omega
    · exact tiles_zero cnt h1 le_rfl (by have := hb' x h2; omega)
  same := fun j _ h => by
    show nextOf cnt (expertOf cnt (j + 1)) = nextOf cnt (expertOf cnt j)
    rw [h]
  last := fun j hj => by
    obtain ⟨ha, -⟩ := expertOf_spec cnt (show j < ends cnt 15 by omega)
    exact nextOf_none cnt fun x h1 h2 => tiles_zero cnt h1 (show x ≤ 15 by omega) (by omega)

/-- The blocks in use fit the grid when at most 32768 rows are routed. -/
theorem ends_le (h : ((List.range 16).map cnt).sum ≤ 32768) : ends cnt 15 ≤ 144 := by
  have key : ∀ l : List ℕ, 256 * (l.map (tiles cnt)).sum ≤ (l.map cnt).sum + 255 * l.length := by
    intro l
    induction l with
    | nil => simp
    | cons a l ih =>
      simp only [List.map_cons, List.sum_cons, List.length_cons]
      have : 256 * tiles cnt a ≤ cnt a + 255 := Nat.mul_div_le _ _
      omega
  have := key (List.range 16)
  rw [List.length_range] at this
  show ((List.range 16).map (tiles cnt)).sum ≤ 144
  omega

end Cert.Proof.Moe
-- ==== Proof.MoeBody.lean ====
/-
  The body of the experts kernel at one grid point: what each of its branches takes and gives, the copies it starts and those it
  waits for among them.
-/
module

public import proofs.«01_k».proof.Proof.Gen.ExpertsIdeal.Skeleton
public import proofs.«01_k».proof.Proof.Gen.ExpertsIdeal.Launch
public import Idealize.ShloMosaic.Harness.Basic
public import Idealize.ShloMosaic.Lib.Tactic
public import Idealize.ShloMosaic.Lib.Transfers
public import Idealize.ShloMosaic.Lib.Claim
public import Idealize.ShloMosaic.Lib.VecWindow

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (Pipeline.UD sig nD τ) ℕ

/-- A buffer of core `c`, whole, at contents `f`. -/
abbrev held (c : Dev nD) (b : Ref sig .tc) (f : Buf (Elt F) ((Memref.whole b).view.loc (c : Thread nD τ))) : sProp 𝕄 :=
  (Memref.whole b).view.loc (c : Thread nD τ) ↦{fullShare} f

abbrev half (c : Dev nD) (b : Ref sig .tc) (f : Buf (Elt F) ((Memref.whole b).view.loc (c : Thread nD τ))) : sProp 𝕄 :=
  (Memref.whole b).view.loc (c : Thread nD τ) ↦{fullShare.right} f

/-- The kernel's body at point `i`, on the whole buffers and the two blocks. -/
abbrev bodyAt (i : grid0.Coords) (xs : Memref sig .tc .vmem S256x2048 .f32) (hxs : xs.IsWhole)
    (ys : Memref sig .tc .vmem S256x2048 .f32) (hys : ys.IsWhole) : Prog (TpuEff nD τ sig (Elt F) Λ₀ .tc) PUnit :=
  cc0_moe_experts i (Memref.whole main_v15) (Memref.isWhole_whole _) (Memref.whole main_v41) (Memref.isWhole_whole _)
    (Memref.whole main_v16) (Memref.isWhole_whole _) xs hxs (Memref.whole main_arg2) (Memref.isWhole_whole _)
    (Memref.whole main_arg3) (Memref.isWhole_whole _) ys hys (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4

/-! ## The words of the tables, the windows of the weights -/

/-- The contents of core `c`'s buffer `b`. -/
abbrev BufOf (F : FTy → Type) (c : Dev nD) (b : Ref sig .tc) : Type := Buf (Elt F) ((Memref.whole b).view.loc (c : Thread nD τ))

/-- The one word of the third table: how many row blocks are in use. -/
abbrev word3 (c : Dev nD) (T3 : BufOf F c main_v16) : BitVec 32 :=
  ((Memref.whole main_v16).access (Rect.unit (s := S1) ![0] S1.size inb_S1_S1_0)).read (Elt F) T3
    (Shape.Idx.first (numel1_S1.symm ▸ Nat.one_pos))

/-- The word of the first table (each row block's expert) at offset `o`. -/
abbrev word1 (c : Dev nD) (T1 : BufOf F c main_v15) (o : Fin 1 → Nat) (ho : ∀ a, o a + S1.size a ≤ S144.size a) : BitVec 32 :=
  ((Memref.whole main_v15).access (Rect.unit (s := S144) o S1.size ho)).read (Elt F) T1
    (Shape.Idx.first (numel1_S1.symm ▸ Nat.one_pos))

/-- The word of the second table (each row block's next expert) at offset `o`. -/
abbrev word2 (c : Dev nD) (T2 : BufOf F c main_v41) (o : Fin 1 → Nat) (ho : ∀ a, o a + S1.size a ≤ S144.size a) : BitVec 32 :=
  ((Memref.whole main_v41).access (Rect.unit (s := S144) o S1.size ho)).read (Elt F) T2
    (Shape.Idx.first (numel1_S1.symm ▸ Nat.one_pos))

/-- A word that names an expert: its blocks lie inside the two weight arrays. -/
def Inb (w : BitVec 32) : Prop :=
  (∀ a, k0_off3 w a + S1x1x2048x2048.size a ≤ S2x16x2048x2048.size a)
    ∧ (∀ a, k0_off4 w a + S1x1x1024x2048.size a ≤ S2x16x1024x2048.size a)

/-- The window of the first weight array at the expert named by `w`. -/
abbrev win2 (w : BitVec 32) (h : Inb w) : Memref sig .tc .hbm S2048x2048 .f32 :=
  ((Memref.whole main_arg2).slice (Rect.unit (s := S2x16x2048x2048) (k0_off3 w) S1x1x2048x2048.size h.1) (fun _ => rfl)).squeeze
    S2048x2048 squeezes_S1x1x2048x2048_S2048x2048

/-- The window of the second weight array at the expert named by `w`. -/
abbrev win3 (w : BitVec 32) (h : Inb w) : Memref sig .tc .hbm S1024x2048 .f32 :=
  ((Memref.whole main_arg3).slice (Rect.unit (s := S2x16x1024x2048) (k0_off4 w) S1x1x1024x2048.size h.2) (fun _ => rfl)).squeeze
    S1024x2048 squeezes_S1x1x1024x2048_S1024x2048

/-- The first weights of the expert named by `w`. -/
def wts2 (c : Dev nD) (A2 : BufOf F c main_arg2) (w : BitVec 32) (h : Inb w) : Vec F S2048x2048 .f32 :=
  (win2 w h).view.read (Elt F) A2

/-- The second weights of the expert named by `w`. -/
def wts3 (c : Dev nD) (A3 : BufOf F c main_arg3) (w : BitVec 32) (h : Inb w) : Vec F S1024x2048 .f32 :=
  (win3 w h).view.read (Elt F) A3

/-! ## What is held between two points -/

/-- The semaphores of the two copies. -/
abbrev dma4 : SemLoc sig := SemLoc.dma (⟨4, by decide⟩ : DmaSem sig)
abbrev dma5 : SemLoc sig := SemLoc.dma (⟨5, by decide⟩ : DmaSem sig)

/-- No copy is in flight: both landing buffers, both semaphores at zero, and the weight arrays whole. -/
def Free (c : Dev nD) (A2 : BufOf F c main_arg2) (A3 : BufOf F c main_arg3) : sProp 𝕄 :=
  iprop((∃ f, held c cc0_scratch0 f) ∗ (∃ f, held c cc0_scratch1 f)
    ∗ semVal ((c : Thread nD τ), dma4) 0 ∗ semVal ((c : Thread nD τ), dma5) 0
    ∗ held c main_arg2 A2 ∗ held c main_arg3 A3)

/-- Both copies of the weights of the expert named by `w` are in flight: each carries its landing buffer at the weights
    and the window it reads; what is left of the two arrays stays. -/
def Fly (c : Dev nD) (A2 : BufOf F c main_arg2) (A3 : BufOf F c main_arg3) (w : BitVec 32) (h : Inb w) : sProp 𝕄 :=
  iprop((∃ f : BufOf F c cc0_scratch0, ⌜(Memref.whole cc0_scratch0).view.read (Elt F) f = wts2 c A2 w h⌝
      ∗ Transfers.Flight (countersEmb (U := Pipeline.UD sig nD τ)) (c : Thread nD τ) dma4 () 524288
          iprop(held c cc0_scratch0 f ∗ ((Memref.whole main_arg2).view.loc (c : Thread nD τ) ↦[(win2 w h).view.set]{fullShare} A2)))
    ∗ (∃ f : BufOf F c cc0_scratch1, ⌜(Memref.whole cc0_scratch1).view.read (Elt F) f = wts3 c A3 w h⌝
      ∗ Transfers.Flight (countersEmb (U := Pipeline.UD sig nD τ)) (c : Thread nD τ) dma5 () 262144
          iprop(held c cc0_scratch1 f ∗ ((Memref.whole main_arg3).view.loc (c : Thread nD τ) ↦[(win3 w h).view.set]{fullShare} A3)))
    ∗ ((Memref.whole main_arg2).view.loc (c : Thread nD τ) ↦[Finset.univ \ (win2 w h).view.set]{fullShare} A2)
    ∗ ((Memref.whole main_arg3).view.loc (c : Thread nD τ) ↦[Finset.univ \ (win3 w h).view.set]{fullShare} A3))

/-- The two buffers of narrowed weights hold `b2` and `b3`. -/
def Wts (c : Dev nD) (b2 : Vec F S2048x2048 .bf16) (b3 : Vec F S1024x2048 .bf16) : sProp 𝕄 :=
  iprop(owns (c : Thread nD τ) (Memref.whole cc0_scratch2) fullShare b2 ∗ owns (c : Thread nD τ) (Memref.whole cc0_scratch3) fullShare b3)

/-- The point starts the fetch of a next expert. -/
def More (i : grid0.Coords) (w0 w4 w8 w20 : BitVec 32) : Prop := k0_cond3 i w0 w4 w8 w20 = 1#1

/-! ## The body, by case -/

section Cases

variable [∀ e, Nonempty (Elt F e)] (c : Dev nD) (i : grid0.Coords) (xs : Memref sig .tc .vmem S256x2048 .f32) (hxs : xs.IsWhole)
    (ys : Memref sig .tc .vmem S256x2048 .f32) (hys : ys.IsWhole) (W : Waits sig Unit)
    (T1 : BufOf F c main_v15) (T2 : BufOf F c main_v41) (T3 : BufOf F c main_v16)
    (A2 : BufOf F c main_arg2) (A3 : BufOf F c main_arg3) (x : Vec F S256x2048 .f32)
    (w0 w4 w8 w20 : BitVec 32) (h0 : word3 c T3 = w0) (h4 : word1 c T1 (k0_off1 i) (k0_off1_inb i) = w4)
    (h8 : word1 c T1 (k0_off2 i) (k0_off2_inb i) = w8) (h20 : word2 c T2 (k0_off8 i) (k0_off8_inb i) = w20)

/-- What every case holds: the tables' halves, the input block, the output block at anything, what is owed. -/
def Base (out : sProp 𝕄) : sProp 𝕄 :=
  iprop(half c main_v15 T1 ∗ half c main_v41 T2 ∗ half c main_v16 T3 ∗ owns (c : Thread nD τ) xs fullShare x ∗ out)

include h0 h4 h8 h20 in
set_option maxHeartbeats 400000 in
/-- The first point, in use, with a next expert: its weights fetched, waited for and narrowed, the next fetch started. -/
theorem run_first_next (hc1 : k0_cond1 i w0 = 1#1) (hc2 : k0_cond2 i w0 w4 w8 = 1#1) (hc3 : More i w0 w4 w8 w20)
    (hc4 : k0_cond4 i w0 = 1#1) (hc5 : ¬ k0_cond5 i w0 = 1#1)
    (h30 : word1 c T1 ![0] inb_S144_S1_0 = w4) (hi4 : Inb w4) (hi20 : Inb w20) (Q : PUnit → sProp 𝕄) :
    iprop(Base c xs T1 T2 T3 x iprop(∃ d, owns (c : Thread nD τ) ys fullShare d) ∗ Free c A2 A3 ∗ (∃ b2 b3, Wts c b2 b3)
        ∗ owes (c : Thread nD τ) 0 W
        ∗ (iprop(Base c xs T1 T2 T3 x (owns (c : Thread nD τ) ys fullShare (k0_pay3 x (k0_pay1 (wts2 c A2 w4 hi4)) (k0_pay2 (wts3 c A3 w4 hi4))))
            ∗ Fly c A2 A3 w20 hi20 ∗ Wts c (k0_pay1 (wts2 c A2 w4 hi4)) (k0_pay2 (wts3 c A3 w4 hi4))
            ∗ ∃ W, owes (c : Thread nD τ) 0 W) -∗ Q ⟨⟩))
      ⊢ wp frame (wpE (defs₀ (F := F)) Variants.none c none) Set.univ (bodyAt i xs hxs ys hys) Q := by
  subst h20 h30
  have hk1 : k0_chk1 i w0 (word1 c T1 ![0] inb_S144_S1_0) := ⟨fun _ => hi4.1, fun _ => hi4.2⟩
  have hk2 : k0_chk2 i w0 (word1 c T1 ![0] inb_S144_S1_0) w8 (word1 c T1 (k0_off5 i) (k0_off5_inb i)) := by
    rw [show word1 c T1 (k0_off5 i) (k0_off5_inb i) = word1 c T1 ![0] inb_S144_S1_0 from h4]
    exact ⟨fun _ => hi4.1, fun _ => hi4.2⟩
  have hk3 : k0_chk3 i w0 (word1 c T1 ![0] inb_S144_S1_0) w8 (word2 c T2 (k0_off8 i) (k0_off8_inb i)) (word2 c T2 (k0_off9 i) (k0_off9_inb i)) :=
    ⟨fun _ => hi20.1, fun _ => hi20.2⟩
  unfold bodyAt Base Free Wts owns
  rw [cc0_moe_experts_eq_skeleton]
  unfold cc0_moe_experts_skel
  iintro ⟨⟨HT1, HT2, HT3, ⟨%x0, %hx0, Hx⟩, ⟨%d0, ⟨%y0, %hy0, Hy⟩⟩⟩, ⟨⟨%s0, Hs0⟩, ⟨%s1, Hs1⟩, Hq4, Hq5, HA2, HA3⟩, ⟨%b2, %b3, ⟨%s2, %hs2, Hs2⟩, ⟨%s3, %hs3, Hs3⟩⟩, HO, HK⟩
  sl_exec
  rw [show run_first_next.sl.r c T3 = w0 from h0, show run_first_next.sl.r_1 c i T1 = (word1 c T1 ![0] inb_S144_S1_0) from h4, show run_first_next.sl.r_2 c i T1 = w8 from h8]
  sl_exec
  rw [show run_first_next.sl.r_6 c i T2 = word2 c T2 (k0_off8 i) (k0_off8_inb i) from rfl]
  have hc3' : k0_cond3 i w0 (word1 c T1 ![0] inb_S144_S1_0) w8 (word2 c T2 (k0_off8 i) (k0_off8_inb i)) = 1#1 := hc3
  sl_exec
  sl_step
  have e40 : run_first_next.sl.v40 c i T1 A2 w0 hc1 hk1 s0 = wts2 c A2 (word1 c T1 ![0] inb_S144_S1_0) hi4 := (View.readAt_full ..).trans (View.read_write_univ ..)
  have e45 : run_first_next.sl.v45 c i T1 A3 w0 hc1 hk1 s1 = wts3 c A3 (word1 c T1 ![0] inb_S144_S1_0) hi4 := (View.readAt_full ..).trans (View.read_write_univ ..)
  have e32 : run_first_next.sl.v32 c i T1 A2 w0 hc1 hk1 s0 = k0_pay1 (wts2 c A2 (word1 c T1 ![0] inb_S144_S1_0) hi4) := by
    unfold run_first_next.sl.v32
    exact (View.readCov_full ..).trans (congrArg k0_pay1 e40)
  have e44 : run_first_next.sl.v44 c i T1 A3 w0 hc1 hk1 s1 = k0_pay2 (wts3 c A3 (word1 c T1 ![0] inb_S144_S1_0) hi4) := by
    unfold run_first_next.sl.v44
    exact (View.readCov_full ..).trans (congrArg k0_pay2 e45)
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact (View.read_writes_full ..).trans (congr (congr (congrArg k0_pay3 ((View.readAt_full ..).trans hx0)) e32) e44)
  isplitl [Hq4 Hq5 HA2 HA3]
  · unfold Fly
    isplitl [Hq4]
    · iexists _; isplitr; swap; · iexact Hq4
      ipureintro
      exact View.read_write_univ ..
    isplitl [Hq5]
    · iexists _; isplitr; swap; · iexact Hq5
      ipureintro
      exact View.read_write_univ ..
    isplitl [HA2]; · iexact HA2
    iexact HA3
  isplitl [Hs2 Hs3]
  · isplitl [Hs2]
    · iexists _; isplitr; swap; · iexact Hs2
      ipureintro
      exact (View.read_writes_full ..).trans (congrArg k0_pay1 e40)
    · iexists _; isplitr; swap; · iexact Hs3
      ipureintro
      exact (View.read_writes_full ..).trans (congrArg k0_pay2 e45)
  iexists _; iexact HO

include h0 h4 h8 h20 in
set_option maxHeartbeats 400000 in
/-- The first point, in use, with no next expert: its weights fetched, waited for and narrowed. -/
theorem run_first_last (hc1 : k0_cond1 i w0 = 1#1) (hc2 : k0_cond2 i w0 w4 w8 = 1#1) (hc3 : ¬ More i w0 w4 w8 w20)
    (hc4 : k0_cond4 i w0 = 1#1) (hc5 : ¬ k0_cond5 i w0 = 1#1)
    (h30 : word1 c T1 ![0] inb_S144_S1_0 = w4) (hi4 : Inb w4) (Q : PUnit → sProp 𝕄) :
    iprop(Base c xs T1 T2 T3 x iprop(∃ d, owns (c : Thread nD τ) ys fullShare d) ∗ Free c A2 A3 ∗ (∃ b2 b3, Wts c b2 b3)
        ∗ owes (c : Thread nD τ) 0 W
        ∗ (iprop(Base c xs T1 T2 T3 x (owns (c : Thread nD τ) ys fullShare (k0_pay3 x (k0_pay1 (wts2 c A2 w4 hi4)) (k0_pay2 (wts3 c A3 w4 hi4))))
            ∗ Free c A2 A3 ∗ Wts c (k0_pay1 (wts2 c A2 w4 hi4)) (k0_pay2 (wts3 c A3 w4 hi4))
            ∗ ∃ W, owes (c : Thread nD τ) 0 W) -∗ Q ⟨⟩))
      ⊢ wp frame (wpE (defs₀ (F := F)) Variants.none c none) Set.univ (bodyAt i xs hxs ys hys) Q := by
  subst h20 h30
  have hk1 : k0_chk1 i w0 (word1 c T1 ![0] inb_S144_S1_0) := ⟨fun _ => hi4.1, fun _ => hi4.2⟩
  have hk2 : k0_chk2 i w0 (word1 c T1 ![0] inb_S144_S1_0) w8 (word1 c T1 (k0_off5 i) (k0_off5_inb i)) := by
    rw [show word1 c T1 (k0_off5 i) (k0_off5_inb i) = word1 c T1 ![0] inb_S144_S1_0 from h4]
    exact ⟨fun _ => hi4.1, fun _ => hi4.2⟩
  unfold bodyAt Base Free Wts owns
  rw [cc0_moe_experts_eq_skeleton]
  unfold cc0_moe_experts_skel
  iintro ⟨⟨HT1, HT2, HT3, ⟨%x0, %hx0, Hx⟩, ⟨%d0, ⟨%y0, %hy0, Hy⟩⟩⟩, ⟨⟨%s0, Hs0⟩, ⟨%s1, Hs1⟩, Hq4, Hq5, HA2, HA3⟩, ⟨%b2, %b3, ⟨%s2, %hs2, Hs2⟩, ⟨%s3, %hs3, Hs3⟩⟩, HO, HK⟩
  sl_exec
  rw [show run_first_last.sl.r c T3 = w0 from h0, show run_first_last.sl.r_1 c i T1 = (word1 c T1 ![0] inb_S144_S1_0) from h4, show run_first_last.sl.r_2 c i T1 = w8 from h8]
  sl_exec
  sl_step
  have e40 : run_first_last.sl.v40 c i T1 A2 w0 hc1 hk1 s0 = wts2 c A2 (word1 c T1 ![0] inb_S144_S1_0) hi4 := (View.readAt_full ..).trans (View.read_write_univ ..)
  have e45 : run_first_last.sl.v45 c i T1 A3 w0 hc1 hk1 s1 = wts3 c A3 (word1 c T1 ![0] inb_S144_S1_0) hi4 := (View.readAt_full ..).trans (View.read_write_univ ..)
  have e32 : run_first_last.sl.v32 c i T1 A2 w0 hc1 hk1 s0 = k0_pay1 (wts2 c A2 (word1 c T1 ![0] inb_S144_S1_0) hi4) := by
    unfold run_first_last.sl.v32
    exact (View.readCov_full ..).trans (congrArg k0_pay1 e40)
  have e44 : run_first_last.sl.v44 c i T1 A3 w0 hc1 hk1 s1 = k0_pay2 (wts3 c A3 (word1 c T1 ![0] inb_S144_S1_0) hi4) := by
    unfold run_first_last.sl.v44
    exact (View.readCov_full ..).trans (congrArg k0_pay2 e45)
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact (View.read_writes_full ..).trans (congr (congr (congrArg k0_pay3 ((View.readAt_full ..).trans hx0)) e32) e44)
  isplitl [Hq4 Hq5 HA2 HA3 Hs0 Hs1]
  · isplitl [Hs0]; · iexists _; iexact Hs0
    isplitl [Hs1]; · iexists _; iexact Hs1
    isplitl [Hq4]; · iexact Hq4
    isplitl [Hq5]; · iexact Hq5
    isplitl [HA2]; · iexact HA2
    iexact HA3
  isplitl [Hs2 Hs3]
  · isplitl [Hs2]
    · iexists _; isplitr; swap; · iexact Hs2
      ipureintro
      exact (View.read_writes_full ..).trans (congrArg k0_pay1 e40)
    · iexists _; isplitr; swap; · iexact Hs3
      ipureintro
      exact (View.read_writes_full ..).trans (congrArg k0_pay2 e45)
  iexists _; iexact HO

include h0 h4 h8 h20 in
set_option maxHeartbeats 400000 in
/-- A later expert's first point, with a next expert: its weights, in flight, waited for and narrowed, the next fetch started. -/
theorem run_fresh_next (hc1 : ¬ k0_cond1 i w0 = 1#1) (hc2 : k0_cond2 i w0 w4 w8 = 1#1) (hc3 : More i w0 w4 w8 w20)
    (hc4 : k0_cond4 i w0 = 1#1) (hc5 : ¬ k0_cond5 i w0 = 1#1)
    (hi4 : Inb w4) (hi20 : Inb w20) (Q : PUnit → sProp 𝕄) :
    iprop(Base c xs T1 T2 T3 x iprop(∃ d, owns (c : Thread nD τ) ys fullShare d) ∗ Fly c A2 A3 w4 hi4 ∗ (∃ b2 b3, Wts c b2 b3)
        ∗ owes (c : Thread nD τ) 0 W
        ∗ (iprop(Base c xs T1 T2 T3 x (owns (c : Thread nD τ) ys fullShare (k0_pay3 x (k0_pay1 (wts2 c A2 w4 hi4)) (k0_pay2 (wts3 c A3 w4 hi4))))
            ∗ Fly c A2 A3 w20 hi20 ∗ Wts c (k0_pay1 (wts2 c A2 w4 hi4)) (k0_pay2 (wts3 c A3 w4 hi4))
            ∗ ∃ W, owes (c : Thread nD τ) 0 W) -∗ Q ⟨⟩))
      ⊢ wp frame (wpE (defs₀ (F := F)) Variants.none c none) Set.univ (bodyAt i xs hxs ys hys) Q := by
  subst h20
  have hk2 : k0_chk2 i w0 w4 w8 (word1 c T1 (k0_off5 i) (k0_off5_inb i)) := by
    rw [show word1 c T1 (k0_off5 i) (k0_off5_inb i) = w4 from h4]
    exact ⟨fun _ => hi4.1, fun _ => hi4.2⟩
  have hk3 : k0_chk3 i w0 w4 w8 (word2 c T2 (k0_off8 i) (k0_off8_inb i)) (word2 c T2 (k0_off9 i) (k0_off9_inb i)) :=
    ⟨fun _ => hi20.1, fun _ => hi20.2⟩
  unfold bodyAt Base Fly Wts owns
  rw [cc0_moe_experts_eq_skeleton]
  unfold cc0_moe_experts_skel
  iintro ⟨⟨HT1, HT2, HT3, ⟨%x0, %hx0, Hx⟩, ⟨%d0, ⟨%y0, %hy0, Hy⟩⟩⟩, ⟨⟨%s0, %hs0, Hq4⟩, ⟨%s1, %hs1, Hq5⟩, HA2, HA3⟩, ⟨%b2, %b3, ⟨%s2, %hs2, Hs2⟩, ⟨%s3, %hs3, Hs3⟩⟩, HO, HK⟩
  sl_exec
  rw [show run_fresh_next.sl.r c T3 = w0 from h0, show run_fresh_next.sl.r_1 c i T1 = w4 from h4, show run_fresh_next.sl.r_2 c i T1 = w8 from h8]
  sl_exec
  rw [show run_fresh_next.sl.r_5 c i T2 = word2 c T2 (k0_off8 i) (k0_off8_inb i) from rfl]
  have hc3' : k0_cond3 i w0 w4 w8 (word2 c T2 (k0_off8 i) (k0_off8_inb i)) = 1#1 := hc3
  sl_exec
  sl_step
  have e32 : run_fresh_next.sl.v32 c s0 = k0_pay1 (wts2 c A2 w4 hi4) := by
    unfold run_fresh_next.sl.v32
    exact (View.readCov_full ..).trans (congrArg k0_pay1 ((View.readAt_full ..).trans hs0))
  have e44 : run_fresh_next.sl.v44 c s1 = k0_pay2 (wts3 c A3 w4 hi4) := by
    unfold run_fresh_next.sl.v44
    exact (View.readCov_full ..).trans (congrArg k0_pay2 ((View.readAt_full ..).trans hs1))
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact (View.read_writes_full ..).trans (congr (congr (congrArg k0_pay3 ((View.readAt_full ..).trans hx0)) e32) e44)
  isplitl [Hq4 Hq5 HA2 HA3]
  · isplitl [Hq4]
    · iexists _; isplitr; swap; · iexact Hq4
      ipureintro
      exact View.read_write_univ ..
    isplitl [Hq5]
    · iexists _; isplitr; swap; · iexact Hq5
      ipureintro
      exact View.read_write_univ ..
    isplitl [HA2]; · iexact HA2
    iexact HA3
  isplitl [Hs2 Hs3]
  · isplitl [Hs2]
    · iexists _; isplitr; swap; · iexact Hs2
      ipureintro
      exact (View.read_writes_full ..).trans (congrArg k0_pay1 ((View.readAt_full ..).trans hs0))
    · iexists _; isplitr; swap; · iexact Hs3
      ipureintro
      exact (View.read_writes_full ..).trans (congrArg k0_pay2 ((View.readAt_full ..).trans hs1))
  iexists _; iexact HO

include h0 h4 h8 h20 in
set_option maxHeartbeats 400000 in
/-- A later expert's first point, with no next expert: its weights, in flight, waited for and narrowed. -/
theorem run_fresh_last (hc1 : ¬ k0_cond1 i w0 = 1#1) (hc2 : k0_cond2 i w0 w4 w8 = 1#1) (hc3 : ¬ More i w0 w4 w8 w20)
    (hc4 : k0_cond4 i w0 = 1#1) (hc5 : ¬ k0_cond5 i w0 = 1#1)
    (hi4 : Inb w4) (Q : PUnit → sProp 𝕄) :
    iprop(Base c xs T1 T2 T3 x iprop(∃ d, owns (c : Thread nD τ) ys fullShare d) ∗ Fly c A2 A3 w4 hi4 ∗ (∃ b2 b3, Wts c b2 b3)
        ∗ owes (c : Thread nD τ) 0 W
        ∗ (iprop(Base c xs T1 T2 T3 x (owns (c : Thread nD τ) ys fullShare (k0_pay3 x (k0_pay1 (wts2 c A2 w4 hi4)) (k0_pay2 (wts3 c A3 w4 hi4))))
            ∗ Free c A2 A3 ∗ Wts c (k0_pay1 (wts2 c A2 w4 hi4)) (k0_pay2 (wts3 c A3 w4 hi4))
            ∗ ∃ W, owes (c : Thread nD τ) 0 W) -∗ Q ⟨⟩))
      ⊢ wp frame (wpE (defs₀ (F := F)) Variants.none c none) Set.univ (bodyAt i xs hxs ys hys) Q := by
  subst h20
  have hk2 : k0_chk2 i w0 w4 w8 (word1 c T1 (k0_off5 i) (k0_off5_inb i)) := by
    rw [show word1 c T1 (k0_off5 i) (k0_off5_inb i) = w4 from h4]
    exact ⟨fun _ => hi4.1, fun _ => hi4.2⟩
  unfold bodyAt Base Fly Wts owns
  rw [cc0_moe_experts_eq_skeleton]
  unfold cc0_moe_experts_skel
  iintro ⟨⟨HT1, HT2, HT3, ⟨%x0, %hx0, Hx⟩, ⟨%d0, ⟨%y0, %hy0, Hy⟩⟩⟩, ⟨⟨%s0, %hs0, Hq4⟩, ⟨%s1, %hs1, Hq5⟩, HA2, HA3⟩, ⟨%b2, %b3, ⟨%s2, %hs2, Hs2⟩, ⟨%s3, %hs3, Hs3⟩⟩, HO, HK⟩
  sl_exec
  rw [show run_fresh_last.sl.r c T3 = w0 from h0, show run_fresh_last.sl.r_1 c i T1 = w4 from h4, show run_fresh_last.sl.r_2 c i T1 = w8 from h8]
  sl_exec
  sl_step
  have e32 : run_fresh_last.sl.v32 c s0 = k0_pay1 (wts2 c A2 w4 hi4) := by
    unfold run_fresh_last.sl.v32
    exact (View.readCov_full ..).trans (congrArg k0_pay1 ((View.readAt_full ..).trans hs0))
  have e44 : run_fresh_last.sl.v44 c s1 = k0_pay2 (wts3 c A3 w4 hi4) := by
    unfold run_fresh_last.sl.v44
    exact (View.readCov_full ..).trans (congrArg k0_pay2 ((View.readAt_full ..).trans hs1))
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact (View.read_writes_full ..).trans (congr (congr (congrArg k0_pay3 ((View.readAt_full ..).trans hx0)) e32) e44)
  isplitl [Hq4 Hq5 HA2 HA3 Hq4_dst Hq5_dst]
  · unfold Free
    isplitl [Hq4_dst]; · iexists _; iexact Hq4_dst
    isplitl [Hq5_dst]; · iexists _; iexact Hq5_dst
    isplitl [Hq4]; · iexact Hq4
    isplitl [Hq5]; · iexact Hq5
    isplitl [HA2]; · iexact HA2
    iexact HA3
  isplitl [Hs2 Hs3]
  · isplitl [Hs2]
    · iexists _; isplitr; swap; · iexact Hs2
      ipureintro
      exact (View.read_writes_full ..).trans (congrArg k0_pay1 ((View.readAt_full ..).trans hs0))
    · iexists _; isplitr; swap; · iexact Hs3
      ipureintro
      exact (View.read_writes_full ..).trans (congrArg k0_pay2 ((View.readAt_full ..).trans hs1))
  iexists _; iexact HO

include h0 h4 h8 h20 in
set_option maxHeartbeats 400000 in
/-- A later point of the same expert: the narrowed weights at hand, and no copy touched. -/
theorem run_same (hc1 : ¬ k0_cond1 i w0 = 1#1) (hc2 : ¬ k0_cond2 i w0 w4 w8 = 1#1) (hc3 : ¬ More i w0 w4 w8 w20)
    (hc4 : k0_cond4 i w0 = 1#1) (hc5 : ¬ k0_cond5 i w0 = 1#1) (b2 : Vec F S2048x2048 .bf16) (b3 : Vec F S1024x2048 .bf16)
    (Q : PUnit → sProp 𝕄) :
    iprop(Base c xs T1 T2 T3 x iprop(∃ d, owns (c : Thread nD τ) ys fullShare d) ∗ Wts c b2 b3 ∗ owes (c : Thread nD τ) 0 W
        ∗ (iprop(Base c xs T1 T2 T3 x (owns (c : Thread nD τ) ys fullShare (k0_pay3 x b2 b3)) ∗ Wts c b2 b3
            ∗ ∃ W, owes (c : Thread nD τ) 0 W) -∗ Q ⟨⟩))
      ⊢ wp frame (wpE (defs₀ (F := F)) Variants.none c none) Set.univ (bodyAt i xs hxs ys hys) Q := by
  subst h20
  unfold bodyAt Base Wts owns
  rw [cc0_moe_experts_eq_skeleton]
  unfold cc0_moe_experts_skel
  iintro ⟨⟨HT1, HT2, HT3, ⟨%x0, %hx0, Hx⟩, ⟨%d0, ⟨%y0, %hy0, Hy⟩⟩⟩, ⟨⟨%s2, %hs2, Hs2⟩, ⟨%s3, %hs3, Hs3⟩⟩, HO, HK⟩
  sl_exec
  rw [show run_same.sl.r c T3 = w0 from h0, show run_same.sl.r_1 c i T1 = w4 from h4, show run_same.sl.r_2 c i T1 = w8 from h8]
  sl_exec
  sl_step
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact (View.read_writes_full ..).trans (congr (congr (congrArg k0_pay3 ((View.readAt_full ..).trans hx0))
      ((View.readAt_full ..).trans hs2)) ((View.readAt_full ..).trans hs3))
  isplitl [Hs2 Hs3]
  · isplitl [Hs2]
    · iexists s2; isplitr; · ipureintro; exact hs2
      iexact Hs2
    · iexists s3; isplitr; · ipureintro; exact hs3
      iexact Hs3
  iexists _; iexact HO

include h0 h4 h8 h20 in
set_option maxHeartbeats 400000 in
/-- A point past the row blocks in use: zeros. -/
theorem run_dead (hc1 : ¬ k0_cond1 i w0 = 1#1) (hc2 : ¬ k0_cond2 i w0 w4 w8 = 1#1) (hc3 : ¬ More i w0 w4 w8 w20)
    (hc4 : ¬ k0_cond4 i w0 = 1#1) (hc5 : k0_cond5 i w0 = 1#1) (Q : PUnit → sProp 𝕄) :
    iprop(Base c xs T1 T2 T3 x iprop(∃ d, owns (c : Thread nD τ) ys fullShare d) ∗ owes (c : Thread nD τ) 0 W
        ∗ (iprop(Base c xs T1 T2 T3 x (owns (c : Thread nD τ) ys fullShare (k0_pay4 (F := F)))
            ∗ ∃ W, owes (c : Thread nD τ) 0 W) -∗ Q ⟨⟩))
      ⊢ wp frame (wpE (defs₀ (F := F)) Variants.none c none) Set.univ (bodyAt i xs hxs ys hys) Q := by
  subst h20
  unfold bodyAt Base owns
  rw [cc0_moe_experts_eq_skeleton]
  unfold cc0_moe_experts_skel
  iintro ⟨⟨HT1, HT2, HT3, ⟨%x0, %hx0, Hx⟩, ⟨%d0, ⟨%y0, %hy0, Hy⟩⟩⟩, HO, HK⟩
  sl_exec
  rw [show run_dead.sl.r c T3 = w0 from h0, show run_dead.sl.r_1 c i T1 = w4 from h4, show run_dead.sl.r_2 c i T1 = w8 from h8]
  sl_exec
  sl_step
  iapply HK
  isplitl [HT1 HT2 HT3 Hx Hy]
  · isplitl [HT1]; · iexact HT1
    isplitl [HT2]; · iexact HT2
    isplitl [HT3]; · iexact HT3
    isplitl [Hx]
    · iexists x0; isplitr; · ipureintro; exact hx0
      iexact Hx
    iexists _; isplitr; swap; · iexact Hy
    ipureintro
    exact View.read_writes_full ..
  iexists _; iexact HO

end Cases

end Cert.Proof.Moe

end
-- ==== Proof.MoeStep.lean ====
/-
  One grid point of the experts kernel against the schedule: what is held between points (`WtsAt`, `PendAt`) and that
  the body takes it from one point to the next (`step`).
-/
module

public import proofs.«01_k».proof.Proof.MoeBody
public import proofs.«01_k».proof.Proof.MoeWords

@[expose] public section

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ExpertsIdeal Cert.ExpertsIdeal.Gen

variable {F : FTy → Type} [FloatOps F]

local notation "𝕄" => MT nD τ sig Unit (Elt F) ℕ (Pipeline.UD sig nD τ) ℕ

/-- The word of an expert (held to the last one, so that it always names one). -/
def ew (e : ℕ) : BitVec 32 := BitVec.ofNat 32 (min e 15)

theorem ew_toNat (e : ℕ) : (ew e).toNat = min e 15 := by
  unfold ew; rw [BitVec.toNat_ofNat]; exact Nat.mod_eq_of_lt (by omega)

theorem ew_of_le {e : ℕ} (h : e ≤ 15) : ew e = BitVec.ofNat 32 e := by unfold ew; rw [Nat.min_eq_left h]

theorem inb (e : ℕ) : Inb (ew e) := by
  have h := ew_toNat e
  constructor <;> intro a <;> fin_cases a
  · show 0 + 1 ≤ 2; omega
  · show (ew e).toNat + 1 ≤ 16; omega
  · show 0 + 2048 ≤ 2048; omega
  · show 0 + 2048 ≤ 2048; omega
  · show 0 + 1 ≤ 2; omega
  · show (ew e).toNat + 1 ≤ 16; omega
  · show 0 + 1024 ≤ 1024; omega
  · show 0 + 2048 ≤ 2048; omega

theorem nextWord_eq {o : Option ℕ} (h : ∀ e, o = some e → e ≤ 15) {e : ℕ} (he : o = some e) : nextWord o = ew e := by
  subst he; exact (ew_of_le (h e rfl)).symm

variable (s : Sched) (c : Dev nD) (A2 : BufOf F c main_arg2) (A3 : BufOf F c main_arg3)

/-- The tables' contents at the schedule. -/
def tab1 : BufOf F c main_v15 := fun k : S144.Idx => ew (s.te (k 0).val)
def tab2 : BufOf F c main_v41 := fun k : S144.Idx => nextWord (s.nx (k 0).val)
def tab3 : BufOf F c main_v16 := fun _ : S1.Idx => BitVec.ofNat 32 s.n

/-- The narrowed weights of expert `e`. -/
def gu (e : ℕ) : Vec F S2048x2048 .bf16 := k0_pay1 (wts2 c A2 (ew e) (inb e))
def dn (e : ℕ) : Vec F S1024x2048 .bf16 := k0_pay2 (wts3 c A3 (ew e) (inb e))

/-- What the output block of point `j` holds after it, the input block being `x`. -/
def outBlk (j : ℕ) (x : Vec F S256x2048 .f32) : Vec F S256x2048 .f32 :=
  if j < s.n then k0_pay3 x (gu c A2 (s.te j)) (dn c A3 (s.te j)) else k0_pay4

/-- What the buffers of narrowed weights hold before point `j`. -/
def WtsAt : ℕ → sProp 𝕄
  | 0 => iprop(∃ b2 b3, Wts c b2 b3)
  | j + 1 => if j < s.n then Wts c (gu c A2 (s.te j)) (dn c A3 (s.te j)) else iprop(∃ b2 b3, Wts c b2 b3)

/-- The copies in flight: none, or those of an expert's weights. -/
def PendAt : Option ℕ → sProp 𝕄
  | none => Free c A2 A3
  | some e => Fly c A2 A3 (ew e) (inb e)

theorem wts_any (j : ℕ) : WtsAt s c A2 A3 j ⊢ (iprop(∃ b2 b3, Wts c b2 b3) : sProp 𝕄) := by
  rcases j with _ | j
  · exact .rfl
  · by_cases h : j < s.n
    · rw [show WtsAt s c A2 A3 (j + 1) = Wts c (gu c A2 (s.te j)) (dn c A3 (s.te j)) from if_pos h]
      iintro H; iexists (gu c A2 (s.te j)); iexists (dn c A3 (s.te j)); iexact H
    · rw [show WtsAt s c A2 A3 (j + 1) = iprop(∃ b2 b3, Wts c b2 b3) from if_neg h]

theorem word3_eq : word3 c (tab3 (F := F) s c) = BitVec.ofNat 32 s.n := rfl

theorem word1_eq (o : Fin 1 → Nat) (ho : ∀ a, o a + S1.size a ≤ S144.size a) (j : ℕ) (hj : o = ![j]) :
    word1 c (tab1 (F := F) s c) o ho = ew (s.te j) := by
  subst hj; rfl

theorem word2_eq (o : Fin 1 → Nat) (ho : ∀ a, o a + S1.size a ≤ S144.size a) (j : ℕ) (hj : o = ![j]) :
    word2 c (tab2 (F := F) s c) o ho = nextWord (s.nx j) := by
  subst hj; rfl

section Step

variable [∀ e, Nonempty (Elt F e)] (i : grid0.Coords) (xs : Memref sig .tc .vmem S256x2048 .f32) (hxs : xs.IsWhole)
    (ys : Memref sig .tc .vmem S256x2048 .f32) (hys : ys.IsWhole) (W : Waits sig Unit) (x : Vec F S256x2048 .f32)

/-- The body at grid point `j`: from what is held before it to what is held after it, the output block written. -/
theorem step (j : ℕ) (hj : (i 0).val = j) (Q : PUnit → sProp 𝕄) :
    iprop(Base c xs (tab1 s c) (tab2 s c) (tab3 s c) x iprop(∃ d, owns (c : Thread nD τ) ys fullShare d)
        ∗ PendAt c A2 A3 (s.pend j) ∗ WtsAt s c A2 A3 j ∗ owes (c : Thread nD τ) 0 W
        ∗ (iprop(Base c xs (tab1 s c) (tab2 s c) (tab3 s c) x (owns (c : Thread nD τ) ys fullShare (outBlk s c A2 A3 j x))
            ∗ PendAt c A2 A3 (s.pend (j + 1)) ∗ WtsAt s c A2 A3 (j + 1) ∗ ∃ W, owes (c : Thread nD τ) 0 W) -∗ Q ⟨⟩))
      ⊢ wp frame (wpE (defs₀ (F := F)) Variants.none c none) Set.univ (bodyAt i xs hxs ys hys) Q := by
  have h0 := word3_eq (F := F) s c
  have h4 := word1_eq (F := F) s c (k0_off1 i) (k0_off1_inb i) j (hj ▸ off1_eq i)
  have h8 := word1_eq (F := F) s c (k0_off2 i) (k0_off2_inb i) (j - 1) (hj ▸ off2_eq i)
  have h20 := word2_eq (F := F) s c (k0_off8 i) (k0_off8_inb i) j (hj ▸ off8_eq i)
  have h30 := word1_eq (F := F) s c ![0] inb_S144_S1_0 0 rfl
  have c1 := cond1_iff i s.n s.hn
  have c2 := cond2_iff i s.n (s.te j) (s.te (j - 1)) s.hn (s.hte _) (s.hte _)
  have c3 := cond3_iff i s.n (s.te j) (s.te (j - 1)) s.hn (s.hte _) (s.hte _) (s.nx j) (s.hnx j)
  have c4 := cond4_iff i s.n s.hn
  have c5 := cond5_iff i s.n s.hn
  rw [← ew_of_le (s.hte j), ← ew_of_le (s.hte (j - 1))] at c2 c3
  rw [hj] at c1 c2 c3 c4 c5
  by_cases hl : j < s.n
  · have hout : outBlk s c A2 A3 j x = k0_pay3 x (gu c A2 (s.te j)) (dn c A3 (s.te j)) := if_pos hl
    have hw' : WtsAt s c A2 A3 (j + 1) = Wts c (gu c A2 (s.te j)) (dn c A3 (s.te j)) := if_pos hl
    rw [hout, hw', s.pend_succ j hl]
    have hc4 := c4.mpr hl
    have hc5 : ¬ k0_cond5 i (BitVec.ofNat 32 s.n) = 1#1 := fun h => c5.mp h hl
    rcases j with _ | j
    · have hc1 := c1.mpr ⟨hl, rfl⟩
      have hc2 := c2.mpr ⟨hl, .inl rfl⟩
      rcases hn : s.nx 0 with _ | e
      · have hc3 : ¬ More i (BitVec.ofNat 32 s.n) (ew (s.te 0)) (ew (s.te (0 - 1))) (nextWord (s.nx 0)) := fun h => by
          have := (c3.mp h).2; rw [hn] at this; exact absurd this (by decide)
        exact run_first_last c i xs hxs ys hys W _ _ _ A2 A3 x _ _ _ _ h0 h4 h8 h20 hc1 hc2 hc3 hc4 hc5 h30 (inb _) Q
      · have hc3 : More i (BitVec.ofNat 32 s.n) (ew (s.te 0)) (ew (s.te (0 - 1))) (nextWord (s.nx 0)) :=
          c3.mpr ⟨⟨hl, .inl rfl⟩, by rw [hn]; rfl⟩
        rw [nextWord_eq (s.hnx 0) hn] at hc3 h20
        exact run_first_next c i xs hxs ys hys W _ _ _ A2 A3 x _ _ _ _ h0 h4 h8 h20 hc1 hc2 hc3 hc4 hc5 h30 (inb _) (inb _) Q
    · have hc1 : ¬ k0_cond1 i (BitVec.ofNat 32 s.n) = 1#1 := fun h => absurd (c1.mp h).2 (Nat.succ_ne_zero j)
      by_cases hf : s.te (j + 1) = s.te j
      · have hfr : ¬ (j + 1 < s.n ∧ (j + 1 = 0 ∨ s.te (j + 1) ≠ s.te (j + 1 - 1))) := fun h =>
          h.2.elim (Nat.succ_ne_zero j) (fun h => h hf)
        have hc2 : ¬ k0_cond2 i (BitVec.ofNat 32 s.n) (ew (s.te (j + 1))) (ew (s.te (j + 1 - 1))) = 1#1 := fun h => hfr (c2.mp h)
        have hc3 : ¬ More i (BitVec.ofNat 32 s.n) (ew (s.te (j + 1))) (ew (s.te (j + 1 - 1))) (nextWord (s.nx (j + 1))) := fun h => hfr (c3.mp h).1
        rw [show WtsAt s c A2 A3 (j + 1) = Wts c (gu c A2 (s.te j)) (dn c A3 (s.te j)) from if_pos (by omega),
          s.pend_succ j (by omega), s.same j hl hf, hf]
        rw [hf] at h4 hc2 hc3
        iintro ⟨HB, HP, HW, HO, HK⟩
        iapply (run_same c i xs hxs ys hys W (tab1 s c) (tab2 s c) (tab3 s c) x _ _ _ _ h0 h4 h8 h20 hc1 hc2 hc3 hc4 hc5 _ _ Q)
        isplitl [HB]; · iexact HB
        isplitl [HW]; · iexact HW
        isplitl [HO]; · iexact HO
        iintro ⟨HB, HW, HO⟩
        iapply HK
        isplitl [HB]; · iexact HB
        isplitl [HP]; · iexact HP
        isplitl [HW]; · iexact HW
        iexact HO
      · have hc2 := c2.mpr ⟨hl, .inr hf⟩
        rw [s.pend_fresh j hl hf, show PendAt c A2 A3 (some (s.te (j + 1))) = Fly c A2 A3 (ew (s.te (j + 1))) (inb (s.te (j + 1))) from rfl]
        refine (show _ ⊢ _ from ?_ : _ ⊢ iprop(Base c xs (tab1 s c) (tab2 s c) (tab3 s c) x iprop(∃ d, owns (c : Thread nD τ) ys fullShare d)
          ∗ Fly c A2 A3 (ew (s.te (j + 1))) (inb (s.te (j + 1))) ∗ (∃ b2 b3, Wts c b2 b3) ∗ owes (c : Thread nD τ) 0 W
          ∗ (iprop(Base c xs (tab1 s c) (tab2 s c) (tab3 s c) x (owns (c : Thread nD τ) ys fullShare (k0_pay3 x (gu c A2 (s.te (j + 1))) (dn c A3 (s.te (j + 1)))))
            ∗ PendAt c A2 A3 (s.nx (j + 1)) ∗ Wts c (gu c A2 (s.te (j + 1))) (dn c A3 (s.te (j + 1))) ∗ ∃ W, owes (c : Thread nD τ) 0 W) -∗ Q ⟨⟩))).trans ?_
        · iintro ⟨HB, HP, HW, HO, HK⟩
          isplitl [HB]; · iexact HB
          isplitl [HP]; · iexact HP
          isplitl [HW]; · iapply (wts_any s c A2 A3 (j + 1)); iexact HW
          isplitl [HO]; · iexact HO
          iexact HK
        rcases hn : s.nx (j + 1) with _ | e
        · have hc3 : ¬ More i (BitVec.ofNat 32 s.n) (ew (s.te (j + 1))) (ew (s.te (j + 1 - 1))) (nextWord (s.nx (j + 1))) := fun h => by
            have := (c3.mp h).2; rw [hn] at this; exact absurd this (by decide)
          exact run_fresh_last c i xs hxs ys hys W _ _ _ A2 A3 x _ _ _ _ h0 h4 h8 h20 hc1 hc2 hc3 hc4 hc5 (inb _) Q
        · have hc3 : More i (BitVec.ofNat 32 s.n) (ew (s.te (j + 1))) (ew (s.te (j + 1 - 1))) (nextWord (s.nx (j + 1))) :=
            c3.mpr ⟨⟨hl, .inr hf⟩, by rw [hn]; rfl⟩
          rw [nextWord_eq (s.hnx (j + 1)) hn] at hc3 h20
          exact run_fresh_next c i xs hxs ys hys W _ _ _ A2 A3 x _ _ _ _ h0 h4 h8 h20 hc1 hc2 hc3 hc4 hc5 (inb _) (inb _) Q
  · have hout : outBlk s c A2 A3 j x = k0_pay4 := if_neg hl
    have hw' : WtsAt s c A2 A3 (j + 1) = iprop(∃ b2 b3, Wts c b2 b3) := if_neg hl
    rw [hout, hw', s.pend_dead j (by omega), s.pend_dead (j + 1) (by omega)]
    have hc1 : ¬ k0_cond1 i (BitVec.ofNat 32 s.n) = 1#1 := fun h => hl (c1.mp h).1
    have hc2 : ¬ k0_cond2 i (BitVec.ofNat 32 s.n) (ew (s.te j)) (ew (s.te (j - 1))) = 1#1 := fun h => hl (c2.mp h).1
    have hc3 : ¬ More i (BitVec.ofNat 32 s.n) (ew (s.te j)) (ew (s.te (j - 1))) (nextWord (s.nx j)) := fun h => hl (c3.mp h).1.1
    have hc4 : ¬ k0_cond4 i (BitVec.ofNat 32 s.n) = 1#1 := fun h => hl (c4.mp h)
    have hc5 := c5.mpr hl
    iintro ⟨HB, HP, HW, HO, HK⟩
    iapply (run_dead c i xs hxs ys hys W (tab1 s c) (tab2 s c) (tab3 s c) x _ _ _ _ h0 h4 h8 h20 hc1 hc2 hc3 hc4 hc5 Q)
    isplitl [HB]; · iexact HB
    isplitl [HO]; · iexact HO
    iintro ⟨HB, HO⟩
    iapply HK
    isplitl [HB]; · iexact HB
    isplitl [HP]; · iexact HP
    isplitl [HW]; · iapply (wts_any s c A2 A3 j); iexact HW
    iexact HO

end Step

end Cert.Proof.Moe

end
-- ==== Proof.MoeFrame.lean ====
/-
  The launch of the experts kernel, at any tables that are a schedule's (`Tabs`): the region's invariant, the body's
  obligation from `step`, the run, and the frame.
-/
module

public import proofs.«01_k».proof.Proof.MoeStep

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.ExpertsIdeal Cert.ExpertsIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

/-- The host operations before the region, by stretch. -/
abbrev stretches : List (List (HloOp τ sig (Elt F))) :=
  [hostOps0, hostOps0_1, hostOps0_2, hostOps0_3, hostOps0_4, hostOps0_5, hostOps0_6, hostOps0_7, hostOps0_8, hostOps0_9]

/-- Core `c`'s buffers when the region is entered. -/
def V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem stretches_fresh : (stretches (F := F)).Forall fun ops => ops.Forall fun op => op.fresh = ∅ := by
  simp only [List.Forall]; repeat' constructor

set_option maxHeartbeats 800000 in
theorem hmain : Pipeline.HMainP (Ix := Unit) (Name := ℕ) (U := Pipeline.UD sig nD τ) (Lvl := ℕ) (pcfgs (F := F)) 0 defs₀
    Variants.none m (main (F := F)) (V m) :=
  Pipeline.hmainP_prefixes (pcfgs (F := F)) 0 defs₀ Variants.none m main stretches stretches_sub stretches_fresh main_chain

/-! ## The tables -/

variable (s : Sched)

/-- The tables' contents, as the region reads them. -/
def tbl : pre0.Contents (Elt F) := fun
  | 0 => tab1 (F := F) s (0 : Dev nD)
  | 1 => tab2 (F := F) s (0 : Dev nD)
  | 2 => tab3 (F := F) s (0 : Dev nD)
  | ⟨_ + 3, h⟩ => absurd h (Nat.not_lt.2 (Nat.le_add_left _ _))

/-- The input block of a point: its own, or the last one in use. -/
theorem map_eq (i : grid0.Coords) : cc0_transform_0 (F := F) inb_S1_S1_0 numel1_S1 (tbl s) i = ![min (i 0).val (s.n - 1), 0] := by
  funext a
  fin_cases a
  · exact map_word s.n s.hn (i 0)
  · rfl

theorem ok (i : grid0.Coords) (a : Fin 2) :
    (cc0_transform_0 (F := F) inb_S1_S1_0 numel1_S1 (tbl s) i a + 1) * S256x2048.size a ≤ S36864x2048.size a := by
  have hi := (i 0).isLt
  have hi' : (i 0).val < 144 := hi
  rw [map_eq]
  fin_cases a
  · show (min (i 0).val (s.n - 1) + 1) * 256 ≤ 36864; omega
  · show (0 + 1) * 2048 ≤ 2048; omega

/-- The tables as the region admits them. -/
abbrev adm : (pcfg0 (F := F)).Adm := ⟨tbl s, fun i => ⟨ok s i, .inl rfl⟩⟩

abbrev cfgM : Cfg sig Λ₀ := cfg0 (F := F) (adm s)

/-- The tables the host operations leave are the schedule's. -/
structure Tabs : Prop where
  t1 : ∀ c : Dev nD, V m c main_v15 = tab1 (F := F) s c
  t2 : ∀ c : Dev nD, V m c main_v41 = tab2 (F := F) s c
  t3 : ∀ c : Dev nD, V m c main_v16 = tab3 (F := F) s c

theorem coord (t : Fin (cfgM (F := F) s).N) : ((cfgM (F := F) s).grid.coords t 0).val = t.val :=
  (show ∀ t : Fin grid0.N, (grid0.coords t 0).val = t.val by decide +kernel) t

/-- Every point stores its output block. -/
theorem idle1 (i : grid0.Coords) : (cfgM (F := F) s).idle 1 i = false := by
  show (!(k0_cond4 i (BitVec.ofNat 32 s.n) == 1#1) && !(k0_cond5 i (BitVec.ofNat 32 s.n) == 1#1)) = false
  by_cases h : (i 0).val < s.n
  · rw [(cond4_iff i s.n s.hn).mpr h]; rfl
  · rw [(cond5_iff i s.n s.hn).mpr h]; simp

/-! ## The invariant and the proof data -/

def osem0 : Fin 2 → SemLoc sig := fun j => (![SemLoc.dma 4, SemLoc.dma 5] : Fin 2 → SemLoc sig) j

theorem ownSemFacts0 : Pipeline.OwnSemFacts spec0 osem0 := by decide

def H0 : Finset (Ref sig .tc) := {main_arg2, main_arg3}

theorem H0_sub : H0 ⊆ Pipeline.restRefsP sig pre0 spec0 := by decide

/-- Held before point `j`: the generator, the tables' halves, the copies in flight, the narrowed weights. -/
def Phi (c : Dev nD) (j : ℕ) : sProp 𝕄 :=
  iprop((∃ r, prngReg c r) ∗ half c main_v15 (tab1 s c) ∗ half c main_v41 (tab2 s c) ∗ half c main_v16 (tab3 s c)
    ∗ PendAt c (V m c main_arg2) (V m c main_arg3) (s.pend j) ∗ WtsAt s c (V m c main_arg2) (V m c main_arg3) j)

/-- The input window's block at point `t`. -/
def iblk (c : Dev nD) (t : Fin (cfgM (F := F) s).N) : Vec F S256x2048 .f32 :=
  (((cfgM (F := F) s).win 0).blk t).view.read (Elt F) (V m c (Pipeline.arrRef spec0 0))

/-- The output block at point `t`. -/
def oblk (c : Dev nD) (t : Fin (cfgM (F := F) s).N) : Vec F S256x2048 .f32 :=
  outBlk s c (V m c main_arg2) (V m c main_arg3) t.val (iblk m s c t)

/-- The launch's proof data. -/
def dats (_ : Fin 1) (c : Dev nD) : Dat τ (Elt F) Unit ℕ (Pipeline.UD sig nD τ) ℕ (cfgM (F := F) s) c where
  A w := V m c (Pipeline.arrRef spec0 w)
  after w t := match w with
    | ⟨0, _⟩ => iblk m s c t
    | ⟨1, _⟩ => oblk m s c t
  Φ j := Phi m s c j.val
  q _ := fullShare
  owed _ := 0

theorem A_eq (c : Dev nD) (w : Fin (cfgM (F := F) s).W) : (dats m s 0 c).A w = V m c (Pipeline.arrRef spec0 w) := by
  dsimp only [dats]
theorem after0 (c : Dev nD) (t : Fin (cfgM (F := F) s).N) : (dats m s 0 c).after 0 t = iblk m s c t := rfl
theorem after1 (c : Dev nD) (t : Fin (cfgM (F := F) s).N) : (dats m s 0 c).after 1 t = oblk m s c t := rfl

theorem before0 (c : Dev nD) (t : Fin (cfgM (F := F) s).N) (d) : (dats m s 0 c).before 0 t d = iblk m s c t :=
  ((dats m s 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-! ## The body's obligation -/

abbrev ms0 (t : Fin (cfgM (F := F) s).N) : Memref sig .tc .vmem S256x2048 .f32 := spec0_0.stage ((cfgM (F := F) s).slots t 0)
abbrev hs0 (t : Fin (cfgM (F := F) s).N) : (ms0 (F := F) s t).IsWhole := hstage0_0 (((cfgM (F := F) s).slots t 0).cast nbuf0_0)
abbrev ms1 (t : Fin (cfgM (F := F) s).N) : Memref sig .tc .vmem S256x2048 .f32 := spec0_1.stage ((cfgM (F := F) s).slots t 1)
abbrev hs1 (t : Fin (cfgM (F := F) s).N) : (ms1 (F := F) s t).IsWhole := hstage0_1 (((cfgM (F := F) s).slots t 1).cast nbuf0_1)

def bodyPre (c : Dev nD) (t : Fin (cfgM (F := F) s).N) : sProp 𝕄 :=
  iprop((dats m s 0 c).Φ t.castSucc ∗ (dats m s 0 c).owesAt () t.castSucc
    ∗ (∃ d, owns (c : Thread nD τ) (ms0 (F := F) s t) fullShare ((dats m s 0 c).before 0 t d))
    ∗ (∃ d, owns (c : Thread nD τ) (ms1 (F := F) s t) fullShare ((dats m s 0 c).before 1 t d)))
def bodyPost (c : Dev nD) (t : Fin (cfgM (F := F) s).N) : sProp 𝕄 :=
  iprop((dats m s 0 c).Φ t.succ ∗ (dats m s 0 c).owesAt () t.succ
    ∗ owns (c : Thread nD τ) (ms0 (F := F) s t) fullShare ((dats m s 0 c).after 0 t)
    ∗ owns (c : Thread nD τ) (ms1 (F := F) s t) fullShare ((dats m s 0 c).after 1 t))

variable [∀ e, Nonempty (Elt F e)]

theorem sound_body (c : Dev nD) (t : Fin (cfgM (F := F) s).N) :
    bodyPre m s c t ⊢ wp frame (wpE (defs₀ (F := F)) Variants.none c none) Set.univ
      (bodyAt ((cfgM (F := F) s).grid.coords t) (ms0 s t) (hs0 s t) (ms1 s t) (hs1 s t)) (fun _ => bodyPost m s c t) := by
  unfold bodyPre bodyPost
  rw [after0, after1, show (dats m s 0 c).Φ t.succ = Phi m s c (t.val + 1) from rfl,
    show (dats m s 0 c).Φ t.castSucc = Phi m s c t.val from rfl]
  unfold Dat.owesAt Pipeline.owesWithin Phi
  rw [show (dats m s 0 c).owed t.castSucc = 0 from rfl, show (dats m s 0 c).owed t.succ = 0 from rfl]
  iintro ⟨⟨Hg, HT1, HT2, HT3, HP, HW⟩, ⟨%W, -, HO⟩, ⟨%d0, Hx⟩, ⟨%d1, Hy⟩⟩
  rw [before0 m s c t d0]
  iapply (step s c (V m c main_arg2) (V m c main_arg3) ((cfgM (F := F) s).grid.coords t) (ms0 s t) (hs0 s t) (ms1 s t) (hs1 s t)
    W (iblk m s c t) t.val (coord s t) _)
  unfold Base
  isplitl [HT1 HT2 HT3 Hx Hy]
  · isplitl [HT1]; · iexact HT1
    isplitl [HT2]; · iexact HT2
    isplitl [HT3]; · iexact HT3
    isplitl [Hx]; · iexact Hx
    iexists _; iexact Hy
  isplitl [HP]; · iexact HP
  isplitl [HW]; · iexact HW
  isplitl [HO]; · iexact HO
  iintro ⟨⟨HT1, HT2, HT3, Hx, Hy⟩, HP, HW, ⟨%W', HO⟩⟩
  isplitl [Hg HT1 HT2 HT3 HP HW]
  · isplitl [Hg]; · iexact Hg
    isplitl [HT1]; · iexact HT1
    isplitl [HT2]; · iexact HT2
    isplitl [HT3]; · iexact HT3
    isplitl [HP]; · iexact HP
    iexact HW
  isplitl [HO]
  · iexists W'; isplitr; ipureintro; exact fun _ _ => Or.inl trivial
    iexact HO
  isplitl [Hx]; · iexact Hx
  iexact Hy

theorem defs₀_row (t : Fin (cfgM (F := F) s).N) :
    defs₀ (F := F) .tc (cfgM (F := F) s).body ((cfgM (F := F) s).bodyArgs t ((cfgM (F := F) s).slots t))
      = bodyAt ((cfgM (F := F) s).grid.coords t) (ms0 s t) (hs0 s t) (ms1 s t) (hs1 s t) := by
  unfold defs₀; rw [Defs.onTc_tc]

theorem body_obligation (c : Dev nD) : BodyObligation (dats (F := F) m s 0 c) (defs₀ (F := F)) Variants.none () Set.univ := fun t => by
  rw [bigSep_W0, bigSep_W0, defs₀_row, idle1]
  exact triple_restated (sound_body m s c t) rfl .rfl fun _ => .rfl

/-! ## The run -/

theorem ownSems0_eq (c : Dev nD) : (Pipeline.ownSems0 (Ix := Unit) (Val := Elt F) (Name := ℕ) (U := Pipeline.UD sig nD τ) (Lvl := ℕ) osem0 c : sProp 𝕄)
    = iprop(semVal ((c : Thread nD τ), dma4) 0 ∗ semVal ((c : Thread nD τ), dma5) 0) :=
  Pipeline.ownSems0_eq_of_list c osem0 [0, 1] (by decide) (by decide)

theorem bigSep_H0 (Φ : Ref sig .tc → sProp 𝕄) : bigSep H0 Φ = iprop(Φ main_arg2 ∗ Φ main_arg3) :=
  BI.bigSep_eq_bigSepL_of_eq [main_arg2, main_arg3] (by decide) (by decide) Φ

theorem tables_eq (c : Dev nD) : (Pipeline.ΦT pre0 (tbl (F := F) s) c : sProp 𝕄)
    = iprop(half c main_v15 (tab1 s c) ∗ half c main_v41 (tab2 s c) ∗ half c main_v16 (tab3 s c)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

theorem start (c : Dev nD) : iprop(Pipeline.ΦD osem0 spec0 H0 (V m) c ∗ Pipeline.ΦT pre0 (tbl (F := F) s) c) ⊢ (dats m s 0 c).Φ 0 := by
  rw [show (dats m s 0 c).Φ 0 = Phi m s c 0 from rfl, tables_eq, Pipeline.ΦD_eq, scopedRest0_eq, ownSems0_eq, bigSep_H0]
  unfold Phi
  rw [show PendAt c (V m c main_arg2) (V m c main_arg3) (s.pend 0) = Free c (V m c main_arg2) (V m c main_arg3) from rfl,
    show WtsAt s c (V m c main_arg2) (V m c main_arg3) 0 = iprop(∃ b2 b3, Wts c b2 b3) from rfl]
  unfold Free Wts
  iintro ⟨⟨⟨⟨%f0, Hs0⟩, ⟨%f1, Hs1⟩, ⟨%f2, Hs2⟩, ⟨%f3, Hs3⟩⟩, Hg, ⟨Hq4, Hq5⟩, ⟨Ha2, Ha3⟩⟩, ⟨HT1, HT2, HT3⟩⟩
  isplitl [Hg]; · iexact Hg
  isplitl [HT1]; · iexact HT1
  isplitl [HT2]; · iexact HT2
  isplitl [HT3]; · iexact HT3
  isplitl [Hs0 Hs1 Hq4 Hq5 Ha2 Ha3]
  · isplitl [Hs0]; · iexists f0; iexact Hs0
    isplitl [Hs1]; · iexists f1; iexact Hs1
    isplitl [Hq4]; · iexact Hq4
    isplitl [Hq5]; · iexact Hq5
    isplitl [Ha2]; · iexact Ha2
    iexact Ha3
  iexists f2; iexists f3
  isplitl [Hs2]
  · rw [owns_whole]; iexact Hs2
  rw [owns_whole]; iexact Hs3

theorem finish (c : Dev nD) : (dats m s 0 c).Φ (Fin.last (cfgM (F := F) s).N) ⊢ Pipeline.ΦD osem0 spec0 H0 (V m) c := by
  have hpend : s.pend 144 = none := by
    rcases Nat.lt_or_ge 143 s.n with h | h
    · exact (s.pend_succ 143 h).trans (s.last 143 (by have := s.hn; omega))
    · exact s.pend_dead 144 (by omega)
  rw [show (dats m s 0 c).Φ (Fin.last (cfgM (F := F) s).N) = Phi m s c 144 from rfl, Pipeline.ΦD_eq, scopedRest0_eq, ownSems0_eq, bigSep_H0]
  unfold Phi
  rw [hpend, show PendAt c (V m c main_arg2) (V m c main_arg3) none = Free c (V m c main_arg2) (V m c main_arg3) from rfl]
  refine (show _ ⊢ iprop((∃ r, prngReg c r) ∗ Free c (V m c main_arg2) (V m c main_arg3) ∗ (∃ b2 b3, Wts c b2 b3)) from ?_).trans ?_
  · iintro ⟨Hg, -, -, -, HP, HW⟩
    isplitl [Hg]; · iexact Hg
    isplitl [HP]; · iexact HP
    iapply (wts_any s c (V m c main_arg2) (V m c main_arg3) 144); iexact HW
  unfold Free Wts
  iintro ⟨Hg, ⟨Hs0, Hs1, Hq4, Hq5, Ha2, Ha3⟩, ⟨%b2, %b3, H2, H3⟩⟩
  isplitl [Hs0 Hs1 H2 H3]
  · isplitl [Hs0]; · iexact Hs0
    isplitl [Hs1]; · iexact Hs1
    isplitl [H2]
    · iexists b2; rw [← owns_whole]; iexact H2
    iexists b3; rw [← owns_whole]; iexact H3
  isplitl [Hg]; · iexact Hg
  isplitl [Hq4 Hq5]
  · isplitl [Hq4]; · iexact Hq4
    iexact Hq5
  isplitl [Ha2]; · iexact Ha2
  iexact Ha3

/-- The tables at every launch's proof data. -/
abbrev admits : (p : Fin 1) → (pcfgs (F := F) p).Adm := fun _ => adm s

set_option backward.isDefEq.respectTransparency.types false in
/-- The run, given that the host operations leave the schedule's tables. -/
theorem run_main (hT : Tabs m s) : θ_run defs (onTc (τ := τ) (main (F := F))) (s₀ m ρ) (fun r =>
    Pipeline.FramePost (Pipeline.pin pcfgs (admits (F := F) s)) (dats m s) 0 (V m) r ∧ r.2.sem = fun _ => 0) :=
  Pipeline.θ_run_frameP_dma (Q' := _) (pcfgs (F := F)) (admits s) (dats m s) (0 : Fin 1) launch0 osem0 defs₀ Variants.none
    ownSemFacts0 H0 H0_sub m ρ main
    (hbody := fun c => (body_obligation m s c).loose) (hshare := fun c => (dats m s 0 c).share_full fun _ => rfl)
    (howed := fun _ _ => rfl) (V := V m) (hmain := hmain m) (hA := A_eq m s)
    (hpf := fun c => fun
      | 0 => hT.t1 c
      | 1 => hT.t2 c
      | 2 => hT.t3 c
      | ⟨_ + 3, h⟩ => absurd h (Nat.not_lt.2 (Nat.le_add_left _ _)))
    (hin := start m s) (hout := finish m s)

end Cert.Proof.Moe

end
-- ==== Proof.MoeTables.lean ====
/-
  The tables the host operations leave, stage by stage, and their words: under the precondition on the counts they are the
  words of the schedule of the counts.
-/
module

public import proofs.«01_k».proof.Proof.MoeModel
public import proofs.«01_k».proof.Proof.MoeFrame
public import Idealize.ShloMosaic.Lib.StableHlo.ReadAt
public import Idealize.ShloMosaic.Lib.Routing.Words
public import Idealize.ShloMosaic.Lib.Routing.Ops

@[expose] public section

set_option maxRecDepth 16384

noncomputable section

namespace Cert.Proof.Moe

open Idealize.ShloMosaic hiding ix1 ix2
open Idealize.ShloMosaic.TcCoe Idealize.ShloMosaic.Tactic Idealize.ShloMosaic.ValueIdx
open Idealize.ShloMosaic.Routing
open Cert.ExpertsIdeal Cert.ExpertsIdeal.Gen

variable {F : FTy → Type} [FloatOps F]

/-! ## The stages -/

/-- The row blocks of each expert. -/
def blocksW (x : IVec S16 32) : IVec S16 32 :=
  pyDiv bcast_S_S16 (subi (addi x (broadcastInDim S16 ![] bcast_S_S16 (constantI S_ 32 256#32)))
    (broadcastInDim S16 ![] bcast_S_S16 (constantI S_ 32 1#32))) (constantI S_ 32 256#32)

/-- Their running sums. -/
def endsW (b : IVec S16 32) : IVec S16 32 :=
  Host.reduceWindow IntOp.addi ![16] ![1] ![15] ![0] b (broadcastInDim S_ ![] bcast_S_S_ (constantI S_ 32 0#32))
    reduceWindows_S16_S16_w16s1p15_0 h_S_

/-- Each block's expert. -/
def expertW (e : IVec S16 32) : IVec S144 32 :=
  minsi (Host.reduce IntOp.addi (extui 32 (cmpi .sge
      (broadcastInDim S144x16 ![0, 1] bcast_S144x1_S144x16_0_1 (broadcastInDim S144x1 ![0] bcast_S144_S144x1_0 (iotaInDim S144 32 0)))
      (broadcastInDim S144x16 ![0, 1] bcast_S1x16_S144x16_0_1 (broadcastInDim S1x16 ![1] bcast_S16_S1x16_1 e))) natLt_1_32)
    (constantI S_ 32 0#32) reducesTo_S144x16_S144_d1 h_S_)
    (broadcastInDim S144 ![] bcast_S_S144 (constantI S_ 32 15#32))

/-- The candidates to follow each expert. -/
def laterW (b : IVec S16 32) : IVec S16x16 32 :=
  select (andi (cmpi .sgt
      (broadcastInDim S16x16 ![0, 1] bcast_S1x16_S16x16_0_1 (broadcastInDim S1x16 ![1] bcast_S16_S1x16_1 (iotaInDim S16 32 0)))
      (broadcastInDim S16x16 ![0, 1] bcast_S16x1_S16x16_0_1 (broadcastInDim S16x1 ![0] bcast_S16_S16x1_0 (iotaInDim S16 32 0))))
      (broadcastInDim S16x16 ![0, 1] bcast_S1x16_S16x16_0_1 (cmpi .sgt (broadcastInDim S1x16 ![1] bcast_S16_S1x16_1 b)
        (broadcastInDim S1x16 ![] bcast_S_S1x16 (constantI S_ 32 0#32)))))
    (broadcastInDim S16x16 ![0, 1] bcast_S1x16_S16x16_0_1 (broadcastInDim S1x16 ![1] bcast_S16_S1x16_1 (iotaInDim S16 32 0)))
    (broadcastInDim S16x16 ![] bcast_S_S16x16 (constantI S_ 32 16#32))

/-- The first of them. -/
def firstW (l : IVec S16x16 32) : IVec S16 32 :=
  Host.reduce IntOp.minsi l (constantI S_ 32 2147483647#32) reducesTo_S16x16_S16_d1 h_S_

/-- The expert to follow each, or minus one. -/
def nextW (f : IVec S16 32) : IVec S16 32 :=
  select (cmpi .slt f (broadcastInDim S16 ![] bcast_S_S16 (constantI S_ 32 16#32))) f
    (broadcastInDim S16 ![] bcast_S_S16 (constantI S_ 32 4294967295#32))

/-- The follower of a block's expert, in the block's row at the expert's column. -/
def pickW (t : IVec S144 32) (x : IVec S16 32) : IVec S144x16 32 :=
  select (cmpi .eq
      (broadcastInDim S144x16 ![0, 1] bcast_S144x1_S144x16_0_1 (broadcastInDim S144x1 ![0] bcast_S144_S144x1_0 t))
      (broadcastInDim S144x16 ![0, 1] bcast_S1x16_S144x16_0_1 (broadcastInDim S1x16 ![1] bcast_S16_S1x16_1 (iotaInDim S16 32 0))))
    (broadcastInDim S144x16 ![1] bcast_S16_S144x16_1 x)
    (broadcastInDim S144x16 ![] bcast_S_S144x16 (constantI S_ 32 0#32))

/-- The follower of each block's expert. -/
def followW (p : IVec S144x16 32) : IVec S144 32 :=
  Host.reduce IntOp.addi p (constantI S_ 32 0#32) reducesTo_S144x16_S144_d1 h_S_

section Stages

variable (m : (ℓ : Loc nD τ sig) → Buf (Elt F) ℓ) (c : Dev nD)

abbrev arg0 : IVec S16 32 := m ((c : Thread nD τ).loc main_arg0)

theorem v15_eq : @Eq (IVec S144 32) (V m c main_v15) (expertW (endsW (blocksW (arg0 m c)))) := by
  unfold V
  after_reads_simp
  simp -implicitDefEqProofs only [StableHlo.TRef.toBuf, StableHlo.TRef.ofBuf, cast_cast, cast_eq, id_eq]
  unfold expertW endsW blocksW pyDiv arg0
  with_reducible rfl

theorem v16_eq : @Eq (IVec S1 32) (V m c main_v16) (extractStridedSlice S1 ![15] (endsW (blocksW (arg0 m c))) slices_S16_S1_15) := by
  unfold V
  after_reads_simp
  simp -implicitDefEqProofs only [StableHlo.TRef.toBuf, StableHlo.TRef.ofBuf, cast_cast, cast_eq, id_eq]
  unfold endsW blocksW pyDiv arg0
  with_reducible rfl

theorem v41_eq : @Eq (IVec S144 32) (V m c main_v41) (followW (pickW (expertW (endsW (blocksW (arg0 m c)))) (nextW (firstW (laterW (blocksW (arg0 m c))))))) := by
  unfold V
  after_reads_simp
  simp -implicitDefEqProofs only [StableHlo.TRef.toBuf, StableHlo.TRef.ofBuf, cast_cast, cast_eq, id_eq]
  unfold followW pickW expertW nextW firstW laterW endsW blocksW pyDiv arg0
  with_reducible rfl

theorem V_arg0 : V m c main_arg0 = m ((c : Thread nD τ).loc main_arg0) := by unfold V; after_reads_simp
theorem V_arg1 : V m c main_arg1 = m ((c : Thread nD τ).loc main_arg1) := by unfold V; after_reads_simp
theorem V_arg2 : V m c main_arg2 = m ((c : Thread nD τ).loc main_arg2) := by unfold V; after_reads_simp
theorem V_arg3 : V m c main_arg3 = m ((c : Thread nD τ).loc main_arg3) := by unfold V; after_reads_simp

end Stages

/-! ## Their words -/

section Words

variable {cnt : ℕ → ℕ} (hc : ∀ e, e < 16 → cnt e ≤ 16384)

include hc in
theorem blocksW_ap (x : IVec S16 32) (hx : ∀ e : Fin 16, x (ix1 e) = BitVec.ofNat 32 (cnt e.val)) (e : Fin 16) :
    blocksW x (ix1 e) = BitVec.ofNat 32 (tiles cnt e.val) := by
  have h := hc e.val e.isLt
  refine pyDiv_ap (b := 256) _ _ _ _ ?_ rfl (a := cnt e.val + 255) (by omega) (by omega) (by omega)
  show x (ix1 e) + 256#32 - 1#32 = _
  rw [hx]
  apply BitVec.eq_of_toNat_eq
  simp only [BitVec.toNat_sub, BitVec.toNat_add, BitVec.toNat_ofNat]
  omega

theorem endsW_ap (b : IVec S16 32) (hb : ∀ e : Fin 16, b (ix1 e) = BitVec.ofNat 32 (tiles cnt e.val)) (e : Fin 16) :
    endsW b (ix1 e) = BitVec.ofNat 32 (ends cnt e.val) :=
  cumsum1 (Nm1 := 15) rfl b (tiles cnt) hb _ rfl _ _ e

theorem select_one {α : Type} {p : BitVec 1} (h : p = 1#1) (a b : α) : Scalar.select p a b = a := if_pos h
theorem select_not {α : Type} {p : BitVec 1} (h : ¬ p = 1#1) (a b : α) : Scalar.select p a b = b := if_neg h

theorem sge_iff {a b : ℕ} (ha : a < 2 ^ 31) (hb : b < 2 ^ 31) : IntOp.cmpi .sge (BitVec.ofNat 32 a) (BitVec.ofNat 32 b) = 1#1 ↔ b ≤ a := by
  show BitVec.ofBool ((BitVec.ofNat 32 b).sle (BitVec.ofNat 32 a)) = 1#1 ↔ _
  rw [sle_ofNat32 hb ha]
  by_cases h : b ≤ a <;> simp [h]

theorem sgt_iff {a b : ℕ} (ha : a < 2 ^ 31) (hb : b < 2 ^ 31) : IntOp.cmpi .sgt (BitVec.ofNat 32 a) (BitVec.ofNat 32 b) = 1#1 ↔ b < a := by
  show BitVec.ofBool ((BitVec.ofNat 32 b).slt (BitVec.ofNat 32 a)) = 1#1 ↔ _
  rw [slt_ofNat32 hb ha]
  by_cases h : b < a <;> simp [h]

theorem minsi_ofNat {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · simp [h, Nat.min_eq_left h.le]
  · simp [h, Nat.min_eq_right (Nat.le_of_not_lt h)]

theorem expertW_ap (e : IVec S16 32) (hE : ∀ q, q < 16 → ends cnt q ≤ 144) (he : ∀ q : Fin 16, e (ix1 q) = BitVec.ofNat 32 (ends cnt q.val))
    (j : Fin 144) : expertW e (ix1 j) = BitVec.ofNat 32 (expertOf cnt j.val) := by
  unfold expertW
  show IntOp.minsi (Host.reduce IntOp.addi _ _ _ _ (ix1 j)) 15#32 = _
  rw [reduce_count (n := 144) (m := 16) (by decide) _ natLt_1_32 _ _ j (fun q => ends cnt q ≤ j.val) (fun q => ?_)]
  · exact minsi_ofNat (by have := Nat.count_le (p := fun q => ends cnt q ≤ j.val) (n := 16); omega) (by decide)
  · have h1 := hE q.val q.isLt
    rw [← sge_iff (show j.val < 2 ^ 31 by omega) (show ends cnt q.val < 2 ^ 31 by omega), ← he q]
    (pointwise; try rfl)

theorem laterW_ap (b : IVec S16 32) (hb : ∀ e : Fin 16, b (ix1 e) = BitVec.ofNat 32 (tiles cnt e.val)) (ht : ∀ e, e < 16 → tiles cnt e ≤ 144)
    (e q : Fin 16) : laterW b (ix2 e q) = BitVec.ofNat 32 (later cnt e.val q.val) := by
  have h1 : laterW b (ix2 e q) = Scalar.select (IntOp.andi (IntOp.cmpi .sgt (BitVec.ofNat 32 q.val) (BitVec.ofNat 32 e.val))
      (IntOp.cmpi .sgt (b (ix1 q)) 0#32)) (BitVec.ofNat 32 q.val) 16#32 := by
    unfold laterW; (pointwise; try rfl)
  have h2 := ht q.val q.isLt
  rw [h1, hb]
  unfold later
  have e1 := sgt_iff (show q.val < 2 ^ 31 by omega) (show e.val < 2 ^ 31 by omega)
  have e2 := sgt_iff (show tiles cnt q.val < 2 ^ 31 by omega) (show 0 < 2 ^ 31 by omega)
  by_cases h : e.val < q.val ∧ 0 < tiles cnt q.val
  · rw [if_pos h, select_one (IntOp.andi_eq_one.mpr ⟨e1.mpr h.1, e2.mpr h.2⟩)]
  · rw [if_neg h, select_not fun hh => h ⟨e1.mp (IntOp.andi_eq_one.mp hh).1, e2.mp (IntOp.andi_eq_one.mp hh).2⟩]

theorem later_le (e q : ℕ) (hq : q < 16) : later cnt e q ≤ 16 := by unfold later; split <;> omega

theorem firstW_ap (l : IVec S16x16 32) (hl : ∀ e q : Fin 16, l (ix2 e q) = BitVec.ofNat 32 (later cnt e.val q.val)) (e : Fin 16) :
    firstW l (ix1 e) = BitVec.ofNat 32 (firstAfter cnt e.val) := by
  have hm : ∀ x y : ℕ, BitVec.ofNat 32 (min (min x y) 2147483647)
      = IntOp.minsi (BitVec.ofNat 32 (min x 2147483647)) (BitVec.ofNat 32 (min y 2147483647)) := fun x y => by
    rw [minsi_ofNat (by omega) (by omega)]; congr 1; omega
  unfold firstW
  rw [Host.reduce_eq_fold_single _ _ _ _ (by decide)]
  have hf : (l ∘ (show S16x16.Reduces [1] S16 by decide).lift (ix1 e)) = fun q : Fin 16 => BitVec.ofNat 32 (min (later cnt e.val q.val) 2147483647) := by
    funext q
    have := later_le (cnt := cnt) e.val q.val q.isLt
    rw [Nat.min_eq_left (by omega), ← hl e q]
    exact congrArg l (funext fun a => by fin_cases a <;> rfl)
  refine (congrArg (fun f => Finset.fold IntOp.minsi (BitVec.ofNat 32 (min 2147483647 2147483647)) f (Finset.univ : Finset (Fin 16))) hf).trans ?_
  rw [Finset.fold_hom (op := min) (m := fun k => BitVec.ofNat 32 (min k 2147483647)) hm]
  show BitVec.ofNat 32 (min (firstAfter cnt e.val) 2147483647) = _
  have := firstAfter_le cnt e.val
  rw [Nat.min_eq_left (by omega)]

theorem nextW_ap (f : IVec S16 32) (hf : ∀ e : Fin 16, f (ix1 e) = BitVec.ofNat 32 (firstAfter cnt e.val)) (e : Fin 16) :
    nextW f (ix1 e) = nextWord (nextOf cnt e.val) := by
  have h1 : nextW f (ix1 e) = Scalar.select (IntOp.cmpi .slt (f (ix1 e)) 16#32) (f (ix1 e)) 4294967295#32 := by
    unfold nextW; (pointwise; try rfl)
  have h2 := firstAfter_le cnt e.val
  have h3 : IntOp.cmpi .slt (BitVec.ofNat 32 (firstAfter cnt e.val)) (BitVec.ofNat 32 16) = 1#1 ↔ firstAfter cnt e.val < 16 := by
    show BitVec.ofBool ((BitVec.ofNat 32 _).slt (BitVec.ofNat 32 16)) = 1#1 ↔ _
    rw [slt_ofNat32 (by omega) (by omega)]
    by_cases h : firstAfter cnt e.val < 16 <;> simp [h]
  rw [h1, hf]
  unfold nextOf
  by_cases h : firstAfter cnt e.val < 16
  · rw [if_pos h, select_one (h3.mpr h)]; rfl
  · rw [if_neg h, select_not fun hh => h (h3.mp hh)]; rfl

theorem eq_iff {a b : ℕ} (ha : a < 2 ^ 31) (hb : b < 2 ^ 31) : IntOp.cmpi .eq (BitVec.ofNat 32 a) (BitVec.ofNat 32 b) = 1#1 ↔ a = b := by
  show BitVec.ofBool ((BitVec.ofNat 32 a) == (BitVec.ofNat 32 b)) = 1#1 ↔ _
  by_cases h : a = b
  · simp [h]
  · have : BitVec.ofNat 32 a ≠ BitVec.ofNat 32 b := fun hh => h (by
      have := congrArg BitVec.toNat hh
      simp only [BitVec.toNat_ofNat] at this; omega)
    have hb : (BitVec.ofNat 32 a == BitVec.ofNat 32 b) = false := by simpa using this
    rw [hb]; simp [h]

theorem followW_ap (t : IVec S144 32) (x : IVec S16 32) (ht : ∀ j : Fin 144, t (ix1 j) = BitVec.ofNat 32 (expertOf cnt j.val))
    (hx : ∀ e : Fin 16, x (ix1 e) = nextWord (nextOf cnt e.val)) (j : Fin 144) :
    followW (pickW t x) (ix1 j) = nextWord (nextOf cnt (expertOf cnt j.val)) := by
  have hle := expertOf_le cnt j.val
  have hp : ∀ q : Fin 16, pickW t x (ix2 j q) = if q = (⟨expertOf cnt j.val, by omega⟩ : Fin 16) then x (ix1 q) else 0#32 := fun q => by
    have h1 : pickW t x (ix2 j q) = Scalar.select (IntOp.cmpi .eq (t (ix1 j)) (BitVec.ofNat 32 q.val)) (x (ix1 q)) 0#32 := by
      unfold pickW; (pointwise; try rfl)
    have h2 := eq_iff (show expertOf cnt j.val < 2 ^ 31 by omega) (show q.val < 2 ^ 31 by omega)
    rw [h1, ht]
    by_cases h : q = (⟨expertOf cnt j.val, by omega⟩ : Fin 16)
    · rw [if_pos h, select_one (h2.mpr (by rw [h]))]
    · rw [if_neg h, select_not fun hh => h (Fin.ext (h2.mp hh).symm)]
  unfold followW
  generalize pickW t x = p at hp
  rw [Host.reduce_eq_fold_single _ _ _ _ (by decide)]
  have hf : (p ∘ (show S144x16.Reduces [1] S144 by decide).lift (ix1 j))
      = fun q : Fin 16 => if q = (⟨expertOf cnt j.val, by omega⟩ : Fin 16) then x (ix1 q) else 0#32 := by
    funext q
    rw [← hp q]
    exact congrArg p (funext fun a => by fin_cases a <;> rfl)
  refine (congrArg (fun f => Finset.fold (fun a b : BitVec 32 => a + b) 0 f (Finset.univ : Finset (Fin 16))) hf).trans ?_
  rw [← Finset.sum_eq_fold]
  refine (Finset.sum_eq_single (⟨expertOf cnt j.val, by omega⟩ : Fin 16) (fun q _ hq => if_neg hq) (fun h => absurd (Finset.mem_univ _) h)).trans ?_
  rw [if_pos rfl]
  exact hx _

end Words

end Cert.Proof.Moe

end
-- ==== Proof.MoePre.lean ====
/-
  The precondition on the counts read off expert by expert, and the tables of counts that meet it: those of their schedule.
-/
module

public import proofs.«01_k».proof.Defs
public import proofs.«01_k».proof.Proof.MoeTables
public import Idealize.ShloMosaic.Lib.ReduceAll

@[expose] public section

set_option maxRecDepth 16384

noncomputable section

namespace Cert.Proof.Moe

open Idealize.ShloMosaic hiding ix1 ix2
open Idealize.ShloMosaic.TcCoe Idealize.ShloMosaic.ValueIdx Idealize.ShloMosaic.Routing
open Cert.ExpertsIdeal Cert.ExpertsIdeal.Gen

variable {F : FTy → Type} [FloatOps F]

/-- The side conditions of the predicate. -/
instance routedFacts : Cert.Pre_routed.Facts where
  bcast_S_S16 := by decide
  reducesTo_S16_S_d0 := by decide
  h_S_ := by decide

/-- The counts as natural numbers. -/
def cntOf (x : IVec S16 32) (e : ℕ) : ℕ := if h : e < 16 then (x (ix1 (⟨e, h⟩ : Fin 16))).toNat else 0

theorem cntOf_word (x : IVec S16 32) (e : Fin 16) : x (ix1 e) = BitVec.ofNat 32 (cntOf x e.val) := by
  unfold cntOf
  rw [dif_pos e.isLt, BitVec.ofNat_toNat, BitVec.setWidth_eq]

theorem eq_ix1 {n : ℕ} (k : (⟨1, ![n]⟩ : Shape).Idx) : k = ix1 (show Fin n from k 0) := by
  funext a; match a with | ⟨0, _⟩ => rfl

/-- A signed word between two small naturals is a natural between them. -/
theorem word_le (x : BitVec 32) (n : ℕ) (hn : n < 2 ^ 31) (h0 : IntOp.cmpi .sge x 0#32 = 1#1) (h1 : IntOp.cmpi .sle x (BitVec.ofNat 32 n) = 1#1) :
    x.toNat ≤ n := by
  have h0' : BitVec.ofBool ((0#32 : BitVec 32).sle x) = 1#1 := h0
  have h1' : BitVec.ofBool (x.sle (BitVec.ofNat 32 n)) = 1#1 := h1
  have e0 : (0#32 : BitVec 32).sle x = true := by
    cases h : (0#32 : BitVec 32).sle x with
    | true => rfl
    | false => rw [h] at h0'; exact absurd h0' (by decide)
  have e1 : x.sle (BitVec.ofNat 32 n) = true := by
    cases h : x.sle (BitVec.ofNat 32 n) with
    | true => rfl
    | false => rw [h] at h1'; exact absurd h1' (by decide)
  have hx : x.toNat < 2 ^ 31 := toNat_lt_of_toInt_nonneg x (by
    have := (BitVec.sle_iff_toInt_le).mp e0; simpa using this)
  have hw : x = BitVec.ofNat 32 x.toNat := by rw [BitVec.ofNat_toNat, BitVec.setWidth_eq]
  rw [hw, sle_ofNat32 hx hn] at e1
  exact of_decide_eq_true e1

variable (x : IVec S16 32)

/-- Where the predicate holds, no expert has more rows than 16384, and all have at most 32768. -/
theorem counts (a1 : FVec F Cert.Pre_routed.S36864x2048 .f32) (a2 : FVec F Cert.Pre_routed.S2x16x2048x2048 .f32)
    (a3 : FVec F Cert.Pre_routed.S2x16x1024x2048 .f32) (h : Cert.Pre_routed.fn (F := F) x a1 a2 a3 = fun _ => 1#1) :
    (∀ e, e < 16 → cntOf x e ≤ 16384) ∧ ((List.range 16).map (cntOf x)).sum ≤ 32768 := by
  have e := congrFun h (fun a => a.elim0)
  dsimp only [Cert.Pre_routed.fn] at e
  obtain ⟨e', es⟩ := IntOp.andi_eq_one.1 e
  obtain ⟨e0, e1⟩ := IntOp.andi_eq_one.1 e'
  haveI : Subsingleton (Cert.Pre_routed.S_).Idx := ⟨fun a b => funext fun x => x.elim0⟩
  have h0 := Host.reduce_andi_all _ _ _ _ _ e0
  have h1 := Host.reduce_andi_all _ _ _ _ _ e1
  have hc : ∀ e, e < 16 → cntOf x e ≤ 16384 := fun e he => by
    unfold cntOf
    rw [dif_pos he]
    exact word_le _ 16384 (by decide) (h0 (ix1 (⟨e, he⟩ : Fin 16))) (h1 (ix1 (⟨e, he⟩ : Fin 16)))
  refine ⟨hc, ?_⟩
  have hs : Host.reduce IntOp.addi x (constantI shape0 32 0#32) Cert.Pre_routed.Facts.reducesTo_S16_S_d0 Cert.Pre_routed.Facts.h_S_ ValueIdx.ix0
      = BitVec.ofNat 32 ((List.range 16).map (cntOf x)).sum := reduce_sum (N := 16) x (cntOf x) (cntOf_word x) _ _
  have hb : ((List.range 16).map (cntOf x)).sum ≤ 16 * 16384 := by
    have : ∀ l : List ℕ, (∀ e ∈ l, e < 16) → (l.map (cntOf x)).sum ≤ l.length * 16384 := by
      intro l
      induction l with
      | nil => intro _; simp
      | cons a l ih =>
        intro hl
        have h1 := hc a (hl a List.mem_cons_self)
        have h2 := ih fun e he => hl e (List.mem_cons_of_mem _ he)
        simp only [List.map_cons, List.sum_cons, List.length_cons]; omega
    have := this (List.range 16) fun e he => List.mem_range.mp he
    rwa [List.length_range] at this
  have es' : IntOp.cmpi .sle (BitVec.ofNat 32 ((List.range 16).map (cntOf x)).sum) (BitVec.ofNat 32 32768) = 1#1 := by
    rw [← hs, show ValueIdx.ix0 = (fun a : Fin 0 => a.elim0 : (Cert.Pre_routed.S_).Idx) from Subsingleton.elim _ _]; exact es
  have := word_le _ 32768 (by decide) ((sge_iff (b := 0) (by omega) (by omega)).mpr (Nat.zero_le _)) es'
  rwa [BitVec.toNat_ofNat, Nat.mod_eq_of_lt (by omega)] at this

/-- The last of the sixteen. -/
theorem slice_last (E : IVec S16 32) (j : Fin 1) : extractStridedSlice S1 ![15] E slices_S16_S1_15 (ix1 j) = E (ix1 (15 : Fin 16)) := by
  unfold extractStridedSlice
  refine congrArg E (funext fun a => ?_)
  match a with
  | ⟨0, _⟩ => exact Fin.ext (by show 15 + j.val = 15; omega)

variable (m : (ℓ : Loc nD τ sig) → Buf (Elt F) ℓ)

/-- The host operations leave the tables of the counts' schedule. -/
theorem tabs (hc : ∀ e, e < 16 → cntOf (arg0 m 0) e ≤ 16384) (hn : ends (cntOf (arg0 m 0)) 15 ≤ 144) :
    Tabs m (sched (cntOf (arg0 m 0)) hn) := by
  have hE : ∀ q, q < 16 → ends (cntOf (arg0 m 0)) q ≤ 144 := fun q hq => (ends_mono _ (by omega)).trans hn
  have hb := blocksW_ap hc (arg0 m 0) (cntOf_word (arg0 m 0))
  have he := endsW_ap _ hb
  have ht := expertW_ap _ hE he
  have hx := nextW_ap _ (firstW_ap _ (laterW_ap _ hb fun e h => (tiles_le_ends _ e).trans (hE e h)))
  have h0 : ∀ c : Dev nD, c = 0 := fun c => Subsingleton.elim (α := Fin 1) c 0
  refine ⟨fun c => ?_, fun c => ?_, fun c => ?_⟩ <;> obtain rfl := h0 c
  · refine (v15_eq m 0).trans (funext fun k => ?_)
    obtain ⟨j, rfl⟩ : ∃ j : Fin 144, k = ix1 j := ⟨_, eq_ix1 k⟩
    exact (ht j).trans (ew_of_le (expertOf_le _ _)).symm
  · refine (v41_eq m 0).trans (funext fun k => ?_)
    obtain ⟨j, rfl⟩ : ∃ j : Fin 144, k = ix1 j := ⟨_, eq_ix1 k⟩
    exact followW_ap _ _ ht hx j
  · refine (v16_eq m 0).trans (funext fun k => ?_)
    obtain ⟨j, rfl⟩ : ∃ j : Fin 1, k = ix1 j := ⟨_, eq_ix1 k⟩
    exact (slice_last _ j).trans (he 15)

end Cert.Proof.Moe

end
-- ==== Proof.MoeRun.lean ====
/-
  The run of the experts' program under the precondition: the result array is what the blocks make up, and the arguments stay.
-/
module

public import proofs.«01_k».proof.Proof.MoePre
public import proofs.«01_k».proof.Proof.MoeFrame

@[expose] public section

set_option maxRecDepth 16384

noncomputable section

namespace Cert.Proof.Moe

open Idealize.ShloMosaic Idealize.ShloMosaic.TcCoe Idealize.SL.Sem
open Idealize.ShloMosaic.Pipeline (Dat)
open Cert.ExpertsIdeal Cert.ExpertsIdeal.Gen

variable {F : FTy → Type} [FloatOps F] [∀ e, Nonempty (Elt F e)]
variable (m : (ℓ : Loc nD τ sig) → Buf (Elt F) ℓ) (ρ : Dev nD → PrngReg)

/-- The precondition of the claims, at any arithmetic. -/
def Routed : Prop := ∀ c : Dev nD, Cert.Pre_routed.fn (F := F) (m ((c : Thread nD τ).loc main_arg0)) (m ((c : Thread nD τ).loc main_arg1))
  (m ((c : Thread nD τ).loc main_arg2)) (m ((c : Thread nD τ).loc main_arg3)) = fun _ => 1#1

variable {m}

theorem Routed.le (h : Routed m) : ∀ e, e < 16 → cntOf (arg0 m 0) e ≤ 16384 := (counts (arg0 m 0) _ _ _ (h 0)).1

theorem Routed.ends (h : Routed m) : ends (cntOf (arg0 m 0)) 15 ≤ 144 := ends_le _ (counts (arg0 m 0) _ _ _ (h 0)).2

variable (m)

/-- The schedule of the counts. -/
abbrev sch (h : Routed m) : Sched := sched (cntOf (arg0 m 0)) h.ends

/-- The run of the program. -/
theorem run_value (h : Routed m) : θ_run defs (onTc (τ := τ) (main (F := F))) ⟨m, fun _ => 0, ρ⟩ (fun r => (∀ c : Dev nD,
      r.2.mem ((c.tc : Thread nD τ).loc main_v42) = (dats m (sch m h) 0 c).arrAt 1 (cfgM (F := F) (sch m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h' => ⟨fun c => ⟨(h'.1 c).1 1,
      ((h'.1 c).2 main_arg0 (Pipeline.mem_restRefs_of main_arg0 (by decide) (by decide : ∀ w, (spec0 w).arr.view.ref ≠ main_arg0))).trans (V_arg0 m c),
      ((h'.1 c).1 0).trans (((dats m (sch m h) 0 c).arrAt_in 0 rfl _).trans ((A_eq m (sch m h) c 0).trans (V_arg1 m c))),
      ((h'.1 c).2 main_arg2 (Pipeline.mem_restRefs_of main_arg2 (by decide) (by decide : ∀ w, (spec0 w).arr.view.ref ≠ main_arg2))).trans (V_arg2 m c),
      ((h'.1 c).2 main_arg3 (Pipeline.mem_restRefs_of main_arg3 (by decide) (by decide : ∀ w, (spec0 w).arr.view.ref ≠ main_arg3))).trans (V_arg3 m c)⟩, h'.2⟩)
    (run_main m ρ (sch m h) (tabs m h.le h.ends))

end Cert.Proof.Moe

end
-- ==== Proof.MoeRow.lean ====
/-
  A row block of the experts' kernel at an index: the gated product of a row with an expert's weights.
-/
module

public import proofs.«01_k».proof.Proof.MoeRun
public import Idealize.ShloMosaic.Lib.IdealHost
public import Idealize.ShloMosaic.Lib.Pointwise

@[expose] public section

set_option maxRecDepth 16384

noncomputable section

namespace Cert.Proof.Moe

open Idealize.ShloMosaic
open Idealize.ShloMosaic.TcCoe
open Cert.ExpertsIdeal Cert.ExpertsIdeal.Gen

/-- A product of a row with a column. -/
def dot (x : Fin 2048 → EReal) (G : Fin 2048 → Fin 2048 → EReal) (k : Fin 2048) : EReal := ∑ d, x d * G d k

/-- The column of the gate and of the value that make up the gated column `k`. -/
abbrev gateCol (k : Fin 1024) : Fin 2048 := ⟨k.val, by omega⟩
abbrev valCol (k : Fin 1024) : Fin 2048 := ⟨1024 + k.val, by omega⟩

/-- The gated column `k` of a row. -/
def gated (x : Fin 2048 → EReal) (G : Fin 2048 → Fin 2048 → EReal) (k : Fin 1024) : EReal :=
  Ideal.div (dot x G (gateCol k)) (1 + Ideal.exp (-(dot x G (gateCol k)))) * dot x G (valCol k)

/-- What an expert of the first weights `G` and the second weights `D` makes of the row `x`. -/
def expert (x : Fin 2048 → EReal) (G : Fin 2048 → Fin 2048 → EReal) (D : Fin 1024 → Fin 2048 → EReal) (f : Fin 2048) : EReal :=
  ∑ k, gated x G k * D k f

theorem one_add_exp_ne (x : EReal) : 1 + Ideal.exp x ≠ 0 := by
  have h : (0 : EReal) ≤ Ideal.exp x := by
    induction x with
    | bot => exact le_rfl
    | top => exact le_top
    | coe r => exact EReal.coe_nonneg.mpr (Real.exp_pos r).le
  exact ne_of_gt (lt_of_lt_of_le zero_lt_one (le_add_of_nonneg_right h))

/-- The block of a point at an index. -/
theorem pay3_apply (x : FVec Ideal S256x2048 .f32) (G : FVec Ideal S2048x2048 .bf16) (D : FVec Ideal S1024x2048 .bf16) (r : Fin 256) (f : Fin 2048) :
    k0_pay3 (F := Ideal) x G D (ix2 r f) = expert (fun d => x (ix2 r d)) (fun d k => G (ix2 d k)) (fun k f => D (ix2 k f)) f := by
  unfold expert gated dot k0_pay3
  pointwise
  exact Finset.sum_congr rfl fun k _ => by rw [zero_sub]

variable (c : Dev nD) (A2 : BufOf Ideal c main_arg2) (A3 : BufOf Ideal c main_arg3)

/-- The weights of expert `e`, of the first layer. -/
theorem gu_apply (e : ℕ) (he : e < 16) (d k : Fin 2048) :
    gu c A2 e (ix2 d k) = (A2 : FVec Ideal S2x16x2048x2048 .f32) (ix4 (0 : Fin 2) (⟨e, he⟩ : Fin 16) d k) := by
  have h1 : gu c A2 e (ix2 d k) = wts2 c A2 (ew e) (inb e) (ix2 d k) := by
    unfold gu k0_pay1
    pointwise
  have h2 : wts2 c A2 (ew e) (inb e) = shapeCast S2048x2048 ((Memref.whole main_arg2).view.readAt (Elt Ideal)
      (Rect.unit (s := S2x16x2048x2048) (k0_off3 (ew e)) S1x1x2048x2048.size (inb e).1).toLoadRect A2) (show S1x1x2048x2048.ShapeCasts S2048x2048 by decide) := rfl
  rw [h1, h2]
  have h3 : ∀ v : FVec Ideal S1x1x2048x2048 .f32, ∀ h, shapeCast S2048x2048 v h (ix2 d k) = v (ix4 (0 : Fin 1) (0 : Fin 1) d k) := fun v h => by
    pointwise
  refine (h3 _ _).trans (congrArg A2 (funext fun a => Fin.ext ?_))
  have hw := ew_toNat e
  match a with
  | ⟨0, _⟩ => rfl
  | ⟨1, _⟩ => show (ew e).toNat + 1 * 0 = e; omega
  | ⟨2, _⟩ => show 0 + 1 * d.val = d.val; omega
  | ⟨3, _⟩ => show 0 + 1 * k.val = k.val; omega

theorem dn_apply (e : ℕ) (he : e < 16) (k : Fin 1024) (f : Fin 2048) :
    dn c A3 e (ix2 k f) = (A3 : FVec Ideal S2x16x1024x2048 .f32) (ix4 (0 : Fin 2) (⟨e, he⟩ : Fin 16) k f) := by
  have h1 : dn c A3 e (ix2 k f) = wts3 c A3 (ew e) (inb e) (ix2 k f) := by
    unfold dn k0_pay2
    pointwise
  have h2 : wts3 c A3 (ew e) (inb e) = shapeCast S1024x2048 ((Memref.whole main_arg3).view.readAt (Elt Ideal)
      (Rect.unit (s := S2x16x1024x2048) (k0_off4 (ew e)) S1x1x1024x2048.size (inb e).2).toLoadRect A3) (show S1x1x1024x2048.ShapeCasts S1024x2048 by decide) := rfl
  rw [h1, h2]
  have h3 : ∀ v : FVec Ideal S1x1x1024x2048 .f32, ∀ h, shapeCast S1024x2048 v h (ix2 k f) = v (ix4 (0 : Fin 1) (0 : Fin 1) k f) := fun v h => by
    pointwise
  refine (h3 _ _).trans (congrArg A3 (funext fun a => Fin.ext ?_))
  have hw := ew_toNat e
  match a with
  | ⟨0, _⟩ => rfl
  | ⟨1, _⟩ => show (ew e).toNat + 1 * 0 = e; omega
  | ⟨2, _⟩ => show 0 + 1 * k.val = k.val; omega
  | ⟨3, _⟩ => show 0 + 1 * f.val = f.val; omega

end Cert.Proof.Moe

end
-- ==== Proof.MoeRef.lean ====
/-
  The experts' reference at an index: the sum over the experts of what each makes of the row where the row is the expert's.
-/
module

public import proofs.«01_k».proof.Proof.MoeRow
public import proofs.«01_k».proof.Proof.Gen.ExpertsRefIdeal.Run

@[expose] public section

set_option maxRecDepth 16384

noncomputable section

namespace Cert.Proof.Moe

open Idealize.ShloMosaic Idealize.ShloMosaic.TcCoe Idealize.ShloMosaic.Routing
open Cert.ExpertsRefIdeal Cert.ExpertsRefIdeal.Gen Cert.ExpertsRefIdeal.Value

/-! ## The stages -/

/-- Each expert's rows, filled to a multiple of 256. -/
def roomW (x : IVec S16 32) : IVec S16 32 :=
  muli (pyDiv bcast_S_S16 (addi x (broadcastInDim S16 ![] bcast_S_S16 (constantI S_ 32 255#32))) (constantI S_ 32 256#32))
    (broadcastInDim S16 ![] bcast_S_S16 (constantI S_ 32 256#32))

/-- The row past each expert's last. -/
def stopW (r : IVec S16 32) : IVec S16 32 :=
  Host.reduceWindow IntOp.addi ![16] ![1] ![15] ![0] r (broadcastInDim S_ ![] bcast_S_S_ (constantI S_ 32 0#32))
    reduceWindows_S16_S16_w16s1p15_0 h_S_

/-- Whether a row is the expert's. -/
def mineW (r e : IVec S16 32) : IVec S16x36864 1 :=
  andi (cmpi .sge
      (broadcastInDim S16x36864 ![0, 1] bcast_S1x36864_S16x36864_0_1 (broadcastInDim S1x36864 ![1] bcast_S36864_S1x36864_1 (iotaInDim S36864 32 0)))
      (broadcastInDim S16x36864 ![0, 1] bcast_S16x1_S16x36864_0_1 (broadcastInDim S16x1 ![0] bcast_S16_S16x1_0 (subi e r))))
    (cmpi .slt
      (broadcastInDim S16x36864 ![0, 1] bcast_S1x36864_S16x36864_0_1 (broadcastInDim S1x36864 ![1] bcast_S36864_S1x36864_1 (iotaInDim S36864 32 0)))
      (broadcastInDim S16x36864 ![0, 1] bcast_S16x1_S16x36864_0_1 (broadcastInDim S16x1 ![0] bcast_S16_S16x1_0 e)))

/-- The first products of every expert. -/
def firstT (xs : FVec Ideal S36864x2048 .f32) (w : FVec Ideal S2x16x2048x2048 .f32) : FVec Ideal S16x36864x2048 .f32 :=
  transpose S16x36864x2048 [0, 2, 1] (Host.dotGeneral dot_S16x2048x2048_S36864x2048_S16x2048x36864_1_1_02_0_n_n none
    (shapeCast _ (extractStridedSlice S1x16x2048x2048 ![0, 0, 0, 0] w slices_S2x16x2048x2048_S1x16x2048x2048_0_0_0_0)
      shapeCasts_S1x16x2048x2048_S16x2048x2048) xs) transposes_S16x2048x36864_S16x36864x2048_0_2_1

/-- The gated columns. -/
def gatedT (h : FVec Ideal S16x36864x2048 .f32) : FVec Ideal S16x36864x1024 .f32 :=
  mulf (mulf (extractStridedSlice S16x36864x1024 ![0, 0, 0] h slices_S16x36864x2048_S16x36864x1024_0_0_0)
      (Host.divf (broadcastInDim S16x36864x1024 ![] bcast_S_S16x36864x1024 (constant S_ .f32 0x3F800000#32))
        (addf (broadcastInDim S16x36864x1024 ![] bcast_S_S16x36864x1024 (constant S_ .f32 0x3F800000#32))
          (Host.exp (Host.negf (extractStridedSlice S16x36864x1024 ![0, 0, 0] h slices_S16x36864x2048_S16x36864x1024_0_0_0))))))
    (extractStridedSlice S16x36864x1024 ![0, 0, 1024] h slices_S16x36864x2048_S16x36864x1024_0_0_1024)

/-- The second products of every expert. -/
def secondT (a : FVec Ideal S16x36864x1024 .f32) (w : FVec Ideal S2x16x1024x2048 .f32) : FVec Ideal S16x36864x2048 .f32 :=
  Host.dotGeneral dot_S16x36864x1024_S16x1024x2048_S16x36864x2048_2_1_1_2_0_0 none a
    (shapeCast _ (extractStridedSlice S1x16x1024x2048 ![0, 0, 0, 0] w slices_S2x16x1024x2048_S1x16x1024x2048_0_0_0_0)
      shapeCasts_S1x16x1024x2048_S16x1024x2048)

/-- The rows kept where they are the expert's. -/
def keptT (k : IVec S16x36864 1) (y : FVec Ideal S16x36864x2048 .f32) : FVec Ideal S16x36864x2048 .f32 :=
  select (broadcastInDim S16x36864x2048 ![0, 1, 2] bcast_S16x36864x1_S16x36864x2048_0_1_2
      (broadcastInDim S16x36864x1 ![0, 1] bcast_S16x36864_S16x36864x1_0_1 k)) y
    (broadcastInDim S16x36864x2048 ![] bcast_S_S16x36864x2048 (constant S_ .f32 0x00000000#32))

/-- The sum over the experts. -/
def sumT (y : FVec Ideal S16x36864x2048 .f32) : FVec Ideal S36864x2048 .f32 :=
  Host.reduceAdd y (constant S_ .f32 0x00000000#32) reducesTo_S16x36864x2048_S36864x2048_d0 h_S_

/-- The reference's result. -/
def refT (x : IVec S16 32) (xs : FVec Ideal S36864x2048 .f32) (w2 : FVec Ideal S2x16x2048x2048 .f32) (w3 : FVec Ideal S2x16x1024x2048 .f32) :
    FVec Ideal S36864x2048 .f32 :=
  sumT (keptT (mineW (roomW x) (stopW (roomW x))) (secondT (gatedT (firstT xs w2)) w3))

theorem ref_eq (m : (ℓ : Loc nD τ sig) → Buf (Elt Ideal) ℓ) (c : Dev nD) :
    res_main_v32 m c = refT (m ((c.tc : Thread nD τ).loc main_arg0)) (m ((c.tc : Thread nD τ).loc main_arg1))
      (m ((c.tc : Thread nD τ).loc main_arg2)) (m ((c.tc : Thread nD τ).loc main_arg3)) := by
  unfold res_main_v32 refT sumT keptT secondT gatedT firstT mineW stopW roomW pyDiv
  rfl

/-! ## The stages at an index -/

theorem firstT_apply (xs : FVec Ideal S36864x2048 .f32) (w : FVec Ideal S2x16x2048x2048 .f32) (e : Fin 16) (r : Fin 36864) (k : Fin 2048) :
    firstT xs w (ix3 e r k) = dot (fun d => xs (ix2 r d)) (fun d k => w (ix4 (0 : Fin 2) e d k)) k := by
  unfold firstT dot
  pointwise
  exact Finset.sum_congr rfl fun d _ => mul_comm _ _

theorem gatedT_apply (h : FVec Ideal S16x36864x2048 .f32) (e : Fin 16) (r : Fin 36864) (k : Fin 1024) :
    gatedT h (ix3 e r k) = Ideal.div (h (ix3 e r (gateCol k))) (1 + Ideal.exp (-(h (ix3 e r (gateCol k))))) * h (ix3 e r (valCol k)) := by
  have h1 : gatedT h (ix3 e r k) = h (ix3 e r (gateCol k)) * Ideal.div 1 (1 + Ideal.exp (-(h (ix3 e r (gateCol k))))) * h (ix3 e r (valCol k)) := by
    unfold gatedT
    pointwise
  rw [h1, Ideal.mul_one_div]
  exact one_add_exp_ne _

theorem secondT_apply (a : FVec Ideal S16x36864x1024 .f32) (w : FVec Ideal S2x16x1024x2048 .f32) (e : Fin 16) (r : Fin 36864) (f : Fin 2048) :
    secondT a w (ix3 e r f) = ∑ k : Fin 1024, a (ix3 e r k) * w (ix4 (0 : Fin 2) e k f) := by
  unfold secondT
  pointwise

theorem keptT_apply (k : IVec S16x36864 1) (y : FVec Ideal S16x36864x2048 .f32) (e : Fin 16) (r : Fin 36864) (f : Fin 2048) :
    keptT k y (ix3 e r f) = Scalar.select (k (ix2 e r)) (y (ix3 e r f)) 0 := by
  unfold keptT
  pointwise

theorem sumT_apply (y : FVec Ideal S16x36864x2048 .f32) (r : Fin 36864) (f : Fin 2048) :
    sumT y (ix2 r f) = ∑ e : Fin 16, y (ix3 e r f) := by
  unfold sumT
  pointwise

end Cert.Proof.Moe

end
-- ==== Proof.MoeRefRow.lean ====
/-
  The experts' reference at an index under the precondition: each row is its own expert's, and no other's.
-/
module

public import proofs.«01_k».proof.Proof.MoeRef

@[expose] public section

set_option maxRecDepth 16384

noncomputable section

namespace Cert.Proof.Moe

open Idealize.ShloMosaic Idealize.ShloMosaic.TcCoe Idealize.ShloMosaic.Routing
open Cert.ExpertsRefIdeal Cert.ExpertsRefIdeal.Gen

theorem slt_iff {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [slt_ofNat32 ha hb]
  by_cases h : a < b <;> simp [h]

section Words

variable {cnt : ℕ → ℕ} (hc : ∀ e, e < 16 → cnt e ≤ 16384) (hE : ∀ e, e < 16 → ends cnt e ≤ 144)
  (x : IVec S16 32) (hx : ∀ e : Fin 16, x (ix1 e) = BitVec.ofNat 32 (cnt e.val))

include hc hx in
theorem roomW_ap (e : Fin 16) : roomW x (ix1 e) = BitVec.ofNat 32 (tiles cnt e.val * 256) := by
  have h := hc e.val e.isLt
  have h1 : pyDiv bcast_S_S16 (addi x (broadcastInDim S16 ![] bcast_S_S16 (constantI S_ 32 255#32))) (constantI S_ 32 256#32) (ix1 e)
      = BitVec.ofNat 32 (tiles cnt e.val) := by
    refine pyDiv_ap (b := 256) _ _ _ _ ?_ rfl (a := cnt e.val + 255) (by omega) (by omega) (by omega)
    show x (ix1 e) + 255#32 = _
    rw [hx]
    exact (BitVec.ofNat_add _ _).symm
  show pyDiv bcast_S_S16 (addi x (broadcastInDim S16 ![] bcast_S_S16 (constantI S_ 32 255#32))) (constantI S_ 32 256#32) (ix1 e) * 256#32 = _
  rw [h1]
  exact (BitVec.ofNat_mul _ _).symm

theorem stopW_ap (r : IVec S16 32) (hr : ∀ e : Fin 16, r (ix1 e) = BitVec.ofNat 32 (tiles cnt e.val * 256)) (e : Fin 16) :
    stopW r (ix1 e) = BitVec.ofNat 32 (ends cnt e.val * 256) := by
  have h := cumsum1 (Nm1 := 15) rfl r (fun e => tiles cnt e * 256) hr (broadcastInDim S_ ![] bcast_S_S_ (constantI S_ 32 0#32)) rfl
    reduceWindows_S16_S16_w16s1p15_0 h_S_ e
  have hs : ∀ l : List ℕ, (l.map fun e => tiles cnt e * 256).sum = (l.map (tiles cnt)).sum * 256 := by
    intro l
    induction l with
    | nil => rfl
    | cons a l ih => simp only [List.map_cons, List.sum_cons, ih]; omega
  rw [hs] at h
  exact h

include hE in
theorem mineW_ap (r t : IVec S16 32) (hr : ∀ e : Fin 16, r (ix1 e) = BitVec.ofNat 32 (tiles cnt e.val * 256))
    (ht : ∀ e : Fin 16, t (ix1 e) = BitVec.ofNat 32 (ends cnt e.val * 256)) (e : Fin 16) (n : Fin 36864) :
    mineW r t (ix2 e n) = 1#1 ↔ (n.val / 256 < ends cnt 15 ∧ expertOf cnt (n.val / 256) = e.val) := by
  have h := hE e.val e.isLt
  have hl := tiles_le_ends cnt e.val
  have h1 : mineW r t (ix2 e n) = IntOp.andi (IntOp.cmpi .sge (BitVec.ofNat 32 n.val) (t (ix1 e) - r (ix1 e))) (IntOp.cmpi .slt (BitVec.ofNat 32 n.val) (t (ix1 e))) := by
    unfold mineW
    pointwise
    rfl
  have h2 : BitVec.ofNat 32 (ends cnt e.val * 256) - BitVec.ofNat 32 (tiles cnt e.val * 256) = BitVec.ofNat 32 (ends cnt e.val * 256 - tiles cnt e.val * 256) := by
    apply BitVec.eq_of_toNat_eq
    simp only [BitVec.toNat_sub, BitVec.toNat_ofNat]
    omega
  rw [h1, hr, ht, h2, IntOp.andi_eq_one, sge_iff (by omega) (by omega), slt_iff (by omega) (by omega), ← expertOf_iff cnt (by omega)]
  constructor <;> rintro ⟨ha, hb⟩ <;> constructor <;> omega

end Words

variable (x : IVec S16 32) (xs : FVec Ideal S36864x2048 .f32) (w2 : FVec Ideal S2x16x2048x2048 .f32) (w3 : FVec Ideal S2x16x1024x2048 .f32)

theorem word_of (e : Fin 16) : x (ix1 e) = BitVec.ofNat 32 (cntOf x e.val) := cntOf_word x e

theorem expert_le (n : Fin 36864) : expertOf (cntOf x) (n.val / 256) < 16 := Nat.lt_succ_of_le (expertOf_le _ _)

/-- What the reference makes of a row: its expert's product, or nothing. -/
theorem refT_apply (hc : ∀ e, e < 16 → cntOf x e ≤ 16384) (hn : ends (cntOf x) 15 ≤ 144) (n : Fin 36864) (f : Fin 2048) :
    refT x xs w2 w3 (ix2 n f) = if n.val / 256 < ends (cntOf x) 15 then
      expert (fun d => xs (ix2 n d)) (fun d k => w2 (ix4 (0 : Fin 2) (⟨expertOf (cntOf x) (n.val / 256), expert_le x n⟩ : Fin 16) d k))
        (fun k f => w3 (ix4 (0 : Fin 2) (⟨expertOf (cntOf x) (n.val / 256), expert_le x n⟩ : Fin 16) k f)) f else 0 := by
  have hE : ∀ e, e < 16 → ends (cntOf x) e ≤ 144 := fun e he => (ends_mono _ (by omega)).trans hn
  have hr := roomW_ap hc x (word_of x)
  have hm := mineW_ap hE _ _ hr (stopW_ap _ hr)
  unfold refT
  rw [sumT_apply]
  simp only [keptT_apply, secondT_apply, gatedT_apply, firstT_apply]
  by_cases h : n.val / 256 < ends (cntOf x) 15
  · rw [if_pos h, Finset.sum_eq_single (⟨expertOf (cntOf x) (n.val / 256), expert_le x n⟩ : Fin 16)]
    · rw [select_one ((hm _ _).mpr ⟨h, rfl⟩)]
      rfl
    · intro e _ he
      exact select_not (fun k => he (Fin.ext ((hm _ _).mp k).2.symm)) _ _
    · intro k
      exact absurd (Finset.mem_univ _) k
  · rw [if_neg h]
    exact Finset.sum_eq_zero fun e _ => select_not (fun k => h ((hm _ _).mp k).1) _ _

end Cert.Proof.Moe

end
-- ==== Proof.MoeValue.lean ====
/-
  The experts' result array in terms of the arguments: every point writes its block of the reference's result, and the blocks
  cover the array.
-/
module

public import proofs.«01_k».proof.Proof.MoeRefRow
public import Idealize.ShloMosaic.Lib.Pipeline.Value

@[expose] public section

set_option maxRecDepth 16384

noncomputable section

namespace Cert.Proof.Moe

open Idealize.ShloMosaic Idealize.ShloMosaic.TcCoe
open Idealize.ShloMosaic.Pipeline (Dat Window)
open Cert.ExpertsIdeal Cert.ExpertsIdeal.Gen

variable (m : (ℓ : Loc nD τ sig) → Buf (Elt Ideal) ℓ) (c : Dev nD)

/-- The arrays of rows and of weights. -/
abbrev rows : FVec Ideal ⟨2, ![36864, 2048]⟩ .f32 := m ((c : Thread nD τ).loc main_arg1)
abbrev wts2A : FVec Ideal ⟨4, ![2, 16, 2048, 2048]⟩ .f32 := m ((c : Thread nD τ).loc main_arg2)
abbrev wts3A : FVec Ideal ⟨4, ![2, 16, 1024, 2048]⟩ .f32 := m ((c : Thread nD τ).loc main_arg3)

section Geometry

variable (s : Sched) (t : Fin (cfgM (F := Ideal) s).N)

theorem point_lt : t.val < 144 := lt_of_lt_of_eq t.isLt N_0

/-- An index of a point's input block, in the array of rows. -/
theorem emb0 (r : Fin 256) (d : Fin 2048) (n : Fin 36864) (hn : n.val = min t.val (s.n - 1) * 256 + r.val) :
    (((cfgM (F := Ideal) s).win 0).blk t).view.emb (ix2 r d) = ix2 n d := by
  have e := map_eq (F := Ideal) s ((cfgM (F := Ideal) s).grid.coords t)
  have e0 := congrFun e 0
  have e1 := congrFun e 1
  have hco := coord s t
  funext a; apply Fin.ext
  match a with
  | ⟨0, _⟩ =>
    show cc0_transform_0 (F := Ideal) inb_S1_S1_0 numel1_S1 (tbl s) ((cfgM (F := Ideal) s).grid.coords t) 0 * 256 + 1 * r.val = n.val
    rw [e0]
    show min ((cfgM (F := Ideal) s).grid.coords t 0).val (s.n - 1) * 256 + 1 * r.val = n.val
    rw [hco]; omega
  | ⟨1, _⟩ =>
    show cc0_transform_0 (F := Ideal) inb_S1_S1_0 numel1_S1 (tbl s) ((cfgM (F := Ideal) s).grid.coords t) 1 * 2048 + 1 * d.val = d.val
    rw [e1]
    show 0 * 2048 + 1 * d.val = d.val
    omega

theorem map1 : ∀ t : Fin grid0.N, cc0_transform_3 (grid0.coords t) (0 : Fin 2) = t.val ∧ cc0_transform_3 (grid0.coords t) (1 : Fin 2) = 0 := by
  decide +kernel

/-- An index of a point's output block, in the result. -/
theorem emb1 (r : Fin 256) (f : Fin 2048) (n : Fin 36864) (hn : n.val = t.val * 256 + r.val) :
    (((cfgM (F := Ideal) s).win 1).blk t).view.emb (ix2 r f) = ix2 n f := by
  obtain ⟨e0, e1⟩ := map1 t
  funext a; apply Fin.ext
  match a with
  | ⟨0, _⟩ =>
    show cc0_transform_3 (grid0.coords t) (0 : Fin 2) * 256 + 1 * r.val = n.val
    omega
  | ⟨1, _⟩ =>
    show cc0_transform_3 (grid0.coords t) (1 : Fin 2) * 2048 + 1 * f.val = f.val
    omega

theorem flush_all : ∀ t : Fin grid0.N, Window.flushOf grid0 true cc0_transform_3 t = true := by decide +kernel

/-- Every point writes its output block back. -/
theorem flush1 : ((cfgM (F := Ideal) s).win 1).flush t = true := (Window.flush_eq_flushOf _ t).trans (flush_all t)

/-- Every index of the result is in some point's block. -/
theorem covered (i : S36864x2048.Idx) : ∃ t : Fin (cfgM (F := Ideal) s).N, ((cfgM (F := Ideal) s).win 1).flush t = true
    ∧ i ∈ (((cfgM (F := Ideal) s).win 1).blk t).view.set := by
  obtain ⟨n, f, rfl⟩ : ∃ (n : Fin 36864) (f : Fin 2048), i = ix2 n f := ⟨i 0, i 1, (ix2_eta i).symm⟩
  have hN : (cfgM (F := Ideal) s).N = 144 := N_0
  refine ⟨⟨n.val / 256, by omega⟩, flush1 s _, ?_⟩
  have e := emb1 s ⟨n.val / 256, by omega⟩ ⟨n.val % 256, by omega⟩ f n (by dsimp only; omega)
  rw [← e]
  exact View.emb_mem_set _ _

end Geometry

variable (h : Routed m)

/-- The array that the blocks make up. -/
abbrev goal : FVec Ideal ⟨2, ![36864, 2048]⟩ .f32 := refT (arg0 m c) (rows m c) (wts2A m c) (wts3A m c)

/-- A point writes back its block of the reference's result. -/
theorem flushed_eq (t : Fin (cfgM (F := Ideal) (sch m h)).N) :
    (dats m (sch m h) 0 c).flushed 1 t = (((cfgM (F := Ideal) (sch m h)).win 1).blk t).view.read (Elt Ideal) (goal m c) := by
  have ht := point_lt (sch m h) t
  obtain rfl : c = 0 := Subsingleton.elim (α := Fin 1) c 0
  show ((cfgM (F := Ideal) (sch m h)).win 1).cut (grid0.coords t) ((dats m (sch m h) 0 0).after 1 t) = _
  rw [after1]
  funext j
  obtain ⟨r, f, rfl⟩ : ∃ (r : Fin 256) (f : Fin 2048), j = ix2 r f :=
    ⟨(show S256x2048.Idx from j) 0, (show S256x2048.Idx from j) 1, (ix2_eta (show S256x2048.Idx from j)).symm⟩
  have e : (((cfgM (F := Ideal) (sch m h)).win 1).blk t).view.read (Elt Ideal) (goal m 0) (ix2 r f)
      = goal m 0 (ix2 (⟨t.val * 256 + r.val, by omega⟩ : Fin 36864) f) :=
    congrArg (goal m 0) (emb1 (sch m h) t r f _ rfl)
  refine Eq.trans ?_ ((refT_apply (arg0 m 0) (rows m 0) (wts2A m 0) (wts3A m 0) h.le h.ends _ f).symm.trans e.symm)
  have hd : (t.val * 256 + r.val) / 256 = t.val := by omega
  show outBlk (sch m h) 0 (V m 0 main_arg2) (V m 0 main_arg3) t.val (iblk m (sch m h) 0 t) (ix2 r f) = _
  unfold outBlk
  have hn : (sch m h).n = ends (cntOf (arg0 m 0)) 15 := rfl
  by_cases hl : t.val < ends (cntOf (arg0 m 0)) 15
  · rw [if_pos (hn ▸ hl), if_pos (by dsimp only; rw [hd]; exact hl), pay3_apply]
    have hx : ∀ d, iblk m (sch m h) 0 t (ix2 r d) = rows m 0 (ix2 (⟨t.val * 256 + r.val, by omega⟩ : Fin 36864) d) := fun d =>
      (congrArg (V m 0 main_arg1) (emb0 (sch m h) t r d _ (by dsimp only; rw [hn]; omega))).trans (congrFun (V_arg1 m 0) _)
    have he : expertOf (cntOf (arg0 m 0)) t.val < 16 := Nat.lt_succ_of_le (expertOf_le _ _)
    have hi : (⟨expertOf (cntOf (arg0 m 0)) ((t.val * 256 + r.val) / 256), expert_le _ ⟨t.val * 256 + r.val, by omega⟩⟩ : Fin 16)
        = ⟨expertOf (cntOf (arg0 m 0)) t.val, he⟩ := Fin.ext (by dsimp only; rw [hd])
    have hg : ∀ d k, gu 0 (V m 0 main_arg2) ((sch m h).te t.val) (ix2 d k) = wts2A m 0 (ix4 (0 : Fin 2) (⟨expertOf (cntOf (arg0 m 0)) t.val, he⟩ : Fin 16) d k) :=
      fun d k => (gu_apply 0 _ _ he d k).trans (congrFun (V_arg2 m 0) _)
    have hw : ∀ k f, dn 0 (V m 0 main_arg3) ((sch m h).te t.val) (ix2 k f) = wts3A m 0 (ix4 (0 : Fin 2) (⟨expertOf (cntOf (arg0 m 0)) t.val, he⟩ : Fin 16) k f) :=
      fun k f => (dn_apply 0 _ _ he k f).trans (congrFun (V_arg3 m 0) _)
    simp only [hx, hg, hw]
    rw [hi]
  · rw [if_neg (hn ▸ hl), if_neg (by dsimp only; rw [hd]; exact hl)]
    show k0_pay4 (F := Ideal) (ix2 r f) = (0 : EReal)
    unfold k0_pay4
    pointwise

/-- The kernel's result array is the reference's result. -/
theorem final : (dats m (sch m h) 0 c).arrAt 1 (cfgM (F := Ideal) (sch m h)).N = goal m c :=
  (dats m (sch m h) 0 c).arrAt_eq_of_cover 1 (goal m c) (fun t _ => flushed_eq m c h t) (covered (sch m h))

end Cert.Proof.Moe

end
-- ==== Proof.MoeClaims.lean ====
/-
  The claims of the experts' call: the frames, and the value — the kernel's result array is the reference's where the counts
  are those of a routing.
-/
module

public import proofs.«01_k».proof.Proof.MoeValue
public import proofs.«01_k».proof.Proof.Gen.Experts
public import Idealize.ShloMosaic.Lib.Quiescent

@[expose] public section

noncomputable section

namespace Cert.Proof.Moe

open Idealize.ShloMosaic Idealize.SL.Sem

theorem frame_pi : Cert.quiescent_ExpertsIdeal := fun m ρ h =>
  (θ_run Cert.ExpertsIdeal.defs _ _).mono (fun _ h => ⟨fun c => (h.1 c).2, h.2⟩) (run_value (F := Ideal) m ρ h)

/-- The two printed programs of the call have one text: the calls they make are the same. -/
theorem defs_eq {F : FTy → Type} [FloatOps F] : Cert.Experts.defs (F := F) = Cert.ExpertsIdeal.defs (F := F) := by chain_rfl

/-- Their `main`s are the same. -/
theorem main_eq {F : FTy → Type} [FloatOps F] (c : Dev Cert.Experts.nD) :
    Cert.Experts.main (F := F) c = Cert.ExpertsIdeal.main (F := F) c := by chain_rfl

/-- At machine arithmetic too the program ends, its arguments unchanged: the run is the other program's, at that arithmetic. -/
theorem frame_p : Cert.quiescent_Experts := by
  intro m ρ h
  rw [defs_eq, show Cert.Experts.main (F := Bits) = Cert.ExpertsIdeal.main (F := Bits) from funext main_eq]
  exact (θ_run Cert.ExpertsIdeal.defs _ _).mono (fun _ h => ⟨fun c => (h.1 c).2, h.2⟩) (run_value (F := Bits) m ρ h)

theorem frame_ri : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- The kernel's result is the reference's. -/
theorem algebraic : Cert.algebraic_ExpertsIdeal_ExpertsRefIdeal := by
  intro m ρ m' ρ' hpre hagree
  refine ⟨fun c => goal m c, (θ_run _ _ _).mono (fun r h c => ⟨(h.1 c).1.trans (final m c hpre), (h.1 c).2⟩) (run_value (F := Ideal) m ρ hpre),
    (θ_run _ _ _).mono (fun r h c => ⟨?_, (h c).2⟩) (Cert.ExpertsRefIdeal.Value.run (F := Ideal) m' ρ')⟩
  obtain ⟨h0, h1, h2, h3⟩ := hagree c
  refine (h c).1.trans ((ref_eq m' c).trans ?_)
  show refT _ _ _ _ = refT (m (c.tc.loc Cert.ExpertsIdeal.main_arg0)) (m (c.tc.loc Cert.ExpertsIdeal.main_arg1)) (m (c.tc.loc Cert.ExpertsIdeal.main_arg2)) (m (c.tc.loc Cert.ExpertsIdeal.main_arg3))
  rw [← h0, ← h1, ← h2, ← h3]

end Cert.Proof.Moe

end
-- ==== Proof.ShiftRow.lean ====
/-
  A row block of the token shift's kernel at an index: the product of the shifted row with the weights.
-/
module

public import proofs.«01_k».proof.Proof.MoeClaims
public import proofs.«01_k».proof.Proof.Gen.ShiftIdeal.Value
public import Idealize.ShloMosaic.Lib.WordCmp
public import Idealize.ShloMosaic.Lib.IdealHost
public import Idealize.ShloMosaic.Lib.Pointwise

@[expose] public section

set_option maxRecDepth 16384

noncomputable section

namespace Cert.Proof.Shift

open Idealize.ShloMosaic
open Idealize.ShloMosaic.TcCoe
open Cert.ShiftIdeal Cert.ShiftIdeal.Gen

/-- A number of a row, moved towards the row before it. -/
def mix (x p u : EReal) : EReal := x + (p - x) * u

/-- Whether a block is the first of its sequence, as the body computes it. -/
def firstW (a : BitVec 32) : BitVec 1 :=
  Scalar.cmpi .eq (Scalar.select (Scalar.andi (Scalar.xori (Scalar.cmpi .slt (Scalar.remsi a (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi a (Scalar.select (Scalar.cmpi .eq 4#32 0#32) 1#32 4#32)) 0#32))
    (Scalar.addi (Scalar.remsi a (Scalar.select (Scalar.cmpi .eq 4#32 0#32) 1#32 4#32)) (Scalar.select (Scalar.cmpi .eq 4#32 0#32) 1#32 4#32))
    (Scalar.remsi a (Scalar.select (Scalar.cmpi .eq 4#32 0#32) 1#32 4#32))) 0#32

theorem firstW_eq : ∀ a : Fin 16, firstW (BitVec.ofNat 32 a.val) = if a.val % 4 = 0 then 1#1 else 0#1 := by decide +kernel

/-- The row before row `r` of a block. -/
def before (z : BitVec 1) (v : FVec Ideal S1024x2048 .f32) (p : FVec Ideal S1x2048 .f32) (r : Fin 1024) (d : Fin 2048) : EReal :=
  if r.val = 0 then Scalar.select z 0 (p (ix2 (0 : Fin 1) d)) else v (ix2 (⟨r.val - 1, by omega⟩ : Fin 1024) d)

theorem select_zero (r : Fin 1024) (x y : EReal) :
    Scalar.select (IntOp.cmpi CmpIPredicate.eq (BitVec.ofNat 32 r.val) 0#32) x y = if r.val = 0 then x else y := by
  have e : IntOp.cmpi CmpIPredicate.eq (BitVec.ofNat 32 r.val) 0#32 = BitVec.ofBool (decide (r.val = 0)) :=
    WordCmp.cmpi_eq_ofNat (b := 0) (by omega) (by omega)
  rw [e]
  by_cases g : r.val = 0 <;> simp [g, Scalar.select]

/-- The block of a point at an index. -/
theorem pay2_apply (i : grid0.Coords) (v : FVec Ideal S1024x2048 .f32) (p : FVec Ideal S1x2048 .f32) (u : FVec Ideal S1x1x2048 .f32)
    (w : FVec Ideal S1x2048x2048 .bf16) (r : Fin 1024) (f : Fin 2048) :
    k0_pay2 (F := Ideal) i v p u w (ix2 r f) = ∑ d, mix (v (ix2 r d)) (before (firstW (BitVec.ofNat 32 (i 0).val)) v p r d) (u (ix3 (0 : Fin 1) (0 : Fin 1) d))
      * w (ix3 (0 : Fin 1) d f) := by
  unfold mix before k0_pay2
  pointwise
  refine Finset.sum_congr rfl fun d _ => ?_
  refine congrArg (fun q => (v (ix2 r d) + (q - v (ix2 r d)) * u (ix3 (0 : Fin 1) (0 : Fin 1) d)) * w (ix3 (0 : Fin 1) d f)) ?_
  refine (select_zero r _ _).trans ?_
  by_cases g : r.val = 0
  · exact (if_pos g).trans (if_pos g).symm
  · refine (if_neg g).trans (Eq.trans ?_ (if_neg g).symm)
    exact congrArg (fun k => v (ix2 k d)) (Fin.ext (by dsimp only; omega))

/-- The block as it is stored. -/
theorem pay1_apply (y : FVec Ideal S1024x2048 .bf16) (r : Fin 1024) (f : Fin 2048) : k0_pay1 (F := Ideal) y (ix3 (0 : Fin 1) r f) = y (ix2 r f) := by
  unfold k0_pay1
  pointwise

end Cert.Proof.Shift

end
-- ==== Proof.ShiftRef.lean ====
/-
  The token shift's reference at an index.
-/
module

public import proofs.«01_k».proof.Proof.ShiftRow
public import proofs.«01_k».proof.Proof.Gen.ShiftRefIdeal.Run

@[expose] public section

set_option maxRecDepth 16384

noncomputable section

namespace Cert.Proof.Shift

open Idealize.ShloMosaic Idealize.SL.Sem
open Idealize.ShloMosaic.TcCoe
open Cert.ShiftRefIdeal Cert.ShiftRefIdeal.Gen

/-- The rows of a sequence, each the one before it. -/
def prevT (x : FVec Ideal S4x4096x2048 .f32) : FVec Ideal S4x4096x2048 .f32 :=
  extractStridedSlice S4x4096x2048 ![0, 0, 0] (pad S4x4097x2048 ![0, 1, 0] ![0, 0, 0] ![0, 0, 0] x (sitofp .f32 (constantI S_ 32 0#32))
    pads_S4x4096x2048_S4x4097x2048_000_100_000 h_S_) slices_S4x4097x2048_S4x4096x2048_0_0_0

/-- The rows moved towards the rows before them. -/
def mixT (x p : FVec Ideal S4x4096x2048 .f32) (u : FVec Ideal S6x2048 .f32) : FVec Ideal S6x4x4096x2048 .f32 :=
  addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 x))
    (mulf (broadcastInDim S6x4x4096x2048 ![0, 1, 2, 3] bcast_S1x4x4096x2048_S6x4x4096x2048_0_1_2_3
        (broadcastInDim S1x4x4096x2048 ![1, 2, 3] bcast_S4x4096x2048_S1x4x4096x2048_1_2_3 (subf p x)))
      (broadcastInDim S6x4x4096x2048 ![0, 1, 2, 3] bcast_S6x1x1x2048_S6x4x4096x2048_0_1_2_3 (broadcastInDim S6x1x1x2048 ![0, 3] bcast_S6x2048_S6x1x1x2048_0_3 u)))

/-- The rows by sequence. -/
def seqT (x : FVec Ideal S16384x2048 .f32) : FVec Ideal S4x4096x2048 .f32 := shapeCast _ x shapeCasts_S16384x2048_S4x4096x2048

/-- The products with the weights. -/
def outT (a : FVec Ideal S6x4x4096x2048 .f32) (w : FVec Ideal S3x2048x2048 .f32) : FVec Ideal S3x16384x2048 .bf16 :=
  truncf .bf16 (shapeCast _ (Host.dotGeneral (F := Ideal) dot_S3x4x4096x2048_S3x2048x2048_S3x4x4096x2048_3_1_12_2_0_0 none
    (extractStridedSlice S3x4x4096x2048 ![0, 0, 0, 0] a slices_S6x4x4096x2048_S3x4x4096x2048_0_0_0_0) w) shapeCasts_S3x4x4096x2048_S3x16384x2048) bitsLt_bf16_f32

/-- The reference's result. -/
def refT (x : FVec Ideal S16384x2048 .f32) (u : FVec Ideal S6x2048 .f32) (w : FVec Ideal S3x2048x2048 .f32) : FVec Ideal S3x16384x2048 .bf16 :=
  outT (mixT (seqT x) (prevT (seqT x)) u) w

theorem prevT_apply (x : FVec Ideal S4x4096x2048 .f32) (b : Fin 4) (t : Fin 4096) (d : Fin 2048) :
    prevT x (ix3 b t d) = if h : t.val = 0 then 0 else x (ix3 b (⟨t.val - 1, by omega⟩ : Fin 4096) d) := by
  unfold prevT
  pointwise
  by_cases g : t.val = 0
  · rw [dif_neg (by omega), dif_pos g]
    exact congrArg (fun z : ℝ => (z : EReal)) (by simp)
  · rw [dif_pos (by omega), dif_neg g]

theorem mixT_apply (x p : FVec Ideal S4x4096x2048 .f32) (u : FVec Ideal S6x2048 .f32) (j : Fin 6) (b : Fin 4) (t : Fin 4096) (d : Fin 2048) :
    mixT x p u (ix4 j b t d) = mix (x (ix3 b t d)) (p (ix3 b t d)) (u (ix2 j d)) := by
  unfold mixT mix
  pointwise

theorem seqT_apply (x : FVec Ideal S16384x2048 .f32) (b : Fin 4) (t : Fin 4096) (d : Fin 2048) :
    seqT x (ix3 b t d) = x (ix2 (⟨b.val * 4096 + t.val, by omega⟩ : Fin 16384) d) := by
  unfold seqT
  pointwise
  trace_state

theorem outT_apply (a : FVec Ideal S6x4x4096x2048 .f32) (w : FVec Ideal S3x2048x2048 .f32) (j : Fin 3) (n : Fin 16384) (f : Fin 2048) :
    outT a w (ix3 j n f) = ∑ d : Fin 2048, a (ix4 (⟨j.val, by omega⟩ : Fin 6) (⟨n.val / 4096, by omega⟩ : Fin 4) (⟨n.val % 4096, by omega⟩ : Fin 4096) d) * w (ix3 j d f) := by
  unfold outT
  pointwise
  trace_state

/-- The row before row `n`, none before the first of a sequence. -/
def prevRow (x : FVec Ideal S16384x2048 .f32) (n : Fin 16384) (d : Fin 2048) : EReal :=
  if n.val % 4096 = 0 then 0 else x (ix2 (⟨n.val - 1, by omega⟩ : Fin 16384) d)

/-- A result of the reference. -/
theorem refT_apply (x : FVec Ideal S16384x2048 .f32) (u : FVec Ideal S6x2048 .f32) (w : FVec Ideal S3x2048x2048 .f32) (j : Fin 3) (n : Fin 16384) (f : Fin 2048) :
    refT x u w (ix3 j n f) = ∑ d : Fin 2048, mix (x (ix2 n d)) (prevRow x n d) (u (ix2 (⟨j.val, by omega⟩ : Fin 6) d)) * w (ix3 j d f) := by
  unfold refT prevRow
  rw [outT_apply]
  refine Finset.sum_congr rfl fun d _ => ?_
  rw [mixT_apply, prevT_apply, seqT_apply]
  have e : (⟨(⟨n.val / 4096, by omega⟩ : Fin 4).val * 4096 + (⟨n.val % 4096, by omega⟩ : Fin 4096).val, by dsimp only; omega⟩ : Fin 16384) = n :=
    Fin.ext (by dsimp only; omega)
  rw [e]
  by_cases g : n.val % 4096 = 0
  · rw [dif_pos g, if_pos g]
  · rw [dif_neg g, if_neg g, seqT_apply]
    congr 5
    dsimp only
    omega

/-- The reference's run leaves that result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ShiftRefIdeal.Value.run (F := Ideal) m ρ

end Cert.Proof.Shift

end
-- ==== Proof.ShiftValue.lean ====
/-
  The token shift's result array in terms of the arguments: every point writes its block of the reference's result, and the
  blocks cover the array.
-/
module

public import proofs.«01_k».proof.Proof.ShiftRef
public import Idealize.ShloMosaic.Lib.Pipeline.Value
public import Idealize.ShloMosaic.Lib.Pipeline.ValueKit.Basic
public import Idealize.ShloMosaic.Lib.StableHlo.ReadAt

@[expose] public section

set_option maxRecDepth 16384

noncomputable section

namespace Cert.Proof.Shift

open Idealize.ShloMosaic Idealize.ShloMosaic.TcCoe Cert.ShiftIdeal Cert.ShiftIdeal.Gen Cert.ShiftIdeal.Value
open Idealize.ShloMosaic.Pipeline (Dat)

/-- The coordinates of a grid point: its block of rows, and which of the three products. -/
abbrev gi (t : Fin cfg0.N) : ℕ := (grid0.coords t 0).val
abbrev gj (t : Fin cfg0.N) : ℕ := (grid0.coords t 1).val

theorem coords_lt : ∀ t : Fin cfg0.N, gi t < 16 ∧ gj t < 3 := (by decide +kernel : ∀ t : Fin grid0.N, _)

theorem idx0 : ∀ t : Fin cfg0.N, win0_0.index t (0 : Fin 2) = gi t ∧ win0_0.index t (1 : Fin 2) = 0 := (by decide +kernel : ∀ t : Fin grid0.N, _)
theorem idx1 : ∀ t : Fin cfg0.N, win0_1.index t (0 : Fin 2) = gi t * 128 - 1 ∧ win0_1.index t (1 : Fin 2) = 0 := (by decide +kernel : ∀ t : Fin grid0.N, _)
theorem idx2 : ∀ t : Fin cfg0.N, win0_2.index t (0 : Fin 3) = gj t ∧ win0_2.index t (1 : Fin 3) = 0 ∧ win0_2.index t (2 : Fin 3) = 0 :=
  (by decide +kernel : ∀ t : Fin grid0.N, _)
theorem idx3 : ∀ t : Fin cfg0.N, win0_3.index t (0 : Fin 3) = gj t ∧ win0_3.index t (1 : Fin 3) = 0 ∧ win0_3.index t (2 : Fin 3) = 0 :=
  (by decide +kernel : ∀ t : Fin grid0.N, _)
theorem idx4 : ∀ t : Fin cfg0.N, win0_4.index t (0 : Fin 3) = gj t ∧ win0_4.index t (1 : Fin 3) = gi t ∧ win0_4.index t (2 : Fin 3) = 0 :=
  (by decide +kernel : ∀ t : Fin grid0.N, _)

/-- Every block of the result is some point's. -/
theorem point_of : ∀ (j : Fin 3) (b : Fin 16), ∃ t : Fin cfg0.N, gj t = j.val ∧ gi t = b.val :=
  (by decide +kernel : ∀ (j : Fin 3) (b : Fin 16), ∃ t : Fin grid0.N, _)

theorem flush_all : ∀ t : Fin cfg0.N, (cfg0.win 4).flush t = true := fun t =>
  (Pipeline.Window.flush_eq_flushOf _ t).trans ((by decide +kernel : ∀ t : Fin grid0.N, Pipeline.Window.flushOf grid0 true cc0_transform_4 t = true) t)

variable (m : (ℓ : Loc nD τ sig) → Buf (Elt Ideal) ℓ) (c : Dev nD) (t : Fin cfg0.N)

/-- An index of a block, in its array. -/
theorem emb0 (r : Fin 1024) (d : Fin 2048) (n : Fin 16384) (hn : n.val = gi t * 1024 + r.val) : ((cfg0.win 0).blk t).view.emb (ix2 r d) = ix2 n d := by
  obtain ⟨e0, e1⟩ := idx0 t
  funext a; apply Fin.ext
  match a with
  | ⟨0, _⟩ => show win0_0.index t (0 : Fin 2) * 1024 + 1 * r.val = n.val; omega
  | ⟨1, _⟩ => show win0_0.index t (1 : Fin 2) * 2048 + 1 * d.val = d.val; omega

theorem emb1 (r : Fin 8) (d : Fin 2048) (n : Fin 16384) (hn : n.val = (gi t * 128 - 1) * 8 + r.val) : ((cfg0.win 1).blk t).view.emb (ix2 r d) = ix2 n d := by
  obtain ⟨e0, e1⟩ := idx1 t
  funext a; apply Fin.ext
  match a with
  | ⟨0, _⟩ => show win0_1.index t (0 : Fin 2) * 8 + 1 * r.val = n.val; omega
  | ⟨1, _⟩ => show win0_1.index t (1 : Fin 2) * 2048 + 1 * d.val = d.val; omega

theorem emb2 (d : Fin 2048) (j : Fin 3) (hj : j.val = gj t) : ((cfg0.win 2).blk t).view.emb (ix3 (0 : Fin 1) (0 : Fin 1) d) = ix3 j (0 : Fin 1) d := by
  obtain ⟨e0, e1, e2⟩ := idx2 t
  funext a; apply Fin.ext
  match a with
  | ⟨0, _⟩ => show win0_2.index t (0 : Fin 3) * 1 + 1 * 0 = j.val; omega
  | ⟨1, _⟩ => show win0_2.index t (1 : Fin 3) * 1 + 1 * 0 = 0; omega
  | ⟨2, _⟩ => show win0_2.index t (2 : Fin 3) * 2048 + 1 * d.val = d.val; omega

theorem emb3 (d f : Fin 2048) (j : Fin 3) (hj : j.val = gj t) : ((cfg0.win 3).blk t).view.emb (ix3 (0 : Fin 1) d f) = ix3 j d f := by
  obtain ⟨e0, e1, e2⟩ := idx3 t
  funext a; apply Fin.ext
  match a with
  | ⟨0, _⟩ => show win0_3.index t (0 : Fin 3) * 1 + 1 * 0 = j.val; omega
  | ⟨1, _⟩ => show win0_3.index t (1 : Fin 3) * 2048 + 1 * d.val = d.val; omega
  | ⟨2, _⟩ => show win0_3.index t (2 : Fin 3) * 2048 + 1 * f.val = f.val; omega

theorem emb4 (r : Fin 1024) (f : Fin 2048) (j : Fin 3) (n : Fin 16384) (hj : j.val = gj t) (hn : n.val = gi t * 1024 + r.val) :
    ((cfg0.win 4).blk t).view.emb (ix3 (0 : Fin 1) r f) = ix3 j n f := by
  obtain ⟨e0, e1, e2⟩ := idx4 t
  funext a; apply Fin.ext
  match a with
  | ⟨0, _⟩ => show win0_4.index t (0 : Fin 3) * 1 + 1 * 0 = j.val; omega
  | ⟨1, _⟩ => show win0_4.index t (1 : Fin 3) * 1024 + 1 * r.val = n.val; omega
  | ⟨2, _⟩ => show win0_4.index t (2 : Fin 3) * 2048 + 1 * f.val = f.val; omega

/-- The argument arrays. -/
abbrev argX : FVec Ideal ⟨2, ![16384, 2048]⟩ .f32 := m ((c : Thread nD τ).loc main_arg0)
abbrev argU : FVec Ideal ⟨2, ![6, 2048]⟩ .f32 := m ((c : Thread nD τ).loc main_arg1)
abbrev argW : FVec Ideal ⟨3, ![3, 2048, 2048]⟩ .f32 := m ((c : Thread nD τ).loc main_arg2)

/-- What the host operations leave for the windows. -/
theorem v1_apply (j : Fin 3) (d f : Fin 2048) : (show EReal from V m c main_v1 (ix3 j d f)) = argW m c (ix3 j d f) := by
  unfold V
  after_reads_at

theorem v2_apply (j : Fin 3) (d : Fin 2048) : (show EReal from V m c main_v2 (ix3 j (0 : Fin 1) d)) = argU m c (ix2 (⟨j.val, by omega⟩ : Fin 6) d) := by
  unfold V
  after_reads_at

/-- The array that the blocks make up. -/
abbrev goal : FVec Ideal ⟨3, ![3, 16384, 2048]⟩ .bf16 := refT (argX m c) (argU m c) (argW m c)

/-- The last row of the block before is read from the row of eight. -/
theorem ld_last (x : FVec Ideal S8x2048 .f32) (d : Fin 2048) : View.ld (Val := Elt Ideal) (e' := .f32) x r0_1 (ix2 (0 : Fin 1) d) = x (ix2 (7 : Fin 8) d) := by
  refine congrArg x (funext fun a => Fin.ext ?_)
  match a with
  | ⟨0, _⟩ => rfl
  | ⟨1, _⟩ => show 0 + 1 * d.val = d.val; omega

/-- The body's block at an index. -/
theorem out_apply (i : grid0.Coords) (x0 : FVec Ideal S1024x2048 .f32) (x1 : FVec Ideal S8x2048 .f32) (x2 : FVec Ideal S1x1x2048 .f32)
    (x3 : FVec Ideal S1x2048x2048 .bf16) (r : Fin 1024) (f : Fin 2048) :
    out0_4 (F := Ideal) i x0 x1 x2 x3 (ix3 (0 : Fin 1) r f)
      = ∑ d, mix (x0 (ix2 r d)) (before (firstW (BitVec.ofNat 32 (i 0).val)) x0 (View.ld (Val := Elt Ideal) (e' := .f32) x1 r0_1) r d) (x2 (ix3 (0 : Fin 1) (0 : Fin 1) d))
        * x3 (ix3 (0 : Fin 1) d f) := by
  unfold out0_4
  rw [View.canon_cons_unit_lit _ _ _ (by decide),
    show View.ld (Val := Elt Ideal) (e' := .f32) x0 r0_0 = x0 from View.ld_unit_lit (Val := Elt Ideal) (e := .f32) (S := S1024x2048) inb_S1024x2048_S1024x2048_0_0 x0 (by decide),
    show View.ld (Val := Elt Ideal) (e' := .f32) x2 r0_2 = x2 from View.ld_unit_lit (Val := Elt Ideal) (e := .f32) (S := S1x1x2048) inb_S1x1x2048_S1x1x2048_0_0_0 x2 (by decide),
    show View.ld (Val := Elt Ideal) (e' := .bf16) x3 r0_3 = x3 from View.ld_unit_lit (Val := Elt Ideal) (e := .bf16) (S := S1x2048x2048) inb_S1x2048x2048_S1x2048x2048_0_0_0 x3 (by decide)]
  exact (pay1_apply _ r f).trans (pay2_apply i x0 _ x2 x3 r f)

/-- The row before a block's row is the row before it in its sequence. -/
theorem before_eq (r : Fin 1024) (d : Fin 2048) (n : Fin 16384) (hn : n.val = gi t * 1024 + r.val) :
    before (firstW (BitVec.ofNat 32 (gi t))) (iblk m c 0 t) (View.ld (Val := Elt Ideal) (e' := .f32) (iblk m c 1 t) r0_1) r d = prevRow (argX m c) n d := by
  obtain ⟨hi, -⟩ := coords_lt t
  unfold before prevRow
  by_cases g : r.val = 0
  · rw [if_pos g]
    have ef := firstW_eq ⟨gi t, hi⟩
    dsimp only at ef
    rw [ef]
    by_cases g' : gi t % 4 = 0
    · rw [if_pos g', if_pos (by omega)]
      rfl
    · rw [if_neg g', if_neg (by omega)]
      show View.ld (Val := Elt Ideal) (e' := .f32) (iblk m c 1 t) r0_1 (ix2 (0 : Fin 1) d) = _
      refine (ld_last _ d).trans ?_
      exact (congrArg (V m c main_arg0) (emb1 t 7 d ⟨n.val - 1, by omega⟩ (by show n.val - 1 = (gi t * 128 - 1) * 8 + 7; omega))).trans (congrFun (V_main_arg0 m c) _)
  · rw [if_neg g, if_neg (by omega)]
    exact (congrArg (V m c main_arg0) (emb0 t ⟨r.val - 1, by omega⟩ d ⟨n.val - 1, by omega⟩ (by dsimp only; omega))).trans (congrFun (V_main_arg0 m c) _)

/-- A point writes back its block of the reference's result. -/
theorem flushed_eq : (dats m 0 c).flushed 4 t = ((cfg0.win 4).blk t).view.read (Elt Ideal) (goal m c) := by
  rw [flushed4]
  obtain ⟨hi, hj⟩ := coords_lt t
  funext y
  obtain ⟨r, f, rfl⟩ : ∃ (r : Fin 1024) (f : Fin 2048), y = ix3 (0 : Fin 1) r f :=
    ⟨(show S1x1024x2048.Idx from y) 1, (show S1x1024x2048.Idx from y) 2, by
      refine (ix3_eta (show S1x1024x2048.Idx from y)).symm.trans ?_
      exact congrArg (fun a : Fin 1 => ix3 a _ _) (Subsingleton.elim _ _)⟩
  have hn : gi t * 1024 + r.val < 16384 := by omega
  have e : ((cfg0.win 4).blk t).view.read (Elt Ideal) (goal m c) (ix3 (0 : Fin 1) r f) = goal m c (ix3 (⟨gj t, hj⟩ : Fin 3) (⟨gi t * 1024 + r.val, hn⟩ : Fin 16384) f) :=
    congrArg (goal m c) (emb4 t r f _ _ rfl rfl)
  refine Eq.trans ?_ ((refT_apply (argX m c) (argU m c) (argW m c) ⟨gj t, hj⟩ ⟨gi t * 1024 + r.val, hn⟩ f).symm.trans e.symm)
  refine (out_apply (grid0.coords t) (iblk m c 0 t) (iblk m c 1 t) (iblk m c 2 t) (iblk m c 3 t) r f).trans (Finset.sum_congr rfl fun d _ => ?_)
  have h0 : iblk m c 0 t (ix2 r d) = argX m c (ix2 (⟨gi t * 1024 + r.val, hn⟩ : Fin 16384) d) :=
    (congrArg (V m c main_arg0) (emb0 t r d _ rfl)).trans (congrFun (V_main_arg0 m c) _)
  have h2 : iblk m c 2 t (ix3 (0 : Fin 1) (0 : Fin 1) d) = argU m c (ix2 (⟨gj t, by omega⟩ : Fin 6) d) :=
    (congrArg (V m c main_v2) (emb2 t d ⟨gj t, hj⟩ rfl)).trans (v2_apply m c _ d)
  have h3 : iblk m c 3 t (ix3 (0 : Fin 1) d f) = argW m c (ix3 (⟨gj t, hj⟩ : Fin 3) d f) :=
    (congrArg (V m c main_v1) (emb3 t d f ⟨gj t, hj⟩ rfl)).trans (v1_apply m c _ d f)
  rw [h0, h2, h3]
  exact congrArg (fun q => mix _ q _ * _) (before_eq m c t r d ⟨gi t * 1024 + r.val, hn⟩ rfl)

/-- Every index of the result array is in some point's block. -/
theorem covered (i : S3x16384x2048.Idx) : ∃ t : Fin cfg0.N, (cfg0.win 4).flush t = true ∧ i ∈ ((cfg0.win 4).blk t).view.set := by
  obtain ⟨j, n, f, rfl⟩ : ∃ (j : Fin 3) (n : Fin 16384) (f : Fin 2048), i = ix3 j n f := ⟨i 0, i 1, i 2, (ix3_eta i).symm⟩
  obtain ⟨t, h0, h1⟩ := point_of j ⟨n.val / 1024, by omega⟩
  refine ⟨t, flush_all t, ?_⟩
  have e := emb4 t ⟨n.val % 1024, by omega⟩ f j n h0.symm (by dsimp only at *; omega)
  rw [← e]
  exact View.emb_mem_set _ _

/-- The kernel's result array is the reference's result. -/
theorem final : (dats m 0 c).arrAt 4 cfg0.N = goal m c :=
  (dats m 0 c).arrAt_eq_of_cover 4 (goal m c) (fun t _ => flushed_eq m c t) covered

end Cert.Proof.Shift

end
-- ==== Proof.ShiftClaims.lean ====
/-
  The claims of the token shift's call: the frames, and the value — the kernel's result array is the reference's.
-/
module

public import proofs.«01_k».proof.Proof.ShiftValue
public import proofs.«01_k».proof.Proof.Gen.Shift
public import Idealize.ShloMosaic.Lib.Quiescent

@[expose] public section

noncomputable section

namespace Cert.Proof.Shift

open Idealize.ShloMosaic Idealize.SL.Sem

theorem frame_pi : Cert.quiescent_ShiftIdeal := fun m ρ _ => Cert.ShiftIdeal.Gen.frame m ρ

/-- The two printed programs of the call have one text: the calls they make are the same. -/
theorem defs_eq {F : FTy → Type} [FloatOps F] : Cert.Shift.defs (F := F) = Cert.ShiftIdeal.defs (F := F) := by chain_rfl

/-- Their `main`s are the same. -/
theorem main_eq {F : FTy → Type} [FloatOps F] (c : Dev Cert.Shift.nD) : Cert.Shift.main (F := F) c = Cert.ShiftIdeal.main (F := F) c := by chain_rfl

/-- At machine arithmetic too the program ends, its arguments unchanged: the run is the other program's, at that arithmetic. -/
theorem frame_p : Cert.quiescent_Shift := by
  intro m ρ _
  rw [defs_eq, show Cert.Shift.main (F := Bits) = Cert.ShiftIdeal.main (F := Bits) from funext main_eq]
  exact Cert.ShiftIdeal.Gen.frame (F := Bits) m ρ

theorem frame_ri : Cert.quiescent_ShiftRefIdeal := fun m ρ _ =>
  (θ_run Cert.ShiftRefIdeal.defs _ _).mono (fun r h => ⟨fun c => (h c).2, Idealize.ShloMosaic.sem_eq_zero_of_no_sems (by decide) r.2⟩)
    (Cert.ShiftRefIdeal.Value.run (F := Ideal) m ρ)

/-- The kernel's result is the reference's. -/
theorem algebraic : Cert.algebraic_ShiftIdeal_ShiftRefIdeal := by
  intro m ρ m' ρ' _ hagree
  refine ⟨fun c => goal m c, (θ_run _ _ _).mono (fun r h c => ⟨(h c).1.trans (final m c), (h c).2⟩) (Cert.ShiftIdeal.Value.run_blocks (F := Ideal) m ρ),
    (θ_run _ _ _).mono (fun r h c => ⟨?_, (h c).2⟩) (ref_run m' ρ')⟩
  obtain ⟨h0, h1, h2⟩ := hagree c
  refine (h c).1.trans ?_
  show refT _ _ _ = refT (m (c.tc.loc Cert.ShiftIdeal.main_arg0)) (m (c.tc.loc Cert.ShiftIdeal.main_arg1)) (m (c.tc.loc Cert.ShiftIdeal.main_arg2))
  rw [← h0, ← h1, ← h2]

end Cert.Proof.Shift

end
-- ==== Proof.lean ====
/- The proof of the certificate's claims, assembled. -/
module

public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal.Run
public import proofs.«01_k».proof.Proof.Gen.Shift
public import proofs.«01_k».proof.Proof.Gen.ShiftIdeal.Value
public import proofs.«01_k».proof.Proof.Gen.ShiftRefIdeal.Run
public import proofs.«01_k».proof.Defs
public import proofs.«01_k».proof.Proof.FoxClaims
public import proofs.«01_k».proof.Proof.MoeClaims
public import proofs.«01_k».proof.Proof.ShiftClaims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsRefIdeal.Gen.facts, Cert.Shift.Gen.facts, Cert.ShiftIdeal.Gen.facts, Cert.ShiftRefIdeal.Gen.facts, Fox.preFacts, Moe.routedFacts,
    FoxClaims.frame_p, FoxClaims.frame_pi, fun m ρ _ => FoxClaims.frame_pi m ρ trivial, FoxClaims.frame_ri,
    fun m ρ _ => FoxClaims.frame_ri m ρ trivial, Moe.frame_p, Moe.frame_pi, Moe.frame_ri, fun m ρ _ => Moe.frame_ri m ρ trivial,
    Shift.frame_p, Shift.frame_pi, Shift.frame_ri,
    FoxClaims.preserves, FoxClaims.algebraic, trivial, Moe.algebraic, trivial, Shift.algebraic⟩

end Cert.Proof

end
